-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderReferenceIdeal (m : (ℓ : Loc Cert.DecoderReferenceIdeal.nD Cert.DecoderReferenceIdeal.τ Cert.DecoderReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4)
      ∧ r.2.mem ((c.tc : Thread Cert.Decoder.nD Cert.Decoder.τ).loc Cert.Decoder.main_arg5) = m ((c.tc : Thread Cert.Decoder.nD Cert.Decoder.τ).loc Cert.Decoder.main_arg5)
      ∧ r.2.mem ((c.tc : Thread Cert.Decoder.nD Cert.Decoder.τ).loc Cert.Decoder.main_arg6) = m ((c.tc : Thread Cert.Decoder.nD Cert.Decoder.τ).loc Cert.Decoder.main_arg6)
      ∧ r.2.mem ((c.tc : Thread Cert.Decoder.nD Cert.Decoder.τ).loc Cert.Decoder.main_arg7) = m ((c.tc : Thread Cert.Decoder.nD Cert.Decoder.τ).loc Cert.Decoder.main_arg7)
      ∧ r.2.mem ((c.tc : Thread Cert.Decoder.nD Cert.Decoder.τ).loc Cert.Decoder.main_arg8) = m ((c.tc : Thread Cert.Decoder.nD Cert.Decoder.τ).loc Cert.Decoder.main_arg8))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
      ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
      ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
      ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
      ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6)
      ∧ r.2.mem ((c.tc : Thread Cert.DecoderReferenceIdeal.nD Cert.DecoderReferenceIdeal.τ).loc Cert.DecoderReferenceIdeal.main_arg7) = m ((c.tc : Thread Cert.DecoderReferenceIdeal.nD Cert.DecoderReferenceIdeal.τ).loc Cert.DecoderReferenceIdeal.main_arg7)
      ∧ r.2.mem ((c.tc : Thread Cert.DecoderReferenceIdeal.nD Cert.DecoderReferenceIdeal.τ).loc Cert.DecoderReferenceIdeal.main_arg8) = m ((c.tc : Thread Cert.DecoderReferenceIdeal.nD Cert.DecoderReferenceIdeal.τ).loc Cert.DecoderReferenceIdeal.main_arg8))
      ∧ r.2.sem = fun _ => 0)

def preserves_Kernel_KernelIdeal : Prop :=
  IdealRules.named_const.Statement Cert.KernelIdeal.κ "loss_scale" .f32 0x37D0FAC7#32 ((5 / 200704 : ℝ) : EReal)

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Decoder_DecoderIdeal : Prop :=
  True

def algebraic_DecoderIdeal_DecoderReferenceIdeal [hDecoderIdeal : Cert.DecoderIdeal.Facts] [hDecoderReferenceIdeal : Cert.DecoderReferenceIdeal.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)
      ∧ m' ((c.tc : Thread Cert.DecoderReferenceIdeal.nD Cert.DecoderReferenceIdeal.τ).loc Cert.DecoderReferenceIdeal.main_arg5) = m ((c.tc : Thread Cert.DecoderIdeal.nD Cert.DecoderIdeal.τ).loc Cert.DecoderIdeal.main_arg5)
      ∧ m' ((c.tc : Thread Cert.DecoderReferenceIdeal.nD Cert.DecoderReferenceIdeal.τ).loc Cert.DecoderReferenceIdeal.main_arg6) = m ((c.tc : Thread Cert.DecoderIdeal.nD Cert.DecoderIdeal.τ).loc Cert.DecoderIdeal.main_arg6)
      ∧ m' ((c.tc : Thread Cert.DecoderReferenceIdeal.nD Cert.DecoderReferenceIdeal.τ).loc Cert.DecoderReferenceIdeal.main_arg7) = m ((c.tc : Thread Cert.DecoderIdeal.nD Cert.DecoderIdeal.τ).loc Cert.DecoderIdeal.main_arg7)
      ∧ m' ((c.tc : Thread Cert.DecoderReferenceIdeal.nD Cert.DecoderReferenceIdeal.τ).loc Cert.DecoderReferenceIdeal.main_arg8) = m ((c.tc : Thread Cert.DecoderIdeal.nD Cert.DecoderIdeal.τ).loc Cert.DecoderIdeal.main_arg8)) →
    ∃ (v0 : (c : Dev Cert.DecoderIdeal.nD) → Buf (Elt Ideal) ((c.tc : Thread Cert.DecoderIdeal.nD Cert.DecoderIdeal.τ).loc Cert.DecoderIdeal.main_v556)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v556) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4)
          ∧ r.2.mem ((c.tc : Thread Cert.DecoderIdeal.nD Cert.DecoderIdeal.τ).loc Cert.DecoderIdeal.main_arg5) = m ((c.tc : Thread Cert.DecoderIdeal.nD Cert.DecoderIdeal.τ).loc Cert.DecoderIdeal.main_arg5)
          ∧ r.2.mem ((c.tc : Thread Cert.DecoderIdeal.nD Cert.DecoderIdeal.τ).loc Cert.DecoderIdeal.main_arg6) = m ((c.tc : Thread Cert.DecoderIdeal.nD Cert.DecoderIdeal.τ).loc Cert.DecoderIdeal.main_arg6)
          ∧ r.2.mem ((c.tc : Thread Cert.DecoderIdeal.nD Cert.DecoderIdeal.τ).loc Cert.DecoderIdeal.main_arg7) = m ((c.tc : Thread Cert.DecoderIdeal.nD Cert.DecoderIdeal.τ).loc Cert.DecoderIdeal.main_arg7)
          ∧ r.2.mem ((c.tc : Thread Cert.DecoderIdeal.nD Cert.DecoderIdeal.τ).loc Cert.DecoderIdeal.main_arg8) = m ((c.tc : Thread Cert.DecoderIdeal.nD Cert.DecoderIdeal.τ).loc Cert.DecoderIdeal.main_arg8))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v112) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4)
          ∧ r.2.mem ((c.tc : Thread Cert.DecoderReferenceIdeal.nD Cert.DecoderReferenceIdeal.τ).loc Cert.DecoderReferenceIdeal.main_arg5) = m' ((c.tc : Thread Cert.DecoderReferenceIdeal.nD Cert.DecoderReferenceIdeal.τ).loc Cert.DecoderReferenceIdeal.main_arg5)
          ∧ r.2.mem ((c.tc : Thread Cert.DecoderReferenceIdeal.nD Cert.DecoderReferenceIdeal.τ).loc Cert.DecoderReferenceIdeal.main_arg6) = m' ((c.tc : Thread Cert.DecoderReferenceIdeal.nD Cert.DecoderReferenceIdeal.τ).loc Cert.DecoderReferenceIdeal.main_arg6)
          ∧ r.2.mem ((c.tc : Thread Cert.DecoderReferenceIdeal.nD Cert.DecoderReferenceIdeal.τ).loc Cert.DecoderReferenceIdeal.main_arg7) = m' ((c.tc : Thread Cert.DecoderReferenceIdeal.nD Cert.DecoderReferenceIdeal.τ).loc Cert.DecoderReferenceIdeal.main_arg7)
          ∧ r.2.mem ((c.tc : Thread Cert.DecoderReferenceIdeal.nD Cert.DecoderReferenceIdeal.τ).loc Cert.DecoderReferenceIdeal.main_arg8) = m' ((c.tc : Thread Cert.DecoderReferenceIdeal.nD Cert.DecoderReferenceIdeal.τ).loc Cert.DecoderReferenceIdeal.main_arg8))

def Claim : Prop :=
  ∃ (hKernel : Cert.Kernel.Facts) (hKernelIdeal : Cert.KernelIdeal.Facts) (hReferenceIdeal : Cert.ReferenceIdeal.Facts) (hDecoder : Cert.Decoder.Facts) (hDecoderIdeal : Cert.DecoderIdeal.Facts) (hDecoderReferenceIdeal : Cert.DecoderReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ quiescent_Decoder (hDecoder := hDecoder)
    ∧ quiescent_DecoderIdeal (hDecoderIdeal := hDecoderIdeal)
    ∧ quiescent_DecoderReferenceIdeal (hDecoderReferenceIdeal := hDecoderReferenceIdeal)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
    ∧ preserves_Decoder_DecoderIdeal
    ∧ algebraic_DecoderIdeal_DecoderReferenceIdeal (hDecoderIdeal := hDecoderIdeal) (hDecoderReferenceIdeal := hDecoderReferenceIdeal)
-- ==== Pre_encoder_finite.lean ====
abbrev S8x224x224 : Shape := ⟨3, ![8, 224, 224]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S128x64x4x4 : Shape := ⟨4, ![128, 64, 4, 4]⟩
abbrev S128 : Shape := ⟨1, ![128]⟩
abbrev S32x128x4x4 : Shape := ⟨4, ![32, 128, 4, 4]⟩
abbrev S512x32 : Shape := ⟨2, ![512, 32]⟩
abbrev S_ : Shape := ⟨0, ![]⟩

class Facts : Prop where
  bcast_S_S8x224x224 : S_.BroadcastsInDim S8x224x224 (![] : Fin 0 → Fin S8x224x224.rank)
  bcast_S_S32x1x4x4 : S_.BroadcastsInDim S32x1x4x4 (![] : Fin 0 → Fin S32x1x4x4.rank)
  bcast_S_S32 : S_.BroadcastsInDim S32 (![] : Fin 0 → Fin S32.rank)
  bcast_S_S64x32x4x4 : S_.BroadcastsInDim S64x32x4x4 (![] : Fin 0 → Fin S64x32x4x4.rank)
  bcast_S_S64 : S_.BroadcastsInDim S64 (![] : Fin 0 → Fin S64.rank)
  bcast_S_S128x64x4x4 : S_.BroadcastsInDim S128x64x4x4 (![] : Fin 0 → Fin S128x64x4x4.rank)
  bcast_S_S128 : S_.BroadcastsInDim S128 (![] : Fin 0 → Fin S128.rank)
  bcast_S_S32x128x4x4 : S_.BroadcastsInDim S32x128x4x4 (![] : Fin 0 → Fin S32x128x4x4.rank)

variable [Facts]

def fn_part1 {F : FTy → Type} [FloatOps F] (main_arg6 : FVec F S128 .f32) (main_arg7 : FVec F S32x128x4x4 .f32) (main_arg8 : FVec F S32 .f32) (main_v2 : IVec S8x224x224 1) (main_v5 : IVec S32x1x4x4 1) (main_v8 : IVec S32 1) (main_v11 : IVec S64x32x4x4 1) (main_v14 : IVec S64 1) (main_v17 : IVec S128x64x4x4 1) : IVec S8x224x224 1 × IVec S32x1x4x4 1 × IVec S32 1 × IVec S64x32x4x4 1 × IVec S64 1 × IVec S128x64x4x4 1 × IVec S128 1 × IVec S32x128x4x4 1 × IVec S32 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S32x128x4x4 .f32 := Host.absf main_arg7
  let main_cst_6 : FVec F S_ .f32 := constant S_ .f32 0x7F800000#32
  let main_v22 : FVec F S32x128x4x4 .f32 := broadcastInDim S32x128x4x4 ![] bcast_S_S32x128x4x4 main_cst_6
  let main_v23 : IVec S32x128x4x4 1 := cmpf .olt main_v21 main_v22
  let main_v24 : FVec F S32 .f32 := Host.absf main_arg8
  let main_cst_7 : FVec F S_ .f32 := constant S_ .f32 0x7F800000#32
  let main_v25 : FVec F S32 .f32 := broadcastInDim S32 ![] bcast_S_S32 main_cst_7
  let main_v26 : IVec S32 1 := cmpf .olt main_v24 main_v25
  (main_v2, main_v5, main_v8, main_v11, main_v14, main_v17, main_v20, main_v23, main_v26)

def fn {F : FTy → Type} [FloatOps F] (main_arg0 : FVec F S8x224x224 .f32) (main_arg1 : FVec F S32x1x4x4 .f32) (main_arg2 : FVec F S32 .f32) (main_arg3 : FVec F S64x32x4x4 .f32) (main_arg4 : FVec F S64 .f32) (main_arg5 : FVec F S128x64x4x4 .f32) (main_arg6 : FVec F S128 .f32) (main_arg7 : FVec F S32x128x4x4 .f32) (main_arg8 : FVec F S32 .f32) (main_arg9 : FVec F S512x32 .f32) : IVec S8x224x224 1 × IVec S32x1x4x4 1 × IVec S32 1 × IVec S64x32x4x4 1 × IVec S64 1 × IVec S128x64x4x4 1 × IVec S128 1 × IVec S32x128x4x4 1 × IVec S32 1 :=
  let main_v0 : FVec F S8x224x224 .f32 := Host.absf main_arg0
  let main_cst : FVec F S_ .f32 := constant S_ .f32 0x7F800000#32
  let main_v1 : FVec F S8x224x224 .f32 := broadcastInDim S8x224x224 ![] bcast_S_S8x224x224 main_cst
  let main_v2 : IVec S8x224x224 1 := cmpf .olt main_v0 main_v1
  let main_v3 : FVec F S32x1x4x4 .f32 := Host.absf main_arg1
  let main_cst_0 : FVec F S_ .f32 := constant S_ .f32 0x7F800000#32
  let main_v4 : FVec F S32x1x4x4 .f32 := broadcastInDim S32x1x4x4 ![] bcast_S_S32x1x4x4 main_cst_0
  let main_v5 : IVec S32x1x4x4 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S64x32x4x4 .f32 := Host.absf main_arg3
  let main_cst_2 : FVec F S_ .f32 := constant S_ .f32 0x7F800000#32
  let main_v10 : FVec F S64x32x4x4 .f32 := broadcastInDim S64x32x4x4 ![] bcast_S_S64x32x4x4 main_cst_2
  let main_v11 : IVec S64x32x4x4 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S128x64x4x4 .f32 := Host.absf main_arg5
  let main_cst_4 : FVec F S_ .f32 := constant S_ .f32 0x7F800000#32
  let main_v16 : FVec F S128x64x4x4 .f32 := broadcastInDim S128x64x4x4 ![] bcast_S_S128x64x4x4 main_cst_4
  let main_v17 : IVec S128x64x4x4 1 := cmpf .olt main_v15 main_v16
  fn_part1 (F := F) main_arg6 main_arg7 main_arg8 main_v2 main_v5 main_v8 main_v11 main_v14 main_v17
-- ==== Kernel.lean ====
abbrev S8x224x224 : Shape := ⟨3, ![8, 224, 224]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S128x64x4x4 : Shape := ⟨4, ![128, 64, 4, 4]⟩
abbrev S128 : Shape := ⟨1, ![128]⟩
abbrev S32x128x4x4 : Shape := ⟨4, ![32, 128, 4, 4]⟩
abbrev S512x32 : Shape := ⟨2, ![512, 32]⟩
abbrev S_ : Shape := ⟨0, ![]⟩
abbrev S8x226x226 : Shape := ⟨3, ![8, 226, 226]⟩
abbrev S8x226x224 : Shape := ⟨3, ![8, 226, 224]⟩
abbrev S8x226x112x2 : Shape := ⟨4, ![8, 226, 112, 2]⟩
abbrev S8x226x112x4 : Shape := ⟨4, ![8, 226, 112, 4]⟩
abbrev S8x224x112x4 : Shape := ⟨4, ![8, 224, 112, 4]⟩
abbrev S8x112x2x112x4 : Shape := ⟨5, ![8, 112, 2, 112, 4]⟩
abbrev S8x112x4x112x4 : Shape := ⟨5, ![8, 112, 4, 112, 4]⟩
abbrev S8x112x112x4x4 : Shape := ⟨5, ![8, 112, 112, 4, 4]⟩
abbrev S100352x16 : Shape := ⟨2, ![100352, 16]⟩
abbrev S4x4x1x32 : Shape := ⟨4, ![4, 4, 1, 32]⟩
abbrev S16x32 : Shape := ⟨2, ![16, 32]⟩
abbrev S1x32 : Shape := ⟨2, ![1, 32]⟩
abbrev S100352x32 : Shape := ⟨2, ![100352, 32]⟩
abbrev S3136x16 : Shape := ⟨2, ![3136, 16]⟩
abbrev S3136x32 : Shape := ⟨2, ![3136, 32]⟩
abbrev S8x112x112x32 : Shape := ⟨4, ![8, 112, 112, 32]⟩
abbrev S8x56x2x56x2x32 : Shape := ⟨6, ![8, 56, 2, 56, 2, 32]⟩
abbrev S8x56x56x2x2x32 : Shape := ⟨6, ![8, 56, 56, 2, 2, 32]⟩
abbrev S8x56x56x128 : Shape := ⟨4, ![8, 56, 56, 128]⟩
abbrev S8x58x58x128 : Shape := ⟨4, ![8, 58, 58, 128]⟩
abbrev S4x4x32x64 : Shape := ⟨4, ![4, 4, 32, 64]⟩
abbrev S512x64 : Shape := ⟨2, ![512, 64]⟩
abbrev S1x64 : Shape := ⟨2, ![1, 64]⟩
abbrev S8x56x56x64 : Shape := ⟨4, ![8, 56, 56, 64]⟩
abbrev S1x58x58x128 : Shape := ⟨4, ![1, 58, 58, 128]⟩
abbrev S1x56x56x64 : Shape := ⟨4, ![1, 56, 56, 64]⟩
abbrev S58x58x128 : Shape := ⟨3, ![58, 58, 128]⟩
abbrev S56x56x32 : Shape := ⟨3, ![56, 56, 32]⟩
abbrev S56x56x512 : Shape := ⟨3, ![56, 56, 512]⟩
abbrev S3136x512 : Shape := ⟨2, ![3136, 512]⟩
abbrev S3136x64 : Shape := ⟨2, ![3136, 64]⟩
abbrev S56x56x64 : Shape := ⟨3, ![56, 56, 64]⟩
abbrev S8x28x2x28x2x64 : Shape := ⟨6, ![8, 28, 2, 28, 2, 64]⟩
abbrev S8x28x28x2x2x64 : Shape := ⟨6, ![8, 28, 28, 2, 2, 64]⟩
abbrev S8x28x28x256 : Shape := ⟨4, ![8, 28, 28, 256]⟩
abbrev S8x30x30x256 : Shape := ⟨4, ![8, 30, 30, 256]⟩
abbrev S4x4x64x128 : Shape := ⟨4, ![4, 4, 64, 128]⟩
abbrev S1024x128 : Shape := ⟨2, ![1024, 128]⟩
abbrev S1x128 : Shape := ⟨2, ![1, 128]⟩
abbrev S8x28x28x128 : Shape := ⟨4, ![8, 28, 28, 128]⟩
abbrev S1x30x30x256 : Shape := ⟨4, ![1, 30, 30, 256]⟩
abbrev S1x28x28x128 : Shape := ⟨4, ![1, 28, 28, 128]⟩
abbrev S30x30x256 : Shape := ⟨3, ![30, 30, 256]⟩
abbrev S28x28x64 : Shape := ⟨3, ![28, 28, 64]⟩
abbrev S28x28x1024 : Shape := ⟨3, ![28, 28, 1024]⟩
abbrev S784x1024 : Shape := ⟨2, ![784, 1024]⟩
abbrev S784x128 : Shape := ⟨2, ![784, 128]⟩
abbrev S28x28x128 : Shape := ⟨3, ![28, 28, 128]⟩
abbrev S8x14x2x14x2x128 : Shape := ⟨6, ![8, 14, 2, 14, 2, 128]⟩
abbrev S8x14x14x2x2x128 : Shape := ⟨6, ![8, 14, 14, 2, 2, 128]⟩
abbrev S8x14x14x512 : Shape := ⟨4, ![8, 14, 14, 512]⟩
abbrev S8x16x16x512 : Shape := ⟨4, ![8, 16, 16, 512]⟩
abbrev S4x4x128x32 : Shape := ⟨4, ![4, 4, 128, 32]⟩
abbrev S2048x32 : Shape := ⟨2, ![2048, 32]⟩
abbrev S8x14x14x32 : Shape := ⟨4, ![8, 14, 14, 32]⟩
abbrev S1x16x16x512 : Shape := ⟨4, ![1, 16, 16, 512]⟩
abbrev S1x14x14x32 : Shape := ⟨4, ![1, 14, 14, 32]⟩
abbrev S16x16x512 : Shape := ⟨3, ![16, 16, 512]⟩
abbrev S14x14x128 : Shape := ⟨3, ![14, 14, 128]⟩
abbrev S14x14x2048 : Shape := ⟨3, ![14, 14, 2048]⟩
abbrev S196x2048 : Shape := ⟨2, ![196, 2048]⟩
abbrev S196x32 : Shape := ⟨2, ![196, 32]⟩
abbrev S14x14x32 : Shape := ⟨3, ![14, 14, 32]⟩
abbrev S1568x32 : Shape := ⟨2, ![1568, 32]⟩
abbrev S512 : Shape := ⟨1, ![512]⟩
abbrev S1x512 : Shape := ⟨2, ![1, 512]⟩
abbrev S1568x1 : Shape := ⟨2, ![1568, 1]⟩
abbrev S1x1 : Shape := ⟨2, ![1, 1]⟩
abbrev S1568x512 : Shape := ⟨2, ![1568, 512]⟩
abbrev S1568 : Shape := ⟨1, ![1568]⟩
abbrev S1 : Shape := ⟨1, ![1]⟩
abbrev S8x14x14 : Shape := ⟨3, ![8, 14, 14]⟩

abbrev nBuf : Space → Nat
  | .hbm => 71
  | .vmem => 30
  | .smem => 0
  | _ => 0

abbrev bufTy : (tb : Table) → Fin (tcTables nBuf tb) → BufTy
  | .hbm, ⟨0, _⟩ => ⟨S8x224x224, .f32⟩
  | .hbm, ⟨1, _⟩ => ⟨S32x1x4x4, .f32⟩
  | .hbm, ⟨2, _⟩ => ⟨S32, .f32⟩
  | .hbm, ⟨3, _⟩ => ⟨S64x32x4x4, .f32⟩
  | .hbm, ⟨4, _⟩ => ⟨S64, .f32⟩
  | .hbm, ⟨5, _⟩ => ⟨S128x64x4x4, .f32⟩
  | .hbm, ⟨6, _⟩ => ⟨S128, .f32⟩
  | .hbm, ⟨7, _⟩ => ⟨S32x128x4x4, .f32⟩
  | .hbm, ⟨8, _⟩ => ⟨S32, .f32⟩
  | .hbm, ⟨9, _⟩ => ⟨S512x32, .f32⟩
  | .hbm, ⟨10, _⟩ => ⟨S_, .i32⟩
  | .hbm, ⟨11, _⟩ => ⟨S_, .f32⟩
  | .hbm, ⟨12, _⟩ => ⟨S8x226x226, .f32⟩
  | .hbm, ⟨13, _⟩ => ⟨S8x226x224, .f32⟩
  | .hbm, ⟨14, _⟩ => ⟨S8x226x112x2, .f32⟩
  | .hbm, ⟨15, _⟩ => ⟨S8x226x224, .f32⟩
  | .hbm, ⟨16, _⟩ => ⟨S8x226x112x2, .f32⟩
  | .hbm, ⟨17, _⟩ => ⟨S8x226x112x4, .f32⟩
  | .hbm, ⟨18, _⟩ => ⟨S8x224x112x4, .f32⟩
  | .hbm, ⟨19, _⟩ => ⟨S8x112x2x112x4, .f32⟩
  | .hbm, ⟨20, _⟩ => ⟨S8x224x112x4, .f32⟩
  | .hbm, ⟨21, _⟩ => ⟨S8x112x2x112x4, .f32⟩
  | .hbm, ⟨22, _⟩ => ⟨S8x112x4x112x4, .f32⟩
  | .hbm, ⟨23, _⟩ => ⟨S8x112x112x4x4, .f32⟩
  | .hbm, ⟨24, _⟩ => ⟨S100352x16, .f32⟩
  | .hbm, ⟨25, _⟩ => ⟨S4x4x1x32, .f32⟩
  | .hbm, ⟨26, _⟩ => ⟨S16x32, .f32⟩
  | .hbm, ⟨27, _⟩ => ⟨S1x32, .f32⟩
  | .hbm, ⟨28, _⟩ => ⟨S100352x32, .f32⟩
  | .hbm, ⟨29, _⟩ => ⟨S8x112x112x32, .f32⟩
  | .hbm, ⟨30, _⟩ => ⟨S8x56x2x56x2x32, .f32⟩
  | .hbm, ⟨31, _⟩ => ⟨S8x56x56x2x2x32, .f32⟩
  | .hbm, ⟨32, _⟩ => ⟨S8x56x56x128, .f32⟩
  | .hbm, ⟨33, _⟩ => ⟨S_, .i32⟩
  | .hbm, ⟨34, _⟩ => ⟨S_, .f32⟩
  | .hbm, ⟨35, _⟩ => ⟨S8x58x58x128, .f32⟩
  | .hbm, ⟨36, _⟩ => ⟨S4x4x32x64, .f32⟩
  | .hbm, ⟨37, _⟩ => ⟨S512x64, .f32⟩
  | .hbm, ⟨38, _⟩ => ⟨S1x64, .f32⟩
  | .hbm, ⟨39, _⟩ => ⟨S8x56x56x64, .f32⟩
  | .hbm, ⟨40, _⟩ => ⟨S8x28x2x28x2x64, .f32⟩
  | .hbm, ⟨41, _⟩ => ⟨S8x28x28x2x2x64, .f32⟩
  | .hbm, ⟨42, _⟩ => ⟨S8x28x28x256, .f32⟩
  | .hbm, ⟨43, _⟩ => ⟨S_, .i32⟩
  | .hbm, ⟨44, _⟩ => ⟨S_, .f32⟩
  | .hbm, ⟨45, _⟩ => ⟨S8x30x30x256, .f32⟩
  | .hbm, ⟨46, _⟩ => ⟨S4x4x64x128, .f32⟩
  | .hbm, ⟨47, _⟩ => ⟨S1024x128, .f32⟩
  | .hbm, ⟨48, _⟩ => ⟨S1x128, .f32⟩
  | .hbm, ⟨49, _⟩ => ⟨S8x28x28x128, .f32⟩
  | .hbm, ⟨50, _⟩ => ⟨S8x14x2x14x2x128, .f32⟩
  | .hbm, ⟨51, _⟩ => ⟨S8x14x14x2x2x128, .f32⟩
  | .hbm, ⟨52, _⟩ => ⟨S8x14x14x512, .f32⟩
  | .hbm, ⟨53, _⟩ => ⟨S_, .i32⟩
  | .hbm, ⟨54, _⟩ => ⟨S_, .f32⟩
  | .hbm, ⟨55, _⟩ => ⟨S8x16x16x512, .f32⟩
  | .hbm, ⟨56, _⟩ => ⟨S4x4x128x32, .f32⟩
  | .hbm, ⟨57, _⟩ => ⟨S2048x32, .f32⟩
  | .hbm, ⟨58, _⟩ => ⟨S1x32, .f32⟩
  | .hbm, ⟨59, _⟩ => ⟨S8x14x14x32, .f32⟩
  | .hbm, ⟨60, _⟩ => ⟨S1568x32, .f32⟩
  | .hbm, ⟨61, _⟩ => ⟨S512x32, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S1568x1, .i32⟩
  | .hbm, ⟨66, _⟩ => ⟨S1568x32, .f32⟩
  | .hbm, ⟨67, _⟩ => ⟨S1x1, .f32⟩
  | .hbm, ⟨68, _⟩ => ⟨S_, .f32⟩
  | .hbm, ⟨69, _⟩ => ⟨S8x14x14, .i32⟩
  | .hbm, ⟨70, _⟩ => ⟨S8x14x14x32, .f32⟩
  | .local _ .vmem, ⟨0, _⟩ => ⟨S3136x16, .f32⟩
  | .local _ .vmem, ⟨1, _⟩ => ⟨S3136x16, .f32⟩
  | .local _ .vmem, ⟨2, _⟩ => ⟨S16x32, .f32⟩
  | .local _ .vmem, ⟨3, _⟩ => ⟨S1x32, .f32⟩
  | .local _ .vmem, ⟨4, _⟩ => ⟨S3136x32, .f32⟩
  | .local _ .vmem, ⟨5, _⟩ => ⟨S3136x32, .f32⟩
  | .local _ .vmem, ⟨6, _⟩ => ⟨S1x58x58x128, .f32⟩
  | .local _ .vmem, ⟨7, _⟩ => ⟨S1x58x58x128, .f32⟩
  | .local _ .vmem, ⟨8, _⟩ => ⟨S512x64, .f32⟩
  | .local _ .vmem, ⟨9, _⟩ => ⟨S1x64, .f32⟩
  | .local _ .vmem, ⟨10, _⟩ => ⟨S1x56x56x64, .f32⟩
  | .local _ .vmem, ⟨11, _⟩ => ⟨S1x56x56x64, .f32⟩
  | .local _ .vmem, ⟨12, _⟩ => ⟨S1x30x30x256, .f32⟩
  | .local _ .vmem, ⟨13, _⟩ => ⟨S1x30x30x256, .f32⟩
  | .local _ .vmem, ⟨14, _⟩ => ⟨S1024x128, .f32⟩
  | .local _ .vmem, ⟨15, _⟩ => ⟨S1x128, .f32⟩
  | .local _ .vmem, ⟨16, _⟩ => ⟨S1x28x28x128, .f32⟩
  | .local _ .vmem, ⟨17, _⟩ => ⟨S1x28x28x128, .f32⟩
  | .local _ .vmem, ⟨18, _⟩ => ⟨S1x16x16x512, .f32⟩
  | .local _ .vmem, ⟨19, _⟩ => ⟨S1x16x16x512, .f32⟩
  | .local _ .vmem, ⟨20, _⟩ => ⟨S2048x32, .f32⟩
  | .local _ .vmem, ⟨21, _⟩ => ⟨S1x32, .f32⟩
  | .local _ .vmem, ⟨22, _⟩ => ⟨S1x14x14x32, .f32⟩
  | .local _ .vmem, ⟨23, _⟩ => ⟨S1x14x14x32, .f32⟩
  | .local _ .vmem, ⟨24, _⟩ => ⟨S1568x32, .f32⟩
  | .local _ .vmem, ⟨25, _⟩ => ⟨S512x32, .f32⟩
  | .local _ .vmem, ⟨26, _⟩ => ⟨S1x512, .f32⟩
  | .local _ .vmem, ⟨27, _⟩ => ⟨S1568x1, .i32⟩
  | .local _ .vmem, ⟨28, _⟩ => ⟨S1568x32, .f32⟩
  | .local _ .vmem, ⟨29, _⟩ => ⟨S1x1, .f32⟩
  | _, _ => ⟨S8x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_call2_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_2 : Ref sig .tc := ⟨.hbm, 53, rfl⟩
abbrev main_call3_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_v46_2 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3136x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3136x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x58x58x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x56x56x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x30x30x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x28x28x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x16x16x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x14x14x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S1568x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S512x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1568x1 .i32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1568x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
-- ==== KernelIdeal.lean ====
variable {F : FTy → Type} [FloatOps F] [Named F]
def κ : String → Option EReal := fun
  | "loss_scale" => some ((5 / 200704 : ℝ) : EReal)
  | _ => none
-- ==== ReferenceIdeal.lean ====
abbrev S8x224x224 : Shape := ⟨3, ![8, 224, 224]⟩
abbrev S32x1x4x4 : Shape := ⟨4, ![32, 1, 4, 4]⟩
abbrev S32 : Shape := ⟨1, ![32]⟩
abbrev S64x32x4x4 : Shape := ⟨4, ![64, 32, 4, 4]⟩
abbrev S64 : Shape := ⟨1, ![64]⟩
abbrev S128x64x4x4 : Shape := ⟨4, ![128, 64, 4, 4]⟩
abbrev S128 : Shape := ⟨1, ![128]⟩
abbrev S32x128x4x4 : Shape := ⟨4, ![32, 128, 4, 4]⟩
abbrev S512x32 : Shape := ⟨2, ![512, 32]⟩
abbrev S8x1x224x224 : Shape := ⟨4, ![8, 1, 224, 224]⟩
abbrev S_ : Shape := ⟨0, ![]⟩
abbrev S8x1x226x226 : Shape := ⟨4, ![8, 1, 226, 226]⟩
abbrev S8x1x112x226 : Shape := ⟨4, ![8, 1, 112, 226]⟩
abbrev S8x1x1x112x226 : Shape := ⟨5, ![8, 1, 1, 112, 226]⟩
abbrev S8x1x4x112x226 : Shape := ⟨5, ![8, 1, 4, 112, 226]⟩
abbrev S8x1x4x112x112 : Shape := ⟨5, ![8, 1, 4, 112, 112]⟩
abbrev S8x1x4x1x112x112 : Shape := ⟨6, ![8, 1, 4, 1, 112, 112]⟩
abbrev S8x1x4x4x112x112 : Shape := ⟨6, ![8, 1, 4, 4, 112, 112]⟩
abbrev S32x8x112x112 : Shape := ⟨4, ![32, 8, 112, 112]⟩
abbrev S8x32x112x112 : Shape := ⟨4, ![8, 32, 112, 112]⟩
abbrev S1x32x1x1 : Shape := ⟨4, ![1, 32, 1, 1]⟩
abbrev S8x32x114x114 : Shape := ⟨4, ![8, 32, 114, 114]⟩
abbrev S8x32x56x114 : Shape := ⟨4, ![8, 32, 56, 114]⟩
abbrev S8x32x1x56x114 : Shape := ⟨5, ![8, 32, 1, 56, 114]⟩
abbrev S8x32x4x56x114 : Shape := ⟨5, ![8, 32, 4, 56, 114]⟩
abbrev S8x32x4x56x56 : Shape := ⟨5, ![8, 32, 4, 56, 56]⟩
abbrev S8x32x4x1x56x56 : Shape := ⟨6, ![8, 32, 4, 1, 56, 56]⟩
abbrev S8x32x4x4x56x56 : Shape := ⟨6, ![8, 32, 4, 4, 56, 56]⟩
abbrev S64x8x56x56 : Shape := ⟨4, ![64, 8, 56, 56]⟩
abbrev S8x64x56x56 : Shape := ⟨4, ![8, 64, 56, 56]⟩
abbrev S1x64x1x1 : Shape := ⟨4, ![1, 64, 1, 1]⟩
abbrev S8x64x58x58 : Shape := ⟨4, ![8, 64, 58, 58]⟩
abbrev S8x64x28x58 : Shape := ⟨4, ![8, 64, 28, 58]⟩
abbrev S8x64x1x28x58 : Shape := ⟨5, ![8, 64, 1, 28, 58]⟩
abbrev S8x64x4x28x58 : Shape := ⟨5, ![8, 64, 4, 28, 58]⟩
abbrev S8x64x4x28x28 : Shape := ⟨5, ![8, 64, 4, 28, 28]⟩
abbrev S8x64x4x1x28x28 : Shape := ⟨6, ![8, 64, 4, 1, 28, 28]⟩
abbrev S8x64x4x4x28x28 : Shape := ⟨6, ![8, 64, 4, 4, 28, 28]⟩
abbrev S128x8x28x28 : Shape := ⟨4, ![128, 8, 28, 28]⟩
abbrev S8x128x28x28 : Shape := ⟨4, ![8, 128, 28, 28]⟩
abbrev S1x128x1x1 : Shape := ⟨4, ![1, 128, 1, 1]⟩
abbrev S8x128x30x30 : Shape := ⟨4, ![8, 128, 30, 30]⟩
abbrev S8x128x14x30 : Shape := ⟨4, ![8, 128, 14, 30]⟩
abbrev S8x128x1x14x30 : Shape := ⟨5, ![8, 128, 1, 14, 30]⟩
abbrev S8x128x4x14x30 : Shape := ⟨5, ![8, 128, 4, 14, 30]⟩
abbrev S8x128x4x14x14 : Shape := ⟨5, ![8, 128, 4, 14, 14]⟩
abbrev S8x128x4x1x14x14 : Shape := ⟨6, ![8, 128, 4, 1, 14, 14]⟩
abbrev S8x128x4x4x14x14 : Shape := ⟨6, ![8, 128, 4, 4, 14, 14]⟩
abbrev S32x8x14x14 : Shape := ⟨4, ![32, 8, 14, 14]⟩
abbrev S8x32x14x14 : Shape := ⟨4, ![8, 32, 14, 14]⟩
abbrev S8x14x14x32 : Shape := ⟨4, ![8, 14, 14, 32]⟩
abbrev S1568x32 : Shape := ⟨2, ![1568, 32]⟩
abbrev S1568 : Shape := ⟨1, ![1568]⟩
abbrev S1568x1 : Shape := ⟨2, ![1568, 1]⟩
abbrev S512 : Shape := ⟨1, ![512]⟩
abbrev S1x512 : Shape := ⟨2, ![1, 512]⟩
abbrev S1568x512 : Shape := ⟨2, ![1568, 512]⟩
abbrev S32x512 : Shape := ⟨2, ![32, 512]⟩
abbrev S8x14x14 : Shape := ⟨3, ![8, 14, 14]⟩

abbrev nBuf : Space → Nat
  | .hbm => 172
  | .vmem => 0
  | .smem => 0
  | _ => 0

abbrev hbmTy0_0 (i : Nat) : BufTy := match i % 128 with
  | 0 => ⟨S8x224x224, .f32⟩
  | 1 => ⟨S32x1x4x4, .f32⟩
  | 2 => ⟨S32, .f32⟩
  | 3 => ⟨S64x32x4x4, .f32⟩
  | 4 => ⟨S64, .f32⟩
  | 5 => ⟨S128x64x4x4, .f32⟩
  | 6 => ⟨S128, .f32⟩
  | 7 => ⟨S32x128x4x4, .f32⟩
  | 8 => ⟨S32, .f32⟩
  | 9 => ⟨S512x32, .f32⟩
  | 10 => ⟨S8x1x224x224, .f32⟩
  | 11 => ⟨S_, .f32⟩
  | 12 => ⟨S8x1x226x226, .f32⟩
  | 13 => ⟨S8x1x112x226, .f32⟩
  | 14 => ⟨S8x1x112x226, .f32⟩
  | 15 => ⟨S8x1x112x226, .f32⟩
  | 16 => ⟨S8x1x112x226, .f32⟩
  | 17 => ⟨S8x1x1x112x226, .f32⟩
  | 18 => ⟨S8x1x1x112x226, .f32⟩
  | 19 => ⟨S8x1x1x112x226, .f32⟩
  | 20 => ⟨S8x1x1x112x226, .f32⟩
  | 21 => ⟨S8x1x4x112x226, .f32⟩
  | 22 => ⟨S8x1x4x112x112, .f32⟩
  | 23 => ⟨S8x1x4x112x112, .f32⟩
  | 24 => ⟨S8x1x4x112x112, .f32⟩
  | 25 => ⟨S8x1x4x112x112, .f32⟩
  | 26 => ⟨S8x1x4x1x112x112, .f32⟩
  | 27 => ⟨S8x1x4x1x112x112, .f32⟩
  | 28 => ⟨S8x1x4x1x112x112, .f32⟩
  | 29 => ⟨S8x1x4x1x112x112, .f32⟩
  | 30 => ⟨S8x1x4x4x112x112, .f32⟩
  | 31 => ⟨S32x8x112x112, .f32⟩
  | 32 => ⟨S8x32x112x112, .f32⟩
  | 33 => ⟨S1x32x1x1, .f32⟩
  | 34 => ⟨S8x32x112x112, .f32⟩
  | 35 => ⟨S8x32x112x112, .f32⟩
  | 36 => ⟨S_, .f32⟩
  | 37 => ⟨S8x32x112x112, .f32⟩
  | 38 => ⟨S8x32x112x112, .f32⟩
  | 39 => ⟨S_, .f32⟩
  | 40 => ⟨S8x32x114x114, .f32⟩
  | 41 => ⟨S8x32x56x114, .f32⟩
  | 42 => ⟨S8x32x56x114, .f32⟩
  | 43 => ⟨S8x32x56x114, .f32⟩
  | 44 => ⟨S8x32x56x114, .f32⟩
  | 45 => ⟨S8x32x1x56x114, .f32⟩
  | 46 => ⟨S8x32x1x56x114, .f32⟩
  | 47 => ⟨S8x32x1x56x114, .f32⟩
  | 48 => ⟨S8x32x1x56x114, .f32⟩
  | 49 => ⟨S8x32x4x56x114, .f32⟩
  | 50 => ⟨S8x32x4x56x56, .f32⟩
  | 51 => ⟨S8x32x4x56x56, .f32⟩
  | 52 => ⟨S8x32x4x56x56, .f32⟩
  | 53 => ⟨S8x32x4x56x56, .f32⟩
  | 54 => ⟨S8x32x4x1x56x56, .f32⟩
  | 55 => ⟨S8x32x4x1x56x56, .f32⟩
  | 56 => ⟨S8x32x4x1x56x56, .f32⟩
  | 57 => ⟨S8x32x4x1x56x56, .f32⟩
  | 58 => ⟨S8x32x4x4x56x56, .f32⟩
  | 59 => ⟨S64x8x56x56, .f32⟩
  | 60 => ⟨S8x64x56x56, .f32⟩
  | 61 => ⟨S1x64x1x1, .f32⟩
  | 62 => ⟨S8x64x56x56, .f32⟩
  | 63 => ⟨S8x64x56x56, .f32⟩
  | 64 => ⟨S_, .f32⟩
  | 65 => ⟨S8x64x56x56, .f32⟩
  | 66 => ⟨S8x64x56x56, .f32⟩
  | 67 => ⟨S_, .f32⟩
  | 68 => ⟨S8x64x58x58, .f32⟩
  | 69 => ⟨S8x64x28x58, .f32⟩
  | 70 => ⟨S8x64x28x58, .f32⟩
  | 71 => ⟨S8x64x28x58, .f32⟩
  | 72 => ⟨S8x64x28x58, .f32⟩
  | 73 => ⟨S8x64x1x28x58, .f32⟩
  | 74 => ⟨S8x64x1x28x58, .f32⟩
  | 75 => ⟨S8x64x1x28x58, .f32⟩
  | 76 => ⟨S8x64x1x28x58, .f32⟩
  | 77 => ⟨S8x64x4x28x58, .f32⟩
  | 78 => ⟨S8x64x4x28x28, .f32⟩
  | 79 => ⟨S8x64x4x28x28, .f32⟩
  | 80 => ⟨S8x64x4x28x28, .f32⟩
  | 81 => ⟨S8x64x4x28x28, .f32⟩
  | 82 => ⟨S8x64x4x1x28x28, .f32⟩
  | 83 => ⟨S8x64x4x1x28x28, .f32⟩
  | 84 => ⟨S8x64x4x1x28x28, .f32⟩
  | 85 => ⟨S8x64x4x1x28x28, .f32⟩
  | 86 => ⟨S8x64x4x4x28x28, .f32⟩
  | 87 => ⟨S128x8x28x28, .f32⟩
  | 88 => ⟨S8x128x28x28, .f32⟩
  | 89 => ⟨S1x128x1x1, .f32⟩
  | 90 => ⟨S8x128x28x28, .f32⟩
  | 91 => ⟨S8x128x28x28, .f32⟩
  | 92 => ⟨S_, .f32⟩
  | 93 => ⟨S8x128x28x28, .f32⟩
  | 94 => ⟨S8x128x28x28, .f32⟩
  | 95 => ⟨S_, .f32⟩
  | 96 => ⟨S8x128x30x30, .f32⟩
  | 97 => ⟨S8x128x14x30, .f32⟩
  | 98 => ⟨S8x128x14x30, .f32⟩
  | 99 => ⟨S8x128x14x30, .f32⟩
  | 100 => ⟨S8x128x14x30, .f32⟩
  | 101 => ⟨S8x128x1x14x30, .f32⟩
  | 102 => ⟨S8x128x1x14x30, .f32⟩
  | 103 => ⟨S8x128x1x14x30, .f32⟩
  | 104 => ⟨S8x128x1x14x30, .f32⟩
  | 105 => ⟨S8x128x4x14x30, .f32⟩
  | 106 => ⟨S8x128x4x14x14, .f32⟩
  | 107 => ⟨S8x128x4x14x14, .f32⟩
  | 108 => ⟨S8x128x4x14x14, .f32⟩
  | 109 => ⟨S8x128x4x14x14, .f32⟩
  | 110 => ⟨S8x128x4x1x14x14, .f32⟩
  | 111 => ⟨S8x128x4x1x14x14, .f32⟩
  | 112 => ⟨S8x128x4x1x14x14, .f32⟩
  | 113 => ⟨S8x128x4x1x14x14, .f32⟩
  | 114 => ⟨S8x128x4x4x14x14, .f32⟩
  | 115 => ⟨S32x8x14x14, .f32⟩
  | 116 => ⟨S8x32x14x14, .f32⟩
  | 117 => ⟨S1x32x1x1, .f32⟩
  | 118 => ⟨S8x32x14x14, .f32⟩
  | 119 => ⟨S8x32x14x14, .f32⟩
  | 120 => ⟨S8x14x14x32, .f32⟩
  | 121 => ⟨S1568x32, .f32⟩
  | 122 => ⟨S1568x32, .f32⟩
  | 123 => ⟨S_, .f32⟩
  | 124 => ⟨S1568, .f32⟩
  | 125 => ⟨S1568x1, .f32⟩
  | 126 => ⟨S512x32, .f32⟩
  | 127 => ⟨S_, .f32⟩
  | _ => ⟨S8x224x224, .f32⟩

abbrev hbmTy0_1 (i : Nat) : BufTy := match i % 128 with
  | 0 => ⟨S512, .f32⟩
  | 1 => ⟨S1x512, .f32⟩
  | 2 => ⟨S1568x512, .f32⟩
  | 3 => ⟨S1568x512, .f32⟩
  | 4 => ⟨S1568x512, .f32⟩
  | 5 => ⟨S32x512, .f32⟩
  | 6 => ⟨S1568x512, .f32⟩
  | 7 => ⟨S_, .f32⟩
  | 8 => ⟨S1568x512, .f32⟩
  | 9 => ⟨S1568x512, .f32⟩
  | 10 => ⟨S1568x512, .f32⟩
  | 11 => ⟨S1568x512, .i32⟩
  | 12 => ⟨S_, .f32⟩
  | 13 => ⟨S_, .i32⟩
  | 14 => ⟨S1568, .f32⟩
  | 15 => ⟨S1568, .i32⟩
  | 16 => ⟨S1568x1, .i32⟩
  | 17 => ⟨S1x512, .i32⟩
  | 18 => ⟨S1568x512, .i32⟩
  | 19 => ⟨S1568x512, .i32⟩
  | 20 => ⟨S1568x512, .i1⟩
  | 21 => ⟨S1568x512, .f32⟩
  | 22 => ⟨S1568x32, .f32⟩
  | 23 => ⟨S8x14x14x32, .f32⟩
  | 24 => ⟨S8x32x14x14, .f32⟩
  | 25 => ⟨S8x32x14x14, .f32⟩
  | 26 => ⟨S8x32x14x14, .f32⟩
  | 27 => ⟨S_, .f32⟩
  | 28 => ⟨S_, .f32⟩
  | 29 => ⟨S_, .f32⟩
  | 30 => ⟨S_, .f32⟩
  | 31 => ⟨S8x32x14x14, .f32⟩
  | 32 => ⟨S8x32x14x14, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S8x32x14x14, .f32⟩
  | 41 => ⟨S8x32x14x14, .f32⟩
  | 42 => ⟨S8x14x14, .i32⟩
  | 43 => ⟨S8x14x14x32, .f32⟩
  | _ => ⟨S8x224x224, .f32⟩

abbrev hbmTy (i : Nat) : BufTy := match i / 128 with
  | 0 => hbmTy0_0 i
  | 1 => hbmTy0_1 i
  | _ => ⟨S8x224x224, .f32⟩

abbrev bufTy : (tb : Table) → Fin (tcTables nBuf tb) → BufTy
  | .hbm, ⟨i, _⟩ => hbmTy i
  | _, _ => ⟨S8x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_4 : Ref sig .tc := ⟨.hbm, 92, rfl⟩
abbrev main_v77 : Ref sig .tc := ⟨.hbm, 93, rfl⟩
abbrev main_v78 : Ref sig .tc := ⟨.hbm, 94, rfl⟩
abbrev main_cst_5 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_6 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_7 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_cst_8 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_call0_v0 : Ref sig .tc := ⟨.hbm, 139, rfl⟩
abbrev main_call0_cst : Ref sig .tc := ⟨.hbm, 140, rfl⟩
abbrev main_call0_c : Ref sig .tc := ⟨.hbm, 141, rfl⟩
abbrev main_call0_v1_0 : Ref sig .tc := ⟨.hbm, 142, rfl⟩
abbrev main_v119 : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_call1_v3 : Ref sig .tc := ⟨.hbm, 147, rfl⟩
abbrev main_call1_v4 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_9 : Ref sig .tc := ⟨.hbm, 155, rfl⟩
abbrev main_v126 : Ref sig .tc := ⟨.hbm, 156, rfl⟩
abbrev main_cst_10 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_11 : Ref sig .tc := ⟨.hbm, 161, rfl⟩
abbrev main_v130 : Ref sig .tc := ⟨.hbm, 162, rfl⟩
abbrev main_cst_12 : Ref sig .tc := ⟨.hbm, 163, rfl⟩
abbrev main_v131 : Ref sig .tc := ⟨.hbm, 164, rfl⟩
abbrev main_cst_13 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩

abbrev nD : Nat := 1
abbrev τ : Topo := Topo.v7x

variable {F : FTy → Type} [FloatOps F]
-- ==== Decoder.lean ====
abbrev S8x14x14x32 : Shape := ⟨4, ![8, 14, 14, 32]⟩
abbrev S32x128x4x4 : Shape := ⟨4, ![32, 128, 4, 4]⟩
abbrev S128 : Shape := ⟨1, ![128]⟩
abbrev S128x64x4x4 : Shape := ⟨4, ![128, 64, 4, 4]⟩
abbrev S64 : Shape := ⟨1, ![64]⟩
abbrev S64x32x4x4 : Shape := ⟨4, ![64, 32, 4, 4]⟩
abbrev S32 : Shape := ⟨1, ![32]⟩
abbrev S32x1x4x4 : Shape := ⟨4, ![32, 1, 4, 4]⟩
abbrev S1 : Shape := ⟨1, ![1]⟩
abbrev S_ : Shape := ⟨0, ![]⟩
abbrev S8x16x16x32 : Shape := ⟨4, ![8, 16, 16, 32]⟩
abbrev S3x3x32x2x2x128 : Shape := ⟨6, ![3, 3, 32, 2, 2, 128]⟩
abbrev S32x128x1x1 : Shape := ⟨4, ![32, 128, 1, 1]⟩
abbrev S32x128 : Shape := ⟨2, ![32, 128]⟩
abbrev S4 : Shape := ⟨1, ![4]⟩
abbrev S288x512 : Shape := ⟨2, ![288, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S8x14x14x512 : Shape := ⟨4, ![8, 14, 14, 512]⟩
abbrev S1x16x16x32 : Shape := ⟨4, ![1, 16, 16, 32]⟩
abbrev S1x14x14x512 : Shape := ⟨4, ![1, 14, 14, 512]⟩
abbrev S16x16x32 : Shape := ⟨3, ![16, 16, 32]⟩
abbrev S14x14x32 : Shape := ⟨3, ![14, 14, 32]⟩
abbrev S14x14x288 : Shape := ⟨3, ![14, 14, 288]⟩
abbrev S196x288 : Shape := ⟨2, ![196, 288]⟩
abbrev S196x512 : Shape := ⟨2, ![196, 512]⟩
abbrev S14x14x512 : Shape := ⟨3, ![14, 14, 512]⟩
abbrev S8x14x14x2x2x128 : Shape := ⟨6, ![8, 14, 14, 2, 2, 128]⟩
abbrev S8x14x2x14x2x128 : Shape := ⟨6, ![8, 14, 2, 14, 2, 128]⟩
abbrev S8x28x28x128 : Shape := ⟨4, ![8, 28, 28, 128]⟩
abbrev S8x30x30x128 : Shape := ⟨4, ![8, 30, 30, 128]⟩
abbrev S3x3x128x2x2x64 : Shape := ⟨6, ![3, 3, 128, 2, 2, 64]⟩
abbrev S128x64x1x1 : Shape := ⟨4, ![128, 64, 1, 1]⟩
abbrev S128x64 : Shape := ⟨2, ![128, 64]⟩
abbrev S1152x256 : Shape := ⟨2, ![1152, 256]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S8x28x28x256 : Shape := ⟨4, ![8, 28, 28, 256]⟩
abbrev S1x30x30x128 : Shape := ⟨4, ![1, 30, 30, 128]⟩
abbrev S1x28x28x256 : Shape := ⟨4, ![1, 28, 28, 256]⟩
abbrev S30x30x128 : Shape := ⟨3, ![30, 30, 128]⟩
abbrev S28x28x128 : Shape := ⟨3, ![28, 28, 128]⟩
abbrev S28x28x1152 : Shape := ⟨3, ![28, 28, 1152]⟩
abbrev S784x1152 : Shape := ⟨2, ![784, 1152]⟩
abbrev S784x256 : Shape := ⟨2, ![784, 256]⟩
abbrev S28x28x256 : Shape := ⟨3, ![28, 28, 256]⟩
abbrev S8x28x28x2x2x64 : Shape := ⟨6, ![8, 28, 28, 2, 2, 64]⟩
abbrev S8x28x2x28x2x64 : Shape := ⟨6, ![8, 28, 2, 28, 2, 64]⟩
abbrev S8x56x56x64 : Shape := ⟨4, ![8, 56, 56, 64]⟩
abbrev S8x58x58x64 : Shape := ⟨4, ![8, 58, 58, 64]⟩
abbrev S3x3x64x2x2x32 : Shape := ⟨6, ![3, 3, 64, 2, 2, 32]⟩
abbrev S64x32x1x1 : Shape := ⟨4, ![64, 32, 1, 1]⟩
abbrev S64x32 : Shape := ⟨2, ![64, 32]⟩
abbrev S576x128 : Shape := ⟨2, ![576, 128]⟩
abbrev S1x32 : Shape := ⟨2, ![1, 32]⟩
abbrev S4x32 : Shape := ⟨2, ![4, 32]⟩
abbrev S8x56x56x128 : Shape := ⟨4, ![8, 56, 56, 128]⟩
abbrev S1x58x58x64 : Shape := ⟨4, ![1, 58, 58, 64]⟩
abbrev S1x56x56x128 : Shape := ⟨4, ![1, 56, 56, 128]⟩
abbrev S58x58x64 : Shape := ⟨3, ![58, 58, 64]⟩
abbrev S56x56x64 : Shape := ⟨3, ![56, 56, 64]⟩
abbrev S56x56x576 : Shape := ⟨3, ![56, 56, 576]⟩
abbrev S3136x576 : Shape := ⟨2, ![3136, 576]⟩
abbrev S3136x128 : Shape := ⟨2, ![3136, 128]⟩
abbrev S56x56x128 : Shape := ⟨3, ![56, 56, 128]⟩
abbrev S8x56x56x2x2x32 : Shape := ⟨6, ![8, 56, 56, 2, 2, 32]⟩
abbrev S8x56x2x56x2x32 : Shape := ⟨6, ![8, 56, 2, 56, 2, 32]⟩
abbrev S8x112x112x32 : Shape := ⟨4, ![8, 112, 112, 32]⟩
abbrev S8x114x114x32 : Shape := ⟨4, ![8, 114, 114, 32]⟩
abbrev S3x3x32x2x2x1 : Shape := ⟨6, ![3, 3, 32, 2, 2, 1]⟩
abbrev S32x1x1x1 : Shape := ⟨4, ![32, 1, 1, 1]⟩
abbrev S32x1 : Shape := ⟨2, ![32, 1]⟩
abbrev S288x4 : Shape := ⟨2, ![288, 4]⟩
abbrev S1x1 : Shape := ⟨2, ![1, 1]⟩
abbrev S4x1 : Shape := ⟨2, ![4, 1]⟩
abbrev S1x4 : Shape := ⟨2, ![1, 4]⟩
abbrev S8x112x112x4 : Shape := ⟨4, ![8, 112, 112, 4]⟩
abbrev S1x114x114x32 : Shape := ⟨4, ![1, 114, 114, 32]⟩
abbrev S1x112x112x4 : Shape := ⟨4, ![1, 112, 112, 4]⟩
abbrev S114x114x32 : Shape := ⟨3, ![114, 114, 32]⟩
abbrev S112x112x32 : Shape := ⟨3, ![112, 112, 32]⟩
abbrev S112x112x288 : Shape := ⟨3, ![112, 112, 288]⟩
abbrev S12544x288 : Shape := ⟨2, ![12544, 288]⟩
abbrev S12544x4 : Shape := ⟨2, ![12544, 4]⟩
abbrev S112x112x4 : Shape := ⟨3, ![112, 112, 4]⟩
abbrev S8x112x112x2x2x1 : Shape := ⟨6, ![8, 112, 112, 2, 2, 1]⟩
abbrev S8x112x2x112x2x1 : Shape := ⟨6, ![8, 112, 2, 112, 2, 1]⟩
abbrev S8x224x224x1 : Shape := ⟨4, ![8, 224, 224, 1]⟩
abbrev S8x1x1x224x224 : Shape := ⟨5, ![8, 1, 1, 224, 224]⟩

abbrev nBuf : Space → Nat
  | .hbm => 834
  | .vmem => 24
  | .smem => 0
  | _ => 0

abbrev hbmTy0_0 (i : Nat) : BufTy := match i % 128 with
  | 0 => ⟨S8x14x14x32, .f32⟩
  | 1 => ⟨S32x128x4x4, .f32⟩
  | 2 => ⟨S128, .f32⟩
  | 3 => ⟨S128x64x4x4, .f32⟩
  | 4 => ⟨S64, .f32⟩
  | 5 => ⟨S64x32x4x4, .f32⟩
  | 6 => ⟨S32, .f32⟩
  | 7 => ⟨S32x1x4x4, .f32⟩
  | 8 => ⟨S1, .f32⟩
  | 9 => ⟨S_, .i32⟩
  | 10 => ⟨S_, .f32⟩
  | 11 => ⟨S8x16x16x32, .f32⟩
  | 12 => ⟨S_, .f32⟩
  | 13 => ⟨S3x3x32x2x2x128, .f32⟩
  | 14 => ⟨S32x128x1x1, .f32⟩
  | 15 => ⟨S32x128, .f32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S_, .i32⟩
  | 23 => ⟨S1, .i32⟩
  | 24 => ⟨S4, .i32⟩
  | 25 => ⟨S3x3x32x2x2x128, .f32⟩
  | 26 => ⟨S32x128x1x1, .f32⟩
  | 27 => ⟨S32x128, .f32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S_, .i32⟩
  | 35 => ⟨S1, .i32⟩
  | 36 => ⟨S4, .i32⟩
  | 37 => ⟨S3x3x32x2x2x128, .f32⟩
  | 38 => ⟨S32x128x1x1, .f32⟩
  | 39 => ⟨S32x128, .f32⟩
  | 40 => ⟨S_, .i32⟩
  | 41 => ⟨S1, .i32⟩
  | 42 => ⟨S_, .i32⟩
  | 43 => ⟨S1, .i32⟩
  | 44 => ⟨S_, .i32⟩
  | 45 => ⟨S1, .i32⟩
  | 46 => ⟨S_, .i32⟩
  | 47 => ⟨S1, .i32⟩
  | 48 => ⟨S4, .i32⟩
  | 49 => ⟨S3x3x32x2x2x128, .f32⟩
  | 50 => ⟨S32x128x1x1, .f32⟩
  | 51 => ⟨S32x128, .f32⟩
  | 52 => ⟨S_, .i32⟩
  | 53 => ⟨S1, .i32⟩
  | 54 => ⟨S_, .i32⟩
  | 55 => ⟨S1, .i32⟩
  | 56 => ⟨S_, .i32⟩
  | 57 => ⟨S1, .i32⟩
  | 58 => ⟨S_, .i32⟩
  | 59 => ⟨S1, .i32⟩
  | 60 => ⟨S4, .i32⟩
  | 61 => ⟨S3x3x32x2x2x128, .f32⟩
  | 62 => ⟨S32x128x1x1, .f32⟩
  | 63 => ⟨S32x128, .f32⟩
  | 64 => ⟨S_, .i32⟩
  | 65 => ⟨S1, .i32⟩
  | 66 => ⟨S_, .i32⟩
  | 67 => ⟨S1, .i32⟩
  | 68 => ⟨S_, .i32⟩
  | 69 => ⟨S1, .i32⟩
  | 70 => ⟨S_, .i32⟩
  | 71 => ⟨S1, .i32⟩
  | 72 => ⟨S4, .i32⟩
  | 73 => ⟨S3x3x32x2x2x128, .f32⟩
  | 74 => ⟨S32x128x1x1, .f32⟩
  | 75 => ⟨S32x128, .f32⟩
  | 76 => ⟨S_, .i32⟩
  | 77 => ⟨S1, .i32⟩
  | 78 => ⟨S_, .i32⟩
  | 79 => ⟨S1, .i32⟩
  | 80 => ⟨S_, .i32⟩
  | 81 => ⟨S1, .i32⟩
  | 82 => ⟨S_, .i32⟩
  | 83 => ⟨S1, .i32⟩
  | 84 => ⟨S4, .i32⟩
  | 85 => ⟨S3x3x32x2x2x128, .f32⟩
  | 86 => ⟨S32x128x1x1, .f32⟩
  | 87 => ⟨S32x128, .f32⟩
  | 88 => ⟨S_, .i32⟩
  | 89 => ⟨S1, .i32⟩
  | 90 => ⟨S_, .i32⟩
  | 91 => ⟨S1, .i32⟩
  | 92 => ⟨S_, .i32⟩
  | 93 => ⟨S1, .i32⟩
  | 94 => ⟨S_, .i32⟩
  | 95 => ⟨S1, .i32⟩
  | 96 => ⟨S4, .i32⟩
  | 97 => ⟨S3x3x32x2x2x128, .f32⟩
  | 98 => ⟨S32x128x1x1, .f32⟩
  | 99 => ⟨S32x128, .f32⟩
  | 100 => ⟨S_, .i32⟩
  | 101 => ⟨S1, .i32⟩
  | 102 => ⟨S_, .i32⟩
  | 103 => ⟨S1, .i32⟩
  | 104 => ⟨S_, .i32⟩
  | 105 => ⟨S1, .i32⟩
  | 106 => ⟨S_, .i32⟩
  | 107 => ⟨S1, .i32⟩
  | 108 => ⟨S4, .i32⟩
  | 109 => ⟨S3x3x32x2x2x128, .f32⟩
  | 110 => ⟨S32x128x1x1, .f32⟩
  | 111 => ⟨S32x128, .f32⟩
  | 112 => ⟨S_, .i32⟩
  | 113 => ⟨S1, .i32⟩
  | 114 => ⟨S_, .i32⟩
  | 115 => ⟨S1, .i32⟩
  | 116 => ⟨S_, .i32⟩
  | 117 => ⟨S1, .i32⟩
  | 118 => ⟨S_, .i32⟩
  | 119 => ⟨S1, .i32⟩
  | 120 => ⟨S4, .i32⟩
  | 121 => ⟨S3x3x32x2x2x128, .f32⟩
  | 122 => ⟨S32x128x1x1, .f32⟩
  | 123 => ⟨S32x128, .f32⟩
  | 124 => ⟨S_, .i32⟩
  | 125 => ⟨S1, .i32⟩
  | 126 => ⟨S_, .i32⟩
  | 127 => ⟨S1, .i32⟩
  | _ => ⟨S8x14x14x32, .f32⟩

abbrev hbmTy0_1 (i : Nat) : BufTy := match i % 128 with
  | 0 => ⟨S_, .i32⟩
  | 1 => ⟨S1, .i32⟩
  | 2 => ⟨S_, .i32⟩
  | 3 => ⟨S1, .i32⟩
  | 4 => ⟨S4, .i32⟩
  | 5 => ⟨S3x3x32x2x2x128, .f32⟩
  | 6 => ⟨S32x128x1x1, .f32⟩
  | 7 => ⟨S32x128, .f32⟩
  | 8 => ⟨S_, .i32⟩
  | 9 => ⟨S1, .i32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S4, .i32⟩
  | 17 => ⟨S3x3x32x2x2x128, .f32⟩
  | 18 => ⟨S32x128x1x1, .f32⟩
  | 19 => ⟨S32x128, .f32⟩
  | 20 => ⟨S_, .i32⟩
  | 21 => ⟨S1, .i32⟩
  | 22 => ⟨S_, .i32⟩
  | 23 => ⟨S1, .i32⟩
  | 24 => ⟨S_, .i32⟩
  | 25 => ⟨S1, .i32⟩
  | 26 => ⟨S_, .i32⟩
  | 27 => ⟨S1, .i32⟩
  | 28 => ⟨S4, .i32⟩
  | 29 => ⟨S3x3x32x2x2x128, .f32⟩
  | 30 => ⟨S32x128x1x1, .f32⟩
  | 31 => ⟨S32x128, .f32⟩
  | 32 => ⟨S_, .i32⟩
  | 33 => ⟨S1, .i32⟩
  | 34 => ⟨S_, .i32⟩
  | 35 => ⟨S1, .i32⟩
  | 36 => ⟨S_, .i32⟩
  | 37 => ⟨S1, .i32⟩
  | 38 => ⟨S_, .i32⟩
  | 39 => ⟨S1, .i32⟩
  | 40 => ⟨S4, .i32⟩
  | 41 => ⟨S3x3x32x2x2x128, .f32⟩
  | 42 => ⟨S32x128x1x1, .f32⟩
  | 43 => ⟨S32x128, .f32⟩
  | 44 => ⟨S_, .i32⟩
  | 45 => ⟨S1, .i32⟩
  | 46 => ⟨S_, .i32⟩
  | 47 => ⟨S1, .i32⟩
  | 48 => ⟨S_, .i32⟩
  | 49 => ⟨S1, .i32⟩
  | 50 => ⟨S_, .i32⟩
  | 51 => ⟨S1, .i32⟩
  | 52 => ⟨S4, .i32⟩
  | 53 => ⟨S3x3x32x2x2x128, .f32⟩
  | 54 => ⟨S32x128x1x1, .f32⟩
  | 55 => ⟨S32x128, .f32⟩
  | 56 => ⟨S_, .i32⟩
  | 57 => ⟨S1, .i32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S4, .i32⟩
  | 65 => ⟨S3x3x32x2x2x128, .f32⟩
  | 66 => ⟨S32x128x1x1, .f32⟩
  | 67 => ⟨S32x128, .f32⟩
  | 68 => ⟨S_, .i32⟩
  | 69 => ⟨S1, .i32⟩
  | 70 => ⟨S_, .i32⟩
  | 71 => ⟨S1, .i32⟩
  | 72 => ⟨S_, .i32⟩
  | 73 => ⟨S1, .i32⟩
  | 74 => ⟨S_, .i32⟩
  | 75 => ⟨S1, .i32⟩
  | 76 => ⟨S4, .i32⟩
  | 77 => ⟨S3x3x32x2x2x128, .f32⟩
  | 78 => ⟨S288x512, .f32⟩
  | 79 => ⟨S1x128, .f32⟩
  | 80 => ⟨S4x128, .f32⟩
  | 81 => ⟨S512, .f32⟩
  | 82 => ⟨S1x512, .f32⟩
  | 83 => ⟨S8x14x14x512, .f32⟩
  | 84 => ⟨S8x14x14x2x2x128, .f32⟩
  | 85 => ⟨S8x14x2x14x2x128, .f32⟩
  | 86 => ⟨S8x28x28x128, .f32⟩
  | 87 => ⟨S_, .i32⟩
  | 88 => ⟨S_, .f32⟩
  | 89 => ⟨S8x30x30x128, .f32⟩
  | 90 => ⟨S_, .f32⟩
  | 91 => ⟨S3x3x128x2x2x64, .f32⟩
  | 92 => ⟨S128x64x1x1, .f32⟩
  | 93 => ⟨S128x64, .f32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S4, .i32⟩
  | 103 => ⟨S3x3x128x2x2x64, .f32⟩
  | 104 => ⟨S128x64x1x1, .f32⟩
  | 105 => ⟨S128x64, .f32⟩
  | 106 => ⟨S_, .i32⟩
  | 107 => ⟨S1, .i32⟩
  | 108 => ⟨S_, .i32⟩
  | 109 => ⟨S1, .i32⟩
  | 110 => ⟨S_, .i32⟩
  | 111 => ⟨S1, .i32⟩
  | 112 => ⟨S_, .i32⟩
  | 113 => ⟨S1, .i32⟩
  | 114 => ⟨S4, .i32⟩
  | 115 => ⟨S3x3x128x2x2x64, .f32⟩
  | 116 => ⟨S128x64x1x1, .f32⟩
  | 117 => ⟨S128x64, .f32⟩
  | 118 => ⟨S_, .i32⟩
  | 119 => ⟨S1, .i32⟩
  | 120 => ⟨S_, .i32⟩
  | 121 => ⟨S1, .i32⟩
  | 122 => ⟨S_, .i32⟩
  | 123 => ⟨S1, .i32⟩
  | 124 => ⟨S_, .i32⟩
  | 125 => ⟨S1, .i32⟩
  | 126 => ⟨S4, .i32⟩
  | 127 => ⟨S3x3x128x2x2x64, .f32⟩
  | _ => ⟨S8x14x14x32, .f32⟩

abbrev hbmTy0_2 (i : Nat) : BufTy := match i % 128 with
  | 0 => ⟨S128x64x1x1, .f32⟩
  | 1 => ⟨S128x64, .f32⟩
  | 2 => ⟨S_, .i32⟩
  | 3 => ⟨S1, .i32⟩
  | 4 => ⟨S_, .i32⟩
  | 5 => ⟨S1, .i32⟩
  | 6 => ⟨S_, .i32⟩
  | 7 => ⟨S1, .i32⟩
  | 8 => ⟨S_, .i32⟩
  | 9 => ⟨S1, .i32⟩
  | 10 => ⟨S4, .i32⟩
  | 11 => ⟨S3x3x128x2x2x64, .f32⟩
  | 12 => ⟨S128x64x1x1, .f32⟩
  | 13 => ⟨S128x64, .f32⟩
  | 14 => ⟨S_, .i32⟩
  | 15 => ⟨S1, .i32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S4, .i32⟩
  | 23 => ⟨S3x3x128x2x2x64, .f32⟩
  | 24 => ⟨S128x64x1x1, .f32⟩
  | 25 => ⟨S128x64, .f32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S4, .i32⟩
  | 35 => ⟨S3x3x128x2x2x64, .f32⟩
  | 36 => ⟨S128x64x1x1, .f32⟩
  | 37 => ⟨S128x64, .f32⟩
  | 38 => ⟨S_, .i32⟩
  | 39 => ⟨S1, .i32⟩
  | 40 => ⟨S_, .i32⟩
  | 41 => ⟨S1, .i32⟩
  | 42 => ⟨S_, .i32⟩
  | 43 => ⟨S1, .i32⟩
  | 44 => ⟨S_, .i32⟩
  | 45 => ⟨S1, .i32⟩
  | 46 => ⟨S4, .i32⟩
  | 47 => ⟨S3x3x128x2x2x64, .f32⟩
  | 48 => ⟨S128x64x1x1, .f32⟩
  | 49 => ⟨S128x64, .f32⟩
  | 50 => ⟨S_, .i32⟩
  | 51 => ⟨S1, .i32⟩
  | 52 => ⟨S_, .i32⟩
  | 53 => ⟨S1, .i32⟩
  | 54 => ⟨S_, .i32⟩
  | 55 => ⟨S1, .i32⟩
  | 56 => ⟨S_, .i32⟩
  | 57 => ⟨S1, .i32⟩
  | 58 => ⟨S4, .i32⟩
  | 59 => ⟨S3x3x128x2x2x64, .f32⟩
  | 60 => ⟨S128x64x1x1, .f32⟩
  | 61 => ⟨S128x64, .f32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S_, .i32⟩
  | 69 => ⟨S1, .i32⟩
  | 70 => ⟨S4, .i32⟩
  | 71 => ⟨S3x3x128x2x2x64, .f32⟩
  | 72 => ⟨S128x64x1x1, .f32⟩
  | 73 => ⟨S128x64, .f32⟩
  | 74 => ⟨S_, .i32⟩
  | 75 => ⟨S1, .i32⟩
  | 76 => ⟨S_, .i32⟩
  | 77 => ⟨S1, .i32⟩
  | 78 => ⟨S_, .i32⟩
  | 79 => ⟨S1, .i32⟩
  | 80 => ⟨S_, .i32⟩
  | 81 => ⟨S1, .i32⟩
  | 82 => ⟨S4, .i32⟩
  | 83 => ⟨S3x3x128x2x2x64, .f32⟩
  | 84 => ⟨S128x64x1x1, .f32⟩
  | 85 => ⟨S128x64, .f32⟩
  | 86 => ⟨S_, .i32⟩
  | 87 => ⟨S1, .i32⟩
  | 88 => ⟨S_, .i32⟩
  | 89 => ⟨S1, .i32⟩
  | 90 => ⟨S_, .i32⟩
  | 91 => ⟨S1, .i32⟩
  | 92 => ⟨S_, .i32⟩
  | 93 => ⟨S1, .i32⟩
  | 94 => ⟨S4, .i32⟩
  | 95 => ⟨S3x3x128x2x2x64, .f32⟩
  | 96 => ⟨S128x64x1x1, .f32⟩
  | 97 => ⟨S128x64, .f32⟩
  | 98 => ⟨S_, .i32⟩
  | 99 => ⟨S1, .i32⟩
  | 100 => ⟨S_, .i32⟩
  | 101 => ⟨S1, .i32⟩
  | 102 => ⟨S_, .i32⟩
  | 103 => ⟨S1, .i32⟩
  | 104 => ⟨S_, .i32⟩
  | 105 => ⟨S1, .i32⟩
  | 106 => ⟨S4, .i32⟩
  | 107 => ⟨S3x3x128x2x2x64, .f32⟩
  | 108 => ⟨S128x64x1x1, .f32⟩
  | 109 => ⟨S128x64, .f32⟩
  | 110 => ⟨S_, .i32⟩
  | 111 => ⟨S1, .i32⟩
  | 112 => ⟨S_, .i32⟩
  | 113 => ⟨S1, .i32⟩
  | 114 => ⟨S_, .i32⟩
  | 115 => ⟨S1, .i32⟩
  | 116 => ⟨S_, .i32⟩
  | 117 => ⟨S1, .i32⟩
  | 118 => ⟨S4, .i32⟩
  | 119 => ⟨S3x3x128x2x2x64, .f32⟩
  | 120 => ⟨S128x64x1x1, .f32⟩
  | 121 => ⟨S128x64, .f32⟩
  | 122 => ⟨S_, .i32⟩
  | 123 => ⟨S1, .i32⟩
  | 124 => ⟨S_, .i32⟩
  | 125 => ⟨S1, .i32⟩
  | 126 => ⟨S_, .i32⟩
  | 127 => ⟨S1, .i32⟩
  | _ => ⟨S8x14x14x32, .f32⟩

abbrev hbmTy0_3 (i : Nat) : BufTy := match i % 128 with
  | 0 => ⟨S_, .i32⟩
  | 1 => ⟨S1, .i32⟩
  | 2 => ⟨S4, .i32⟩
  | 3 => ⟨S3x3x128x2x2x64, .f32⟩
  | 4 => ⟨S128x64x1x1, .f32⟩
  | 5 => ⟨S128x64, .f32⟩
  | 6 => ⟨S_, .i32⟩
  | 7 => ⟨S1, .i32⟩
  | 8 => ⟨S_, .i32⟩
  | 9 => ⟨S1, .i32⟩
  | 10 => ⟨S_, .i32⟩
  | 11 => ⟨S1, .i32⟩
  | 12 => ⟨S_, .i32⟩
  | 13 => ⟨S1, .i32⟩
  | 14 => ⟨S4, .i32⟩
  | 15 => ⟨S3x3x128x2x2x64, .f32⟩
  | 16 => ⟨S128x64x1x1, .f32⟩
  | 17 => ⟨S128x64, .f32⟩
  | 18 => ⟨S_, .i32⟩
  | 19 => ⟨S1, .i32⟩
  | 20 => ⟨S_, .i32⟩
  | 21 => ⟨S1, .i32⟩
  | 22 => ⟨S_, .i32⟩
  | 23 => ⟨S1, .i32⟩
  | 24 => ⟨S_, .i32⟩
  | 25 => ⟨S1, .i32⟩
  | 26 => ⟨S4, .i32⟩
  | 27 => ⟨S3x3x128x2x2x64, .f32⟩
  | 28 => ⟨S1152x256, .f32⟩
  | 29 => ⟨S1x64, .f32⟩
  | 30 => ⟨S4x64, .f32⟩
  | 31 => ⟨S256, .f32⟩
  | 32 => ⟨S1x256, .f32⟩
  | 33 => ⟨S8x28x28x256, .f32⟩
  | 34 => ⟨S8x28x28x2x2x64, .f32⟩
  | 35 => ⟨S8x28x2x28x2x64, .f32⟩
  | 36 => ⟨S8x56x56x64, .f32⟩
  | 37 => ⟨S_, .i32⟩
  | 38 => ⟨S_, .f32⟩
  | 39 => ⟨S8x58x58x64, .f32⟩
  | 40 => ⟨S_, .f32⟩
  | 41 => ⟨S3x3x64x2x2x32, .f32⟩
  | 42 => ⟨S64x32x1x1, .f32⟩
  | 43 => ⟨S64x32, .f32⟩
  | 44 => ⟨S_, .i32⟩
  | 45 => ⟨S1, .i32⟩
  | 46 => ⟨S_, .i32⟩
  | 47 => ⟨S1, .i32⟩
  | 48 => ⟨S_, .i32⟩
  | 49 => ⟨S1, .i32⟩
  | 50 => ⟨S_, .i32⟩
  | 51 => ⟨S1, .i32⟩
  | 52 => ⟨S4, .i32⟩
  | 53 => ⟨S3x3x64x2x2x32, .f32⟩
  | 54 => ⟨S64x32x1x1, .f32⟩
  | 55 => ⟨S64x32, .f32⟩
  | 56 => ⟨S_, .i32⟩
  | 57 => ⟨S1, .i32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S4, .i32⟩
  | 65 => ⟨S3x3x64x2x2x32, .f32⟩
  | 66 => ⟨S64x32x1x1, .f32⟩
  | 67 => ⟨S64x32, .f32⟩
  | 68 => ⟨S_, .i32⟩
  | 69 => ⟨S1, .i32⟩
  | 70 => ⟨S_, .i32⟩
  | 71 => ⟨S1, .i32⟩
  | 72 => ⟨S_, .i32⟩
  | 73 => ⟨S1, .i32⟩
  | 74 => ⟨S_, .i32⟩
  | 75 => ⟨S1, .i32⟩
  | 76 => ⟨S4, .i32⟩
  | 77 => ⟨S3x3x64x2x2x32, .f32⟩
  | 78 => ⟨S64x32x1x1, .f32⟩
  | 79 => ⟨S64x32, .f32⟩
  | 80 => ⟨S_, .i32⟩
  | 81 => ⟨S1, .i32⟩
  | 82 => ⟨S_, .i32⟩
  | 83 => ⟨S1, .i32⟩
  | 84 => ⟨S_, .i32⟩
  | 85 => ⟨S1, .i32⟩
  | 86 => ⟨S_, .i32⟩
  | 87 => ⟨S1, .i32⟩
  | 88 => ⟨S4, .i32⟩
  | 89 => ⟨S3x3x64x2x2x32, .f32⟩
  | 90 => ⟨S64x32x1x1, .f32⟩
  | 91 => ⟨S64x32, .f32⟩
  | 92 => ⟨S_, .i32⟩
  | 93 => ⟨S1, .i32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S4, .i32⟩
  | 101 => ⟨S3x3x64x2x2x32, .f32⟩
  | 102 => ⟨S64x32x1x1, .f32⟩
  | 103 => ⟨S64x32, .f32⟩
  | 104 => ⟨S_, .i32⟩
  | 105 => ⟨S1, .i32⟩
  | 106 => ⟨S_, .i32⟩
  | 107 => ⟨S1, .i32⟩
  | 108 => ⟨S_, .i32⟩
  | 109 => ⟨S1, .i32⟩
  | 110 => ⟨S_, .i32⟩
  | 111 => ⟨S1, .i32⟩
  | 112 => ⟨S4, .i32⟩
  | 113 => ⟨S3x3x64x2x2x32, .f32⟩
  | 114 => ⟨S64x32x1x1, .f32⟩
  | 115 => ⟨S64x32, .f32⟩
  | 116 => ⟨S_, .i32⟩
  | 117 => ⟨S1, .i32⟩
  | 118 => ⟨S_, .i32⟩
  | 119 => ⟨S1, .i32⟩
  | 120 => ⟨S_, .i32⟩
  | 121 => ⟨S1, .i32⟩
  | 122 => ⟨S_, .i32⟩
  | 123 => ⟨S1, .i32⟩
  | 124 => ⟨S4, .i32⟩
  | 125 => ⟨S3x3x64x2x2x32, .f32⟩
  | 126 => ⟨S64x32x1x1, .f32⟩
  | 127 => ⟨S64x32, .f32⟩
  | _ => ⟨S8x14x14x32, .f32⟩

abbrev hbmTy0_4 (i : Nat) : BufTy := match i % 128 with
  | 0 => ⟨S_, .i32⟩
  | 1 => ⟨S1, .i32⟩
  | 2 => ⟨S_, .i32⟩
  | 3 => ⟨S1, .i32⟩
  | 4 => ⟨S_, .i32⟩
  | 5 => ⟨S1, .i32⟩
  | 6 => ⟨S_, .i32⟩
  | 7 => ⟨S1, .i32⟩
  | 8 => ⟨S4, .i32⟩
  | 9 => ⟨S3x3x64x2x2x32, .f32⟩
  | 10 => ⟨S64x32x1x1, .f32⟩
  | 11 => ⟨S64x32, .f32⟩
  | 12 => ⟨S_, .i32⟩
  | 13 => ⟨S1, .i32⟩
  | 14 => ⟨S_, .i32⟩
  | 15 => ⟨S1, .i32⟩
  | 16 => ⟨S_, .i32⟩
  | 17 => ⟨S1, .i32⟩
  | 18 => ⟨S_, .i32⟩
  | 19 => ⟨S1, .i32⟩
  | 20 => ⟨S4, .i32⟩
  | 21 => ⟨S3x3x64x2x2x32, .f32⟩
  | 22 => ⟨S64x32x1x1, .f32⟩
  | 23 => ⟨S64x32, .f32⟩
  | 24 => ⟨S_, .i32⟩
  | 25 => ⟨S1, .i32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S4, .i32⟩
  | 33 => ⟨S3x3x64x2x2x32, .f32⟩
  | 34 => ⟨S64x32x1x1, .f32⟩
  | 35 => ⟨S64x32, .f32⟩
  | 36 => ⟨S_, .i32⟩
  | 37 => ⟨S1, .i32⟩
  | 38 => ⟨S_, .i32⟩
  | 39 => ⟨S1, .i32⟩
  | 40 => ⟨S_, .i32⟩
  | 41 => ⟨S1, .i32⟩
  | 42 => ⟨S_, .i32⟩
  | 43 => ⟨S1, .i32⟩
  | 44 => ⟨S4, .i32⟩
  | 45 => ⟨S3x3x64x2x2x32, .f32⟩
  | 46 => ⟨S64x32x1x1, .f32⟩
  | 47 => ⟨S64x32, .f32⟩
  | 48 => ⟨S_, .i32⟩
  | 49 => ⟨S1, .i32⟩
  | 50 => ⟨S_, .i32⟩
  | 51 => ⟨S1, .i32⟩
  | 52 => ⟨S_, .i32⟩
  | 53 => ⟨S1, .i32⟩
  | 54 => ⟨S_, .i32⟩
  | 55 => ⟨S1, .i32⟩
  | 56 => ⟨S4, .i32⟩
  | 57 => ⟨S3x3x64x2x2x32, .f32⟩
  | 58 => ⟨S64x32x1x1, .f32⟩
  | 59 => ⟨S64x32, .f32⟩
  | 60 => ⟨S_, .i32⟩
  | 61 => ⟨S1, .i32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S4, .i32⟩
  | 69 => ⟨S3x3x64x2x2x32, .f32⟩
  | 70 => ⟨S64x32x1x1, .f32⟩
  | 71 => ⟨S64x32, .f32⟩
  | 72 => ⟨S_, .i32⟩
  | 73 => ⟨S1, .i32⟩
  | 74 => ⟨S_, .i32⟩
  | 75 => ⟨S1, .i32⟩
  | 76 => ⟨S_, .i32⟩
  | 77 => ⟨S1, .i32⟩
  | 78 => ⟨S_, .i32⟩
  | 79 => ⟨S1, .i32⟩
  | 80 => ⟨S4, .i32⟩
  | 81 => ⟨S3x3x64x2x2x32, .f32⟩
  | 82 => ⟨S64x32x1x1, .f32⟩
  | 83 => ⟨S64x32, .f32⟩
  | 84 => ⟨S_, .i32⟩
  | 85 => ⟨S1, .i32⟩
  | 86 => ⟨S_, .i32⟩
  | 87 => ⟨S1, .i32⟩
  | 88 => ⟨S_, .i32⟩
  | 89 => ⟨S1, .i32⟩
  | 90 => ⟨S_, .i32⟩
  | 91 => ⟨S1, .i32⟩
  | 92 => ⟨S4, .i32⟩
  | 93 => ⟨S3x3x64x2x2x32, .f32⟩
  | 94 => ⟨S64x32x1x1, .f32⟩
  | 95 => ⟨S64x32, .f32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S_, .i32⟩
  | 103 => ⟨S1, .i32⟩
  | 104 => ⟨S4, .i32⟩
  | 105 => ⟨S3x3x64x2x2x32, .f32⟩
  | 106 => ⟨S576x128, .f32⟩
  | 107 => ⟨S1x32, .f32⟩
  | 108 => ⟨S4x32, .f32⟩
  | 109 => ⟨S128, .f32⟩
  | 110 => ⟨S1x128, .f32⟩
  | 111 => ⟨S8x56x56x128, .f32⟩
  | 112 => ⟨S8x56x56x2x2x32, .f32⟩
  | 113 => ⟨S8x56x2x56x2x32, .f32⟩
  | 114 => ⟨S8x112x112x32, .f32⟩
  | 115 => ⟨S_, .i32⟩
  | 116 => ⟨S_, .f32⟩
  | 117 => ⟨S8x114x114x32, .f32⟩
  | 118 => ⟨S_, .f32⟩
  | 119 => ⟨S3x3x32x2x2x1, .f32⟩
  | 120 => ⟨S32x1x1x1, .f32⟩
  | 121 => ⟨S32x1, .f32⟩
  | 122 => ⟨S_, .i32⟩
  | 123 => ⟨S1, .i32⟩
  | 124 => ⟨S_, .i32⟩
  | 125 => ⟨S1, .i32⟩
  | 126 => ⟨S_, .i32⟩
  | 127 => ⟨S1, .i32⟩
  | _ => ⟨S8x14x14x32, .f32⟩

abbrev hbmTy0_5 (i : Nat) : BufTy := match i % 128 with
  | 0 => ⟨S_, .i32⟩
  | 1 => ⟨S1, .i32⟩
  | 2 => ⟨S4, .i32⟩
  | 3 => ⟨S3x3x32x2x2x1, .f32⟩
  | 4 => ⟨S32x1x1x1, .f32⟩
  | 5 => ⟨S32x1, .f32⟩
  | 6 => ⟨S_, .i32⟩
  | 7 => ⟨S1, .i32⟩
  | 8 => ⟨S_, .i32⟩
  | 9 => ⟨S1, .i32⟩
  | 10 => ⟨S_, .i32⟩
  | 11 => ⟨S1, .i32⟩
  | 12 => ⟨S_, .i32⟩
  | 13 => ⟨S1, .i32⟩
  | 14 => ⟨S4, .i32⟩
  | 15 => ⟨S3x3x32x2x2x1, .f32⟩
  | 16 => ⟨S32x1x1x1, .f32⟩
  | 17 => ⟨S32x1, .f32⟩
  | 18 => ⟨S_, .i32⟩
  | 19 => ⟨S1, .i32⟩
  | 20 => ⟨S_, .i32⟩
  | 21 => ⟨S1, .i32⟩
  | 22 => ⟨S_, .i32⟩
  | 23 => ⟨S1, .i32⟩
  | 24 => ⟨S_, .i32⟩
  | 25 => ⟨S1, .i32⟩
  | 26 => ⟨S4, .i32⟩
  | 27 => ⟨S3x3x32x2x2x1, .f32⟩
  | 28 => ⟨S32x1x1x1, .f32⟩
  | 29 => ⟨S32x1, .f32⟩
  | 30 => ⟨S_, .i32⟩
  | 31 => ⟨S1, .i32⟩
  | 32 => ⟨S_, .i32⟩
  | 33 => ⟨S1, .i32⟩
  | 34 => ⟨S_, .i32⟩
  | 35 => ⟨S1, .i32⟩
  | 36 => ⟨S_, .i32⟩
  | 37 => ⟨S1, .i32⟩
  | 38 => ⟨S4, .i32⟩
  | 39 => ⟨S3x3x32x2x2x1, .f32⟩
  | 40 => ⟨S32x1x1x1, .f32⟩
  | 41 => ⟨S32x1, .f32⟩
  | 42 => ⟨S_, .i32⟩
  | 43 => ⟨S1, .i32⟩
  | 44 => ⟨S_, .i32⟩
  | 45 => ⟨S1, .i32⟩
  | 46 => ⟨S_, .i32⟩
  | 47 => ⟨S1, .i32⟩
  | 48 => ⟨S_, .i32⟩
  | 49 => ⟨S1, .i32⟩
  | 50 => ⟨S4, .i32⟩
  | 51 => ⟨S3x3x32x2x2x1, .f32⟩
  | 52 => ⟨S32x1x1x1, .f32⟩
  | 53 => ⟨S32x1, .f32⟩
  | 54 => ⟨S_, .i32⟩
  | 55 => ⟨S1, .i32⟩
  | 56 => ⟨S_, .i32⟩
  | 57 => ⟨S1, .i32⟩
  | 58 => ⟨S_, .i32⟩
  | 59 => ⟨S1, .i32⟩
  | 60 => ⟨S_, .i32⟩
  | 61 => ⟨S1, .i32⟩
  | 62 => ⟨S4, .i32⟩
  | 63 => ⟨S3x3x32x2x2x1, .f32⟩
  | 64 => ⟨S32x1x1x1, .f32⟩
  | 65 => ⟨S32x1, .f32⟩
  | 66 => ⟨S_, .i32⟩
  | 67 => ⟨S1, .i32⟩
  | 68 => ⟨S_, .i32⟩
  | 69 => ⟨S1, .i32⟩
  | 70 => ⟨S_, .i32⟩
  | 71 => ⟨S1, .i32⟩
  | 72 => ⟨S_, .i32⟩
  | 73 => ⟨S1, .i32⟩
  | 74 => ⟨S4, .i32⟩
  | 75 => ⟨S3x3x32x2x2x1, .f32⟩
  | 76 => ⟨S32x1x1x1, .f32⟩
  | 77 => ⟨S32x1, .f32⟩
  | 78 => ⟨S_, .i32⟩
  | 79 => ⟨S1, .i32⟩
  | 80 => ⟨S_, .i32⟩
  | 81 => ⟨S1, .i32⟩
  | 82 => ⟨S_, .i32⟩
  | 83 => ⟨S1, .i32⟩
  | 84 => ⟨S_, .i32⟩
  | 85 => ⟨S1, .i32⟩
  | 86 => ⟨S4, .i32⟩
  | 87 => ⟨S3x3x32x2x2x1, .f32⟩
  | 88 => ⟨S32x1x1x1, .f32⟩
  | 89 => ⟨S32x1, .f32⟩
  | 90 => ⟨S_, .i32⟩
  | 91 => ⟨S1, .i32⟩
  | 92 => ⟨S_, .i32⟩
  | 93 => ⟨S1, .i32⟩
  | 94 => ⟨S_, .i32⟩
  | 95 => ⟨S1, .i32⟩
  | 96 => ⟨S_, .i32⟩
  | 97 => ⟨S1, .i32⟩
  | 98 => ⟨S4, .i32⟩
  | 99 => ⟨S3x3x32x2x2x1, .f32⟩
  | 100 => ⟨S32x1x1x1, .f32⟩
  | 101 => ⟨S32x1, .f32⟩
  | 102 => ⟨S_, .i32⟩
  | 103 => ⟨S1, .i32⟩
  | 104 => ⟨S_, .i32⟩
  | 105 => ⟨S1, .i32⟩
  | 106 => ⟨S_, .i32⟩
  | 107 => ⟨S1, .i32⟩
  | 108 => ⟨S_, .i32⟩
  | 109 => ⟨S1, .i32⟩
  | 110 => ⟨S4, .i32⟩
  | 111 => ⟨S3x3x32x2x2x1, .f32⟩
  | 112 => ⟨S32x1x1x1, .f32⟩
  | 113 => ⟨S32x1, .f32⟩
  | 114 => ⟨S_, .i32⟩
  | 115 => ⟨S1, .i32⟩
  | 116 => ⟨S_, .i32⟩
  | 117 => ⟨S1, .i32⟩
  | 118 => ⟨S_, .i32⟩
  | 119 => ⟨S1, .i32⟩
  | 120 => ⟨S_, .i32⟩
  | 121 => ⟨S1, .i32⟩
  | 122 => ⟨S4, .i32⟩
  | 123 => ⟨S3x3x32x2x2x1, .f32⟩
  | 124 => ⟨S32x1x1x1, .f32⟩
  | 125 => ⟨S32x1, .f32⟩
  | 126 => ⟨S_, .i32⟩
  | 127 => ⟨S1, .i32⟩
  | _ => ⟨S8x14x14x32, .f32⟩

abbrev hbmTy0_6 (i : Nat) : BufTy := match i % 128 with
  | 0 => ⟨S_, .i32⟩
  | 1 => ⟨S1, .i32⟩
  | 2 => ⟨S_, .i32⟩
  | 3 => ⟨S1, .i32⟩
  | 4 => ⟨S_, .i32⟩
  | 5 => ⟨S1, .i32⟩
  | 6 => ⟨S4, .i32⟩
  | 7 => ⟨S3x3x32x2x2x1, .f32⟩
  | 8 => ⟨S32x1x1x1, .f32⟩
  | 9 => ⟨S32x1, .f32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S_, .i32⟩
  | 17 => ⟨S1, .i32⟩
  | 18 => ⟨S4, .i32⟩
  | 19 => ⟨S3x3x32x2x2x1, .f32⟩
  | 20 => ⟨S32x1x1x1, .f32⟩
  | 21 => ⟨S32x1, .f32⟩
  | 22 => ⟨S_, .i32⟩
  | 23 => ⟨S1, .i32⟩
  | 24 => ⟨S_, .i32⟩
  | 25 => ⟨S1, .i32⟩
  | 26 => ⟨S_, .i32⟩
  | 27 => ⟨S1, .i32⟩
  | 28 => ⟨S_, .i32⟩
  | 29 => ⟨S1, .i32⟩
  | 30 => ⟨S4, .i32⟩
  | 31 => ⟨S3x3x32x2x2x1, .f32⟩
  | 32 => ⟨S32x1x1x1, .f32⟩
  | 33 => ⟨S32x1, .f32⟩
  | 34 => ⟨S_, .i32⟩
  | 35 => ⟨S1, .i32⟩
  | 36 => ⟨S_, .i32⟩
  | 37 => ⟨S1, .i32⟩
  | 38 => ⟨S_, .i32⟩
  | 39 => ⟨S1, .i32⟩
  | 40 => ⟨S_, .i32⟩
  | 41 => ⟨S1, .i32⟩
  | 42 => ⟨S4, .i32⟩
  | 43 => ⟨S3x3x32x2x2x1, .f32⟩
  | 44 => ⟨S32x1x1x1, .f32⟩
  | 45 => ⟨S32x1, .f32⟩
  | 46 => ⟨S_, .i32⟩
  | 47 => ⟨S1, .i32⟩
  | 48 => ⟨S_, .i32⟩
  | 49 => ⟨S1, .i32⟩
  | 50 => ⟨S_, .i32⟩
  | 51 => ⟨S1, .i32⟩
  | 52 => ⟨S_, .i32⟩
  | 53 => ⟨S1, .i32⟩
  | 54 => ⟨S4, .i32⟩
  | 55 => ⟨S3x3x32x2x2x1, .f32⟩
  | 56 => ⟨S288x4, .f32⟩
  | 57 => ⟨S1x1, .f32⟩
  | 58 => ⟨S4x1, .f32⟩
  | 59 => ⟨S4, .f32⟩
  | 60 => ⟨S1x4, .f32⟩
  | 61 => ⟨S8x112x112x4, .f32⟩
  | 62 => ⟨S8x112x112x2x2x1, .f32⟩
  | 63 => ⟨S8x112x2x112x2x1, .f32⟩
  | 64 => ⟨S8x224x224x1, .f32⟩
  | 65 => ⟨S8x1x1x224x224, .f32⟩
  | _ => ⟨S8x14x14x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x14x14x32, .f32⟩

abbrev bufTy : (tb : Table) → Fin (tcTables nBuf tb) → BufTy
  | .hbm, ⟨i, _⟩ => hbmTy i
  | .local _ .vmem, ⟨0, _⟩ => ⟨S1x16x16x32, .f32⟩
  | .local _ .vmem, ⟨1, _⟩ => ⟨S1x16x16x32, .f32⟩
  | .local _ .vmem, ⟨2, _⟩ => ⟨S288x512, .f32⟩
  | .local _ .vmem, ⟨3, _⟩ => ⟨S1x512, .f32⟩
  | .local _ .vmem, ⟨4, _⟩ => ⟨S1x14x14x512, .f32⟩
  | .local _ .vmem, ⟨5, _⟩ => ⟨S1x14x14x512, .f32⟩
  | .local _ .vmem, ⟨6, _⟩ => ⟨S1x30x30x128, .f32⟩
  | .local _ .vmem, ⟨7, _⟩ => ⟨S1x30x30x128, .f32⟩
  | .local _ .vmem, ⟨8, _⟩ => ⟨S1152x256, .f32⟩
  | .local _ .vmem, ⟨9, _⟩ => ⟨S1x256, .f32⟩
  | .local _ .vmem, ⟨10, _⟩ => ⟨S1x28x28x256, .f32⟩
  | .local _ .vmem, ⟨11, _⟩ => ⟨S1x28x28x256, .f32⟩
  | .local _ .vmem, ⟨12, _⟩ => ⟨S1x58x58x64, .f32⟩
  | .local _ .vmem, ⟨13, _⟩ => ⟨S1x58x58x64, .f32⟩
  | .local _ .vmem, ⟨14, _⟩ => ⟨S576x128, .f32⟩
  | .local _ .vmem, ⟨15, _⟩ => ⟨S1x128, .f32⟩
  | .local _ .vmem, ⟨16, _⟩ => ⟨S1x56x56x128, .f32⟩
  | .local _ .vmem, ⟨17, _⟩ => ⟨S1x56x56x128, .f32⟩
  | .local _ .vmem, ⟨18, _⟩ => ⟨S1x114x114x32, .f32⟩
  | .local _ .vmem, ⟨19, _⟩ => ⟨S1x114x114x32, .f32⟩
  | .local _ .vmem, ⟨20, _⟩ => ⟨S288x4, .f32⟩
  | .local _ .vmem, ⟨21, _⟩ => ⟨S1x4, .f32⟩
  | .local _ .vmem, ⟨22, _⟩ => ⟨S1x112x112x4, .f32⟩
  | .local _ .vmem, ⟨23, _⟩ => ⟨S1x112x112x4, .f32⟩
  | _, _ => ⟨S8x14x14x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_c_6 : Ref sig .tc := ⟨.hbm, 32, rfl⟩
abbrev main_v14 : Ref sig .tc := ⟨.hbm, 33, rfl⟩
abbrev main_c_7 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_8 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_c_10 : Ref sig .tc := ⟨.hbm, 44, rfl⟩
abbrev main_v22 : Ref sig .tc := ⟨.hbm, 45, rfl⟩
abbrev main_c_11 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_12 : Ref sig .tc := ⟨.hbm, 52, rfl⟩
abbrev main_v28 : Ref sig .tc := ⟨.hbm, 53, rfl⟩
abbrev main_c_13 : Ref sig .tc := ⟨.hbm, 54, rfl⟩
abbrev main_v29 : Ref sig .tc := ⟨.hbm, 55, rfl⟩
abbrev main_c_14 : Ref sig .tc := ⟨.hbm, 56, rfl⟩
abbrev main_v30 : Ref sig .tc := ⟨.hbm, 57, rfl⟩
abbrev main_c_15 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_16 : Ref sig .tc := ⟨.hbm, 64, rfl⟩
abbrev main_v36 : Ref sig .tc := ⟨.hbm, 65, rfl⟩
abbrev main_c_17 : Ref sig .tc := ⟨.hbm, 66, rfl⟩
abbrev main_v37 : Ref sig .tc := ⟨.hbm, 67, rfl⟩
abbrev main_c_18 : Ref sig .tc := ⟨.hbm, 68, rfl⟩
abbrev main_v38 : Ref sig .tc := ⟨.hbm, 69, rfl⟩
abbrev main_c_19 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_20 : Ref sig .tc := ⟨.hbm, 76, rfl⟩
abbrev main_v44 : Ref sig .tc := ⟨.hbm, 77, rfl⟩
abbrev main_c_21 : Ref sig .tc := ⟨.hbm, 78, rfl⟩
abbrev main_v45 : Ref sig .tc := ⟨.hbm, 79, rfl⟩
abbrev main_c_22 : Ref sig .tc := ⟨.hbm, 80, rfl⟩
abbrev main_v46 : Ref sig .tc := ⟨.hbm, 81, rfl⟩
abbrev main_c_23 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_24 : Ref sig .tc := ⟨.hbm, 88, rfl⟩
abbrev main_v52 : Ref sig .tc := ⟨.hbm, 89, rfl⟩
abbrev main_c_25 : Ref sig .tc := ⟨.hbm, 90, rfl⟩
abbrev main_v53 : Ref sig .tc := ⟨.hbm, 91, rfl⟩
abbrev main_c_26 : Ref sig .tc := ⟨.hbm, 92, rfl⟩
abbrev main_v54 : Ref sig .tc := ⟨.hbm, 93, rfl⟩
abbrev main_c_27 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_28 : Ref sig .tc := ⟨.hbm, 100, rfl⟩
abbrev main_v60 : Ref sig .tc := ⟨.hbm, 101, rfl⟩
abbrev main_c_29 : Ref sig .tc := ⟨.hbm, 102, rfl⟩
abbrev main_v61 : Ref sig .tc := ⟨.hbm, 103, rfl⟩
abbrev main_c_30 : Ref sig .tc := ⟨.hbm, 104, rfl⟩
abbrev main_v62 : Ref sig .tc := ⟨.hbm, 105, rfl⟩
abbrev main_c_31 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_32 : Ref sig .tc := ⟨.hbm, 112, rfl⟩
abbrev main_v68 : Ref sig .tc := ⟨.hbm, 113, rfl⟩
abbrev main_c_33 : Ref sig .tc := ⟨.hbm, 114, rfl⟩
abbrev main_v69 : Ref sig .tc := ⟨.hbm, 115, rfl⟩
abbrev main_c_34 : Ref sig .tc := ⟨.hbm, 116, rfl⟩
abbrev main_v70 : Ref sig .tc := ⟨.hbm, 117, rfl⟩
abbrev main_c_35 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_36 : Ref sig .tc := ⟨.hbm, 124, rfl⟩
abbrev main_v76 : Ref sig .tc := ⟨.hbm, 125, rfl⟩
abbrev main_c_37 : Ref sig .tc := ⟨.hbm, 126, rfl⟩
abbrev main_v77 : Ref sig .tc := ⟨.hbm, 127, rfl⟩
abbrev main_c_38 : Ref sig .tc := ⟨.hbm, 128, rfl⟩
abbrev main_v78 : Ref sig .tc := ⟨.hbm, 129, rfl⟩
abbrev main_c_39 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_40 : Ref sig .tc := ⟨.hbm, 136, rfl⟩
abbrev main_v84 : Ref sig .tc := ⟨.hbm, 137, rfl⟩
abbrev main_c_41 : Ref sig .tc := ⟨.hbm, 138, rfl⟩
abbrev main_v85 : Ref sig .tc := ⟨.hbm, 139, rfl⟩
abbrev main_c_42 : Ref sig .tc := ⟨.hbm, 140, rfl⟩
abbrev main_v86 : Ref sig .tc := ⟨.hbm, 141, rfl⟩
abbrev main_c_43 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_44 : Ref sig .tc := ⟨.hbm, 148, rfl⟩
abbrev main_v92 : Ref sig .tc := ⟨.hbm, 149, rfl⟩
abbrev main_c_45 : Ref sig .tc := ⟨.hbm, 150, rfl⟩
abbrev main_v93 : Ref sig .tc := ⟨.hbm, 151, rfl⟩
abbrev main_c_46 : Ref sig .tc := ⟨.hbm, 152, rfl⟩
abbrev main_v94 : Ref sig .tc := ⟨.hbm, 153, rfl⟩
abbrev main_c_47 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_c_48 : Ref sig .tc := ⟨.hbm, 160, rfl⟩
abbrev main_v100 : Ref sig .tc := ⟨.hbm, 161, rfl⟩
abbrev main_c_49 : Ref sig .tc := ⟨.hbm, 162, rfl⟩
abbrev main_v101 : Ref sig .tc := ⟨.hbm, 163, rfl⟩
abbrev main_c_50 : Ref sig .tc := ⟨.hbm, 164, rfl⟩
abbrev main_v102 : Ref sig .tc := ⟨.hbm, 165, rfl⟩
abbrev main_c_51 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_c_52 : Ref sig .tc := ⟨.hbm, 172, rfl⟩
abbrev main_v108 : Ref sig .tc := ⟨.hbm, 173, rfl⟩
abbrev main_c_53 : Ref sig .tc := ⟨.hbm, 174, rfl⟩
abbrev main_v109 : Ref sig .tc := ⟨.hbm, 175, rfl⟩
abbrev main_c_54 : Ref sig .tc := ⟨.hbm, 176, rfl⟩
abbrev main_v110 : Ref sig .tc := ⟨.hbm, 177, rfl⟩
abbrev main_c_55 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_56 : Ref sig .tc := ⟨.hbm, 184, rfl⟩
abbrev main_v116 : Ref sig .tc := ⟨.hbm, 185, rfl⟩
abbrev main_c_57 : Ref sig .tc := ⟨.hbm, 186, rfl⟩
abbrev main_v117 : Ref sig .tc := ⟨.hbm, 187, rfl⟩
abbrev main_c_58 : Ref sig .tc := ⟨.hbm, 188, rfl⟩
abbrev main_v118 : Ref sig .tc := ⟨.hbm, 189, rfl⟩
abbrev main_c_59 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_c_60 : Ref sig .tc := ⟨.hbm, 196, rfl⟩
abbrev main_v124 : Ref sig .tc := ⟨.hbm, 197, rfl⟩
abbrev main_c_61 : Ref sig .tc := ⟨.hbm, 198, rfl⟩
abbrev main_v125 : Ref sig .tc := ⟨.hbm, 199, rfl⟩
abbrev main_c_62 : Ref sig .tc := ⟨.hbm, 200, rfl⟩
abbrev main_v126 : Ref sig .tc := ⟨.hbm, 201, rfl⟩
abbrev main_c_63 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_c_64 : Ref sig .tc := ⟨.hbm, 215, rfl⟩
abbrev main_call1_v0 : Ref sig .tc := ⟨.hbm, 216, rfl⟩
abbrev main_v139 : Ref sig .tc := ⟨.hbm, 217, rfl⟩
abbrev main_cst_65 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_c_66 : Ref sig .tc := ⟨.hbm, 222, rfl⟩
abbrev main_v143 : Ref sig .tc := ⟨.hbm, 223, rfl⟩
abbrev main_c_67 : Ref sig .tc := ⟨.hbm, 224, rfl⟩
abbrev main_v144 : Ref sig .tc := ⟨.hbm, 225, rfl⟩
abbrev main_c_68 : Ref sig .tc := ⟨.hbm, 226, rfl⟩
abbrev main_v145 : Ref sig .tc := ⟨.hbm, 227, rfl⟩
abbrev main_c_69 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_c_70 : Ref sig .tc := ⟨.hbm, 234, rfl⟩
abbrev main_v151 : Ref sig .tc := ⟨.hbm, 235, rfl⟩
abbrev main_c_71 : Ref sig .tc := ⟨.hbm, 236, rfl⟩
abbrev main_v152 : Ref sig .tc := ⟨.hbm, 237, rfl⟩
abbrev main_c_72 : Ref sig .tc := ⟨.hbm, 238, rfl⟩
abbrev main_v153 : Ref sig .tc := ⟨.hbm, 239, rfl⟩
abbrev main_c_73 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_c_74 : Ref sig .tc := ⟨.hbm, 246, rfl⟩
abbrev main_v159 : Ref sig .tc := ⟨.hbm, 247, rfl⟩
abbrev main_c_75 : Ref sig .tc := ⟨.hbm, 248, rfl⟩
abbrev main_v160 : Ref sig .tc := ⟨.hbm, 249, rfl⟩
abbrev main_c_76 : Ref sig .tc := ⟨.hbm, 250, rfl⟩
abbrev main_v161 : Ref sig .tc := ⟨.hbm, 251, rfl⟩
abbrev main_c_77 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_c_78 : Ref sig .tc := ⟨.hbm, 258, rfl⟩
abbrev main_v167 : Ref sig .tc := ⟨.hbm, 259, rfl⟩
abbrev main_c_79 : Ref sig .tc := ⟨.hbm, 260, rfl⟩
abbrev main_v168 : Ref sig .tc := ⟨.hbm, 261, rfl⟩
abbrev main_c_80 : Ref sig .tc := ⟨.hbm, 262, rfl⟩
abbrev main_v169 : Ref sig .tc := ⟨.hbm, 263, rfl⟩
abbrev main_c_81 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_c_82 : Ref sig .tc := ⟨.hbm, 270, rfl⟩
abbrev main_v175 : Ref sig .tc := ⟨.hbm, 271, rfl⟩
abbrev main_c_83 : Ref sig .tc := ⟨.hbm, 272, rfl⟩
abbrev main_v176 : Ref sig .tc := ⟨.hbm, 273, rfl⟩
abbrev main_c_84 : Ref sig .tc := ⟨.hbm, 274, rfl⟩
abbrev main_v177 : Ref sig .tc := ⟨.hbm, 275, rfl⟩
abbrev main_c_85 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_c_86 : Ref sig .tc := ⟨.hbm, 282, rfl⟩
abbrev main_v183 : Ref sig .tc := ⟨.hbm, 283, rfl⟩
abbrev main_c_87 : Ref sig .tc := ⟨.hbm, 284, rfl⟩
abbrev main_v184 : Ref sig .tc := ⟨.hbm, 285, rfl⟩
abbrev main_c_88 : Ref sig .tc := ⟨.hbm, 286, rfl⟩
abbrev main_v185 : Ref sig .tc := ⟨.hbm, 287, rfl⟩
abbrev main_c_89 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_c_90 : Ref sig .tc := ⟨.hbm, 294, rfl⟩
abbrev main_v191 : Ref sig .tc := ⟨.hbm, 295, rfl⟩
abbrev main_c_91 : Ref sig .tc := ⟨.hbm, 296, rfl⟩
abbrev main_v192 : Ref sig .tc := ⟨.hbm, 297, rfl⟩
abbrev main_c_92 : Ref sig .tc := ⟨.hbm, 298, rfl⟩
abbrev main_v193 : Ref sig .tc := ⟨.hbm, 299, rfl⟩
abbrev main_c_93 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_c_94 : Ref sig .tc := ⟨.hbm, 306, rfl⟩
abbrev main_v199 : Ref sig .tc := ⟨.hbm, 307, rfl⟩
abbrev main_c_95 : Ref sig .tc := ⟨.hbm, 308, rfl⟩
abbrev main_v200 : Ref sig .tc := ⟨.hbm, 309, rfl⟩
abbrev main_c_96 : Ref sig .tc := ⟨.hbm, 310, rfl⟩
abbrev main_v201 : Ref sig .tc := ⟨.hbm, 311, rfl⟩
abbrev main_c_97 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_c_98 : Ref sig .tc := ⟨.hbm, 318, rfl⟩
abbrev main_v207 : Ref sig .tc := ⟨.hbm, 319, rfl⟩
abbrev main_c_99 : Ref sig .tc := ⟨.hbm, 320, rfl⟩
abbrev main_v208 : Ref sig .tc := ⟨.hbm, 321, rfl⟩
abbrev main_c_100 : Ref sig .tc := ⟨.hbm, 322, rfl⟩
abbrev main_v209 : Ref sig .tc := ⟨.hbm, 323, rfl⟩
abbrev main_c_101 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_c_102 : Ref sig .tc := ⟨.hbm, 330, rfl⟩
abbrev main_v215 : Ref sig .tc := ⟨.hbm, 331, rfl⟩
abbrev main_c_103 : Ref sig .tc := ⟨.hbm, 332, rfl⟩
abbrev main_v216 : Ref sig .tc := ⟨.hbm, 333, rfl⟩
abbrev main_c_104 : Ref sig .tc := ⟨.hbm, 334, rfl⟩
abbrev main_v217 : Ref sig .tc := ⟨.hbm, 335, rfl⟩
abbrev main_c_105 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_c_106 : Ref sig .tc := ⟨.hbm, 342, rfl⟩
abbrev main_v223 : Ref sig .tc := ⟨.hbm, 343, rfl⟩
abbrev main_c_107 : Ref sig .tc := ⟨.hbm, 344, rfl⟩
abbrev main_v224 : Ref sig .tc := ⟨.hbm, 345, rfl⟩
abbrev main_c_108 : Ref sig .tc := ⟨.hbm, 346, rfl⟩
abbrev main_v225 : Ref sig .tc := ⟨.hbm, 347, rfl⟩
abbrev main_c_109 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_c_110 : Ref sig .tc := ⟨.hbm, 354, rfl⟩
abbrev main_v231 : Ref sig .tc := ⟨.hbm, 355, rfl⟩
abbrev main_c_111 : Ref sig .tc := ⟨.hbm, 356, rfl⟩
abbrev main_v232 : Ref sig .tc := ⟨.hbm, 357, rfl⟩
abbrev main_c_112 : Ref sig .tc := ⟨.hbm, 358, rfl⟩
abbrev main_v233 : Ref sig .tc := ⟨.hbm, 359, rfl⟩
abbrev main_c_113 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_c_114 : Ref sig .tc := ⟨.hbm, 366, rfl⟩
abbrev main_v239 : Ref sig .tc := ⟨.hbm, 367, rfl⟩
abbrev main_c_115 : Ref sig .tc := ⟨.hbm, 368, rfl⟩
abbrev main_v240 : Ref sig .tc := ⟨.hbm, 369, rfl⟩
abbrev main_c_116 : Ref sig .tc := ⟨.hbm, 370, rfl⟩
abbrev main_v241 : Ref sig .tc := ⟨.hbm, 371, rfl⟩
abbrev main_c_117 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_c_118 : Ref sig .tc := ⟨.hbm, 378, rfl⟩
abbrev main_v247 : Ref sig .tc := ⟨.hbm, 379, rfl⟩
abbrev main_c_119 : Ref sig .tc := ⟨.hbm, 380, rfl⟩
abbrev main_v248 : Ref sig .tc := ⟨.hbm, 381, rfl⟩
abbrev main_c_120 : Ref sig .tc := ⟨.hbm, 382, rfl⟩
abbrev main_v249 : Ref sig .tc := ⟨.hbm, 383, rfl⟩
abbrev main_c_121 : Ref sig .tc := ⟨.hbm, 384, rfl⟩
abbrev main_v250 : Ref sig .tc := ⟨.hbm, 385, rfl⟩
abbrev main_v251 : Ref sig .tc := ⟨.hbm, 386, rfl⟩
abbrev main_v252 : Ref sig .tc := ⟨.hbm, 387, rfl⟩
abbrev main_v253 : Ref sig .tc := ⟨.hbm, 388, rfl⟩
abbrev main_v254 : Ref sig .tc := ⟨.hbm, 389, rfl⟩
abbrev main_c_122 : Ref sig .tc := ⟨.hbm, 390, rfl⟩
abbrev main_v255 : Ref sig .tc := ⟨.hbm, 391, rfl⟩
abbrev main_c_123 : Ref sig .tc := ⟨.hbm, 392, rfl⟩
abbrev main_v256 : Ref sig .tc := ⟨.hbm, 393, rfl⟩
abbrev main_c_124 : Ref sig .tc := ⟨.hbm, 394, rfl⟩
abbrev main_v257 : Ref sig .tc := ⟨.hbm, 395, rfl⟩
abbrev main_c_125 : Ref sig .tc := ⟨.hbm, 396, rfl⟩
abbrev main_v258 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_c_126 : Ref sig .tc := ⟨.hbm, 402, rfl⟩
abbrev main_v263 : Ref sig .tc := ⟨.hbm, 403, rfl⟩
abbrev main_c_127 : Ref sig .tc := ⟨.hbm, 404, rfl⟩
abbrev main_v264 : Ref sig .tc := ⟨.hbm, 405, rfl⟩
abbrev main_c_128 : Ref sig .tc := ⟨.hbm, 406, rfl⟩
abbrev main_v265 : Ref sig .tc := ⟨.hbm, 407, rfl⟩
abbrev main_c_129 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_c_130 : Ref sig .tc := ⟨.hbm, 421, rfl⟩
abbrev main_call2_v0 : Ref sig .tc := ⟨.hbm, 422, rfl⟩
abbrev main_v278 : Ref sig .tc := ⟨.hbm, 423, rfl⟩
abbrev main_cst_131 : Ref sig .tc := ⟨.hbm, 424, rfl⟩
abbrev main_v279 : Ref sig .tc := ⟨.hbm, 425, rfl⟩
abbrev main_v280 : Ref sig .tc := ⟨.hbm, 426, rfl⟩
abbrev main_v281 : Ref sig .tc := ⟨.hbm, 427, rfl⟩
abbrev main_c_132 : Ref sig .tc := ⟨.hbm, 428, rfl⟩
abbrev main_v282 : Ref sig .tc := ⟨.hbm, 429, rfl⟩
abbrev main_c_133 : Ref sig .tc := ⟨.hbm, 430, rfl⟩
abbrev main_v283 : Ref sig .tc := ⟨.hbm, 431, rfl⟩
abbrev main_c_134 : Ref sig .tc := ⟨.hbm, 432, rfl⟩
abbrev main_v284 : Ref sig .tc := ⟨.hbm, 433, rfl⟩
abbrev main_c_135 : Ref sig .tc := ⟨.hbm, 434, rfl⟩
abbrev main_v285 : Ref sig .tc := ⟨.hbm, 435, rfl⟩
abbrev main_v286 : Ref sig .tc := ⟨.hbm, 436, rfl⟩
abbrev main_v287 : Ref sig .tc := ⟨.hbm, 437, rfl⟩
abbrev main_v288 : Ref sig .tc := ⟨.hbm, 438, rfl⟩
abbrev main_v289 : Ref sig .tc := ⟨.hbm, 439, rfl⟩
abbrev main_c_136 : Ref sig .tc := ⟨.hbm, 440, rfl⟩
abbrev main_v290 : Ref sig .tc := ⟨.hbm, 441, rfl⟩
abbrev main_c_137 : Ref sig .tc := ⟨.hbm, 442, rfl⟩
abbrev main_v291 : Ref sig .tc := ⟨.hbm, 443, rfl⟩
abbrev main_c_138 : Ref sig .tc := ⟨.hbm, 444, rfl⟩
abbrev main_v292 : Ref sig .tc := ⟨.hbm, 445, rfl⟩
abbrev main_c_139 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_c_140 : Ref sig .tc := ⟨.hbm, 452, rfl⟩
abbrev main_v298 : Ref sig .tc := ⟨.hbm, 453, rfl⟩
abbrev main_c_141 : Ref sig .tc := ⟨.hbm, 454, rfl⟩
abbrev main_v299 : Ref sig .tc := ⟨.hbm, 455, rfl⟩
abbrev main_c_142 : Ref sig .tc := ⟨.hbm, 456, rfl⟩
abbrev main_v300 : Ref sig .tc := ⟨.hbm, 457, rfl⟩
abbrev main_c_143 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_c_144 : Ref sig .tc := ⟨.hbm, 464, rfl⟩
abbrev main_v306 : Ref sig .tc := ⟨.hbm, 465, rfl⟩
abbrev main_c_145 : Ref sig .tc := ⟨.hbm, 466, rfl⟩
abbrev main_v307 : Ref sig .tc := ⟨.hbm, 467, rfl⟩
abbrev main_c_146 : Ref sig .tc := ⟨.hbm, 468, rfl⟩
abbrev main_v308 : Ref sig .tc := ⟨.hbm, 469, rfl⟩
abbrev main_c_147 : Ref sig .tc := ⟨.hbm, 470, rfl⟩
abbrev main_v309 : Ref sig .tc := ⟨.hbm, 471, rfl⟩
abbrev main_v310 : Ref sig .tc := ⟨.hbm, 472, rfl⟩
abbrev main_v311 : Ref sig .tc := ⟨.hbm, 473, rfl⟩
abbrev main_v312 : Ref sig .tc := ⟨.hbm, 474, rfl⟩
abbrev main_v313 : Ref sig .tc := ⟨.hbm, 475, rfl⟩
abbrev main_c_148 : Ref sig .tc := ⟨.hbm, 476, rfl⟩
abbrev main_v314 : Ref sig .tc := ⟨.hbm, 477, rfl⟩
abbrev main_c_149 : Ref sig .tc := ⟨.hbm, 478, rfl⟩
abbrev main_v315 : Ref sig .tc := ⟨.hbm, 479, rfl⟩
abbrev main_c_150 : Ref sig .tc := ⟨.hbm, 480, rfl⟩
abbrev main_v316 : Ref sig .tc := ⟨.hbm, 481, rfl⟩
abbrev main_c_151 : Ref sig .tc := ⟨.hbm, 482, rfl⟩
abbrev main_v317 : Ref sig .tc := ⟨.hbm, 483, rfl⟩
abbrev main_v318 : Ref sig .tc := ⟨.hbm, 484, rfl⟩
abbrev main_v319 : Ref sig .tc := ⟨.hbm, 485, rfl⟩
abbrev main_v320 : Ref sig .tc := ⟨.hbm, 486, rfl⟩
abbrev main_v321 : Ref sig .tc := ⟨.hbm, 487, rfl⟩
abbrev main_c_152 : Ref sig .tc := ⟨.hbm, 488, rfl⟩
abbrev main_v322 : Ref sig .tc := ⟨.hbm, 489, rfl⟩
abbrev main_c_153 : Ref sig .tc := ⟨.hbm, 490, rfl⟩
abbrev main_v323 : Ref sig .tc := ⟨.hbm, 491, rfl⟩
abbrev main_c_154 : Ref sig .tc := ⟨.hbm, 492, rfl⟩
abbrev main_v324 : Ref sig .tc := ⟨.hbm, 493, rfl⟩
abbrev main_c_155 : Ref sig .tc := ⟨.hbm, 494, rfl⟩
abbrev main_v325 : Ref sig .tc := ⟨.hbm, 495, rfl⟩
abbrev main_v326 : Ref sig .tc := ⟨.hbm, 496, rfl⟩
abbrev main_v327 : Ref sig .tc := ⟨.hbm, 497, rfl⟩
abbrev main_v328 : Ref sig .tc := ⟨.hbm, 498, rfl⟩
abbrev main_v329 : Ref sig .tc := ⟨.hbm, 499, rfl⟩
abbrev main_c_156 : Ref sig .tc := ⟨.hbm, 500, rfl⟩
abbrev main_v330 : Ref sig .tc := ⟨.hbm, 501, rfl⟩
abbrev main_c_157 : Ref sig .tc := ⟨.hbm, 502, rfl⟩
abbrev main_v331 : Ref sig .tc := ⟨.hbm, 503, rfl⟩
abbrev main_c_158 : Ref sig .tc := ⟨.hbm, 504, rfl⟩
abbrev main_v332 : Ref sig .tc := ⟨.hbm, 505, rfl⟩
abbrev main_c_159 : Ref sig .tc := ⟨.hbm, 506, rfl⟩
abbrev main_v333 : Ref sig .tc := ⟨.hbm, 507, rfl⟩
abbrev main_v334 : Ref sig .tc := ⟨.hbm, 508, rfl⟩
abbrev main_v335 : Ref sig .tc := ⟨.hbm, 509, rfl⟩
abbrev main_v336 : Ref sig .tc := ⟨.hbm, 510, rfl⟩
abbrev main_v337 : Ref sig .tc := ⟨.hbm, 511, rfl⟩
abbrev main_c_160 : Ref sig .tc := ⟨.hbm, 512, rfl⟩
abbrev main_v338 : Ref sig .tc := ⟨.hbm, 513, rfl⟩
abbrev main_c_161 : Ref sig .tc := ⟨.hbm, 514, rfl⟩
abbrev main_v339 : Ref sig .tc := ⟨.hbm, 515, rfl⟩
abbrev main_c_162 : Ref sig .tc := ⟨.hbm, 516, rfl⟩
abbrev main_v340 : Ref sig .tc := ⟨.hbm, 517, rfl⟩
abbrev main_c_163 : Ref sig .tc := ⟨.hbm, 518, rfl⟩
abbrev main_v341 : Ref sig .tc := ⟨.hbm, 519, rfl⟩
abbrev main_v342 : Ref sig .tc := ⟨.hbm, 520, rfl⟩
abbrev main_v343 : Ref sig .tc := ⟨.hbm, 521, rfl⟩
abbrev main_v344 : Ref sig .tc := ⟨.hbm, 522, rfl⟩
abbrev main_v345 : Ref sig .tc := ⟨.hbm, 523, rfl⟩
abbrev main_c_164 : Ref sig .tc := ⟨.hbm, 524, rfl⟩
abbrev main_v346 : Ref sig .tc := ⟨.hbm, 525, rfl⟩
abbrev main_c_165 : Ref sig .tc := ⟨.hbm, 526, rfl⟩
abbrev main_v347 : Ref sig .tc := ⟨.hbm, 527, rfl⟩
abbrev main_c_166 : Ref sig .tc := ⟨.hbm, 528, rfl⟩
abbrev main_v348 : Ref sig .tc := ⟨.hbm, 529, rfl⟩
abbrev main_c_167 : Ref sig .tc := ⟨.hbm, 530, rfl⟩
abbrev main_v349 : Ref sig .tc := ⟨.hbm, 531, rfl⟩
abbrev main_v350 : Ref sig .tc := ⟨.hbm, 532, rfl⟩
abbrev main_v351 : Ref sig .tc := ⟨.hbm, 533, rfl⟩
abbrev main_v352 : Ref sig .tc := ⟨.hbm, 534, rfl⟩
abbrev main_v353 : Ref sig .tc := ⟨.hbm, 535, rfl⟩
abbrev main_c_168 : Ref sig .tc := ⟨.hbm, 536, rfl⟩
abbrev main_v354 : Ref sig .tc := ⟨.hbm, 537, rfl⟩
abbrev main_c_169 : Ref sig .tc := ⟨.hbm, 538, rfl⟩
abbrev main_v355 : Ref sig .tc := ⟨.hbm, 539, rfl⟩
abbrev main_c_170 : Ref sig .tc := ⟨.hbm, 540, rfl⟩
abbrev main_v356 : Ref sig .tc := ⟨.hbm, 541, rfl⟩
abbrev main_c_171 : Ref sig .tc := ⟨.hbm, 542, rfl⟩
abbrev main_v357 : Ref sig .tc := ⟨.hbm, 543, rfl⟩
abbrev main_v358 : Ref sig .tc := ⟨.hbm, 544, rfl⟩
abbrev main_v359 : Ref sig .tc := ⟨.hbm, 545, rfl⟩
abbrev main_v360 : Ref sig .tc := ⟨.hbm, 546, rfl⟩
abbrev main_v361 : Ref sig .tc := ⟨.hbm, 547, rfl⟩
abbrev main_c_172 : Ref sig .tc := ⟨.hbm, 548, rfl⟩
abbrev main_v362 : Ref sig .tc := ⟨.hbm, 549, rfl⟩
abbrev main_c_173 : Ref sig .tc := ⟨.hbm, 550, rfl⟩
abbrev main_v363 : Ref sig .tc := ⟨.hbm, 551, rfl⟩
abbrev main_c_174 : Ref sig .tc := ⟨.hbm, 552, rfl⟩
abbrev main_v364 : Ref sig .tc := ⟨.hbm, 553, rfl⟩
abbrev main_c_175 : Ref sig .tc := ⟨.hbm, 554, rfl⟩
abbrev main_v365 : Ref sig .tc := ⟨.hbm, 555, rfl⟩
abbrev main_v366 : Ref sig .tc := ⟨.hbm, 556, rfl⟩
abbrev main_v367 : Ref sig .tc := ⟨.hbm, 557, rfl⟩
abbrev main_v368 : Ref sig .tc := ⟨.hbm, 558, rfl⟩
abbrev main_v369 : Ref sig .tc := ⟨.hbm, 559, rfl⟩
abbrev main_c_176 : Ref sig .tc := ⟨.hbm, 560, rfl⟩
abbrev main_v370 : Ref sig .tc := ⟨.hbm, 561, rfl⟩
abbrev main_c_177 : Ref sig .tc := ⟨.hbm, 562, rfl⟩
abbrev main_v371 : Ref sig .tc := ⟨.hbm, 563, rfl⟩
abbrev main_c_178 : Ref sig .tc := ⟨.hbm, 564, rfl⟩
abbrev main_v372 : Ref sig .tc := ⟨.hbm, 565, rfl⟩
abbrev main_c_179 : Ref sig .tc := ⟨.hbm, 566, rfl⟩
abbrev main_v373 : Ref sig .tc := ⟨.hbm, 567, rfl⟩
abbrev main_v374 : Ref sig .tc := ⟨.hbm, 568, rfl⟩
abbrev main_v375 : Ref sig .tc := ⟨.hbm, 569, rfl⟩
abbrev main_v376 : Ref sig .tc := ⟨.hbm, 570, rfl⟩
abbrev main_v377 : Ref sig .tc := ⟨.hbm, 571, rfl⟩
abbrev main_c_180 : Ref sig .tc := ⟨.hbm, 572, rfl⟩
abbrev main_v378 : Ref sig .tc := ⟨.hbm, 573, rfl⟩
abbrev main_c_181 : Ref sig .tc := ⟨.hbm, 574, rfl⟩
abbrev main_v379 : Ref sig .tc := ⟨.hbm, 575, rfl⟩
abbrev main_c_182 : Ref sig .tc := ⟨.hbm, 576, rfl⟩
abbrev main_v380 : Ref sig .tc := ⟨.hbm, 577, rfl⟩
abbrev main_c_183 : Ref sig .tc := ⟨.hbm, 578, rfl⟩
abbrev main_v381 : Ref sig .tc := ⟨.hbm, 579, rfl⟩
abbrev main_v382 : Ref sig .tc := ⟨.hbm, 580, rfl⟩
abbrev main_v383 : Ref sig .tc := ⟨.hbm, 581, rfl⟩
abbrev main_v384 : Ref sig .tc := ⟨.hbm, 582, rfl⟩
abbrev main_v385 : Ref sig .tc := ⟨.hbm, 583, rfl⟩
abbrev main_c_184 : Ref sig .tc := ⟨.hbm, 584, rfl⟩
abbrev main_v386 : Ref sig .tc := ⟨.hbm, 585, rfl⟩
abbrev main_c_185 : Ref sig .tc := ⟨.hbm, 586, rfl⟩
abbrev main_v387 : Ref sig .tc := ⟨.hbm, 587, rfl⟩
abbrev main_c_186 : Ref sig .tc := ⟨.hbm, 588, rfl⟩
abbrev main_v388 : Ref sig .tc := ⟨.hbm, 589, rfl⟩
abbrev main_c_187 : Ref sig .tc := ⟨.hbm, 590, rfl⟩
abbrev main_v389 : Ref sig .tc := ⟨.hbm, 591, rfl⟩
abbrev main_v390 : Ref sig .tc := ⟨.hbm, 592, rfl⟩
abbrev main_v391 : Ref sig .tc := ⟨.hbm, 593, rfl⟩
abbrev main_v392 : Ref sig .tc := ⟨.hbm, 594, rfl⟩
abbrev main_v393 : Ref sig .tc := ⟨.hbm, 595, rfl⟩
abbrev main_c_188 : Ref sig .tc := ⟨.hbm, 596, rfl⟩
abbrev main_v394 : Ref sig .tc := ⟨.hbm, 597, rfl⟩
abbrev main_c_189 : Ref sig .tc := ⟨.hbm, 598, rfl⟩
abbrev main_v395 : Ref sig .tc := ⟨.hbm, 599, rfl⟩
abbrev main_c_190 : Ref sig .tc := ⟨.hbm, 600, rfl⟩
abbrev main_v396 : Ref sig .tc := ⟨.hbm, 601, rfl⟩
abbrev main_c_191 : Ref sig .tc := ⟨.hbm, 602, rfl⟩
abbrev main_v397 : Ref sig .tc := ⟨.hbm, 603, rfl⟩
abbrev main_v398 : Ref sig .tc := ⟨.hbm, 604, rfl⟩
abbrev main_v399 : Ref sig .tc := ⟨.hbm, 605, rfl⟩
abbrev main_v400 : Ref sig .tc := ⟨.hbm, 606, rfl⟩
abbrev main_v401 : Ref sig .tc := ⟨.hbm, 607, rfl⟩
abbrev main_c_192 : Ref sig .tc := ⟨.hbm, 608, rfl⟩
abbrev main_v402 : Ref sig .tc := ⟨.hbm, 609, rfl⟩
abbrev main_c_193 : Ref sig .tc := ⟨.hbm, 610, rfl⟩
abbrev main_v403 : Ref sig .tc := ⟨.hbm, 611, rfl⟩
abbrev main_c_194 : Ref sig .tc := ⟨.hbm, 612, rfl⟩
abbrev main_v404 : Ref sig .tc := ⟨.hbm, 613, rfl⟩
abbrev main_c_195 : Ref sig .tc := ⟨.hbm, 614, rfl⟩
abbrev main_v405 : Ref sig .tc := ⟨.hbm, 615, rfl⟩
abbrev main_v406 : Ref sig .tc := ⟨.hbm, 616, rfl⟩
abbrev main_v407 : Ref sig .tc := ⟨.hbm, 617, rfl⟩
abbrev main_v408 : Ref sig .tc := ⟨.hbm, 618, rfl⟩
abbrev main_v409 : Ref sig .tc := ⟨.hbm, 619, rfl⟩
abbrev main_v410 : Ref sig .tc := ⟨.hbm, 620, rfl⟩
abbrev main_v411 : Ref sig .tc := ⟨.hbm, 621, rfl⟩
abbrev main_v412 : Ref sig .tc := ⟨.hbm, 622, rfl⟩
abbrev main_v413 : Ref sig .tc := ⟨.hbm, 623, rfl⟩
abbrev main_v414 : Ref sig .tc := ⟨.hbm, 624, rfl⟩
abbrev main_v415 : Ref sig .tc := ⟨.hbm, 625, rfl⟩
abbrev main_v416 : Ref sig .tc := ⟨.hbm, 626, rfl⟩
abbrev main_c_196 : Ref sig .tc := ⟨.hbm, 627, rfl⟩
abbrev main_call3_v0 : Ref sig .tc := ⟨.hbm, 628, rfl⟩
abbrev main_v417 : Ref sig .tc := ⟨.hbm, 629, rfl⟩
abbrev main_cst_197 : Ref sig .tc := ⟨.hbm, 630, rfl⟩
abbrev main_v418 : Ref sig .tc := ⟨.hbm, 631, rfl⟩
abbrev main_v419 : Ref sig .tc := ⟨.hbm, 632, rfl⟩
abbrev main_v420 : Ref sig .tc := ⟨.hbm, 633, rfl⟩
abbrev main_c_198 : Ref sig .tc := ⟨.hbm, 634, rfl⟩
abbrev main_v421 : Ref sig .tc := ⟨.hbm, 635, rfl⟩
abbrev main_c_199 : Ref sig .tc := ⟨.hbm, 636, rfl⟩
abbrev main_v422 : Ref sig .tc := ⟨.hbm, 637, rfl⟩
abbrev main_c_200 : Ref sig .tc := ⟨.hbm, 638, rfl⟩
abbrev main_v423 : Ref sig .tc := ⟨.hbm, 639, rfl⟩
abbrev main_c_201 : Ref sig .tc := ⟨.hbm, 640, rfl⟩
abbrev main_v424 : Ref sig .tc := ⟨.hbm, 641, rfl⟩
abbrev main_v425 : Ref sig .tc := ⟨.hbm, 642, rfl⟩
abbrev main_v426 : Ref sig .tc := ⟨.hbm, 643, rfl⟩
abbrev main_v427 : Ref sig .tc := ⟨.hbm, 644, rfl⟩
abbrev main_v428 : Ref sig .tc := ⟨.hbm, 645, rfl⟩
abbrev main_c_202 : Ref sig .tc := ⟨.hbm, 646, rfl⟩
abbrev main_v429 : Ref sig .tc := ⟨.hbm, 647, rfl⟩
abbrev main_c_203 : Ref sig .tc := ⟨.hbm, 648, rfl⟩
abbrev main_v430 : Ref sig .tc := ⟨.hbm, 649, rfl⟩
abbrev main_c_204 : Ref sig .tc := ⟨.hbm, 650, rfl⟩
abbrev main_v431 : Ref sig .tc := ⟨.hbm, 651, rfl⟩
abbrev main_c_205 : Ref sig .tc := ⟨.hbm, 652, rfl⟩
abbrev main_v432 : Ref sig .tc := ⟨.hbm, 653, rfl⟩
abbrev main_v433 : Ref sig .tc := ⟨.hbm, 654, rfl⟩
abbrev main_v434 : Ref sig .tc := ⟨.hbm, 655, rfl⟩
abbrev main_v435 : Ref sig .tc := ⟨.hbm, 656, rfl⟩
abbrev main_v436 : Ref sig .tc := ⟨.hbm, 657, rfl⟩
abbrev main_c_206 : Ref sig .tc := ⟨.hbm, 658, rfl⟩
abbrev main_v437 : Ref sig .tc := ⟨.hbm, 659, rfl⟩
abbrev main_c_207 : Ref sig .tc := ⟨.hbm, 660, rfl⟩
abbrev main_v438 : Ref sig .tc := ⟨.hbm, 661, rfl⟩
abbrev main_c_208 : Ref sig .tc := ⟨.hbm, 662, rfl⟩
abbrev main_v439 : Ref sig .tc := ⟨.hbm, 663, rfl⟩
abbrev main_c_209 : Ref sig .tc := ⟨.hbm, 664, rfl⟩
abbrev main_v440 : Ref sig .tc := ⟨.hbm, 665, rfl⟩
abbrev main_v441 : Ref sig .tc := ⟨.hbm, 666, rfl⟩
abbrev main_v442 : Ref sig .tc := ⟨.hbm, 667, rfl⟩
abbrev main_v443 : Ref sig .tc := ⟨.hbm, 668, rfl⟩
abbrev main_v444 : Ref sig .tc := ⟨.hbm, 669, rfl⟩
abbrev main_c_210 : Ref sig .tc := ⟨.hbm, 670, rfl⟩
abbrev main_v445 : Ref sig .tc := ⟨.hbm, 671, rfl⟩
abbrev main_c_211 : Ref sig .tc := ⟨.hbm, 672, rfl⟩
abbrev main_v446 : Ref sig .tc := ⟨.hbm, 673, rfl⟩
abbrev main_c_212 : Ref sig .tc := ⟨.hbm, 674, rfl⟩
abbrev main_v447 : Ref sig .tc := ⟨.hbm, 675, rfl⟩
abbrev main_c_213 : Ref sig .tc := ⟨.hbm, 676, rfl⟩
abbrev main_v448 : Ref sig .tc := ⟨.hbm, 677, rfl⟩
abbrev main_v449 : Ref sig .tc := ⟨.hbm, 678, rfl⟩
abbrev main_v450 : Ref sig .tc := ⟨.hbm, 679, rfl⟩
abbrev main_v451 : Ref sig .tc := ⟨.hbm, 680, rfl⟩
abbrev main_v452 : Ref sig .tc := ⟨.hbm, 681, rfl⟩
abbrev main_c_214 : Ref sig .tc := ⟨.hbm, 682, rfl⟩
abbrev main_v453 : Ref sig .tc := ⟨.hbm, 683, rfl⟩
abbrev main_c_215 : Ref sig .tc := ⟨.hbm, 684, rfl⟩
abbrev main_v454 : Ref sig .tc := ⟨.hbm, 685, rfl⟩
abbrev main_c_216 : Ref sig .tc := ⟨.hbm, 686, rfl⟩
abbrev main_v455 : Ref sig .tc := ⟨.hbm, 687, rfl⟩
abbrev main_c_217 : Ref sig .tc := ⟨.hbm, 688, rfl⟩
abbrev main_v456 : Ref sig .tc := ⟨.hbm, 689, rfl⟩
abbrev main_v457 : Ref sig .tc := ⟨.hbm, 690, rfl⟩
abbrev main_v458 : Ref sig .tc := ⟨.hbm, 691, rfl⟩
abbrev main_v459 : Ref sig .tc := ⟨.hbm, 692, rfl⟩
abbrev main_v460 : Ref sig .tc := ⟨.hbm, 693, rfl⟩
abbrev main_c_218 : Ref sig .tc := ⟨.hbm, 694, rfl⟩
abbrev main_v461 : Ref sig .tc := ⟨.hbm, 695, rfl⟩
abbrev main_c_219 : Ref sig .tc := ⟨.hbm, 696, rfl⟩
abbrev main_v462 : Ref sig .tc := ⟨.hbm, 697, rfl⟩
abbrev main_c_220 : Ref sig .tc := ⟨.hbm, 698, rfl⟩
abbrev main_v463 : Ref sig .tc := ⟨.hbm, 699, rfl⟩
abbrev main_c_221 : Ref sig .tc := ⟨.hbm, 700, rfl⟩
abbrev main_v464 : Ref sig .tc := ⟨.hbm, 701, rfl⟩
abbrev main_v465 : Ref sig .tc := ⟨.hbm, 702, rfl⟩
abbrev main_v466 : Ref sig .tc := ⟨.hbm, 703, rfl⟩
abbrev main_v467 : Ref sig .tc := ⟨.hbm, 704, rfl⟩
abbrev main_v468 : Ref sig .tc := ⟨.hbm, 705, rfl⟩
abbrev main_c_222 : Ref sig .tc := ⟨.hbm, 706, rfl⟩
abbrev main_v469 : Ref sig .tc := ⟨.hbm, 707, rfl⟩
abbrev main_c_223 : Ref sig .tc := ⟨.hbm, 708, rfl⟩
abbrev main_v470 : Ref sig .tc := ⟨.hbm, 709, rfl⟩
abbrev main_c_224 : Ref sig .tc := ⟨.hbm, 710, rfl⟩
abbrev main_v471 : Ref sig .tc := ⟨.hbm, 711, rfl⟩
abbrev main_c_225 : Ref sig .tc := ⟨.hbm, 712, rfl⟩
abbrev main_v472 : Ref sig .tc := ⟨.hbm, 713, rfl⟩
abbrev main_v473 : Ref sig .tc := ⟨.hbm, 714, rfl⟩
abbrev main_v474 : Ref sig .tc := ⟨.hbm, 715, rfl⟩
abbrev main_v475 : Ref sig .tc := ⟨.hbm, 716, rfl⟩
abbrev main_v476 : Ref sig .tc := ⟨.hbm, 717, rfl⟩
abbrev main_c_226 : Ref sig .tc := ⟨.hbm, 718, rfl⟩
abbrev main_v477 : Ref sig .tc := ⟨.hbm, 719, rfl⟩
abbrev main_c_227 : Ref sig .tc := ⟨.hbm, 720, rfl⟩
abbrev main_v478 : Ref sig .tc := ⟨.hbm, 721, rfl⟩
abbrev main_c_228 : Ref sig .tc := ⟨.hbm, 722, rfl⟩
abbrev main_v479 : Ref sig .tc := ⟨.hbm, 723, rfl⟩
abbrev main_c_229 : Ref sig .tc := ⟨.hbm, 724, rfl⟩
abbrev main_v480 : Ref sig .tc := ⟨.hbm, 725, rfl⟩
abbrev main_v481 : Ref sig .tc := ⟨.hbm, 726, rfl⟩
abbrev main_v482 : Ref sig .tc := ⟨.hbm, 727, rfl⟩
abbrev main_v483 : Ref sig .tc := ⟨.hbm, 728, rfl⟩
abbrev main_v484 : Ref sig .tc := ⟨.hbm, 729, rfl⟩
abbrev main_c_230 : Ref sig .tc := ⟨.hbm, 730, rfl⟩
abbrev main_v485 : Ref sig .tc := ⟨.hbm, 731, rfl⟩
abbrev main_c_231 : Ref sig .tc := ⟨.hbm, 732, rfl⟩
abbrev main_v486 : Ref sig .tc := ⟨.hbm, 733, rfl⟩
abbrev main_c_232 : Ref sig .tc := ⟨.hbm, 734, rfl⟩
abbrev main_v487 : Ref sig .tc := ⟨.hbm, 735, rfl⟩
abbrev main_c_233 : Ref sig .tc := ⟨.hbm, 736, rfl⟩
abbrev main_v488 : Ref sig .tc := ⟨.hbm, 737, rfl⟩
abbrev main_v489 : Ref sig .tc := ⟨.hbm, 738, rfl⟩
abbrev main_v490 : Ref sig .tc := ⟨.hbm, 739, rfl⟩
abbrev main_v491 : Ref sig .tc := ⟨.hbm, 740, rfl⟩
abbrev main_v492 : Ref sig .tc := ⟨.hbm, 741, rfl⟩
abbrev main_c_234 : Ref sig .tc := ⟨.hbm, 742, rfl⟩
abbrev main_v493 : Ref sig .tc := ⟨.hbm, 743, rfl⟩
abbrev main_c_235 : Ref sig .tc := ⟨.hbm, 744, rfl⟩
abbrev main_v494 : Ref sig .tc := ⟨.hbm, 745, rfl⟩
abbrev main_c_236 : Ref sig .tc := ⟨.hbm, 746, rfl⟩
abbrev main_v495 : Ref sig .tc := ⟨.hbm, 747, rfl⟩
abbrev main_c_237 : Ref sig .tc := ⟨.hbm, 748, rfl⟩
abbrev main_v496 : Ref sig .tc := ⟨.hbm, 749, rfl⟩
abbrev main_v497 : Ref sig .tc := ⟨.hbm, 750, rfl⟩
abbrev main_v498 : Ref sig .tc := ⟨.hbm, 751, rfl⟩
abbrev main_v499 : Ref sig .tc := ⟨.hbm, 752, rfl⟩
abbrev main_v500 : Ref sig .tc := ⟨.hbm, 753, rfl⟩
abbrev main_c_238 : Ref sig .tc := ⟨.hbm, 754, rfl⟩
abbrev main_v501 : Ref sig .tc := ⟨.hbm, 755, rfl⟩
abbrev main_c_239 : Ref sig .tc := ⟨.hbm, 756, rfl⟩
abbrev main_v502 : Ref sig .tc := ⟨.hbm, 757, rfl⟩
abbrev main_c_240 : Ref sig .tc := ⟨.hbm, 758, rfl⟩
abbrev main_v503 : Ref sig .tc := ⟨.hbm, 759, rfl⟩
abbrev main_c_241 : Ref sig .tc := ⟨.hbm, 760, rfl⟩
abbrev main_v504 : Ref sig .tc := ⟨.hbm, 761, rfl⟩
abbrev main_v505 : Ref sig .tc := ⟨.hbm, 762, rfl⟩
abbrev main_v506 : Ref sig .tc := ⟨.hbm, 763, rfl⟩
abbrev main_v507 : Ref sig .tc := ⟨.hbm, 764, rfl⟩
abbrev main_v508 : Ref sig .tc := ⟨.hbm, 765, rfl⟩
abbrev main_c_242 : Ref sig .tc := ⟨.hbm, 766, rfl⟩
abbrev main_v509 : Ref sig .tc := ⟨.hbm, 767, rfl⟩
abbrev main_c_243 : Ref sig .tc := ⟨.hbm, 768, rfl⟩
abbrev main_v510 : Ref sig .tc := ⟨.hbm, 769, rfl⟩
abbrev main_c_244 : Ref sig .tc := ⟨.hbm, 770, rfl⟩
abbrev main_v511 : Ref sig .tc := ⟨.hbm, 771, rfl⟩
abbrev main_c_245 : Ref sig .tc := ⟨.hbm, 772, rfl⟩
abbrev main_v512 : Ref sig .tc := ⟨.hbm, 773, rfl⟩
abbrev main_v513 : Ref sig .tc := ⟨.hbm, 774, rfl⟩
abbrev main_v514 : Ref sig .tc := ⟨.hbm, 775, rfl⟩
abbrev main_v515 : Ref sig .tc := ⟨.hbm, 776, rfl⟩
abbrev main_v516 : Ref sig .tc := ⟨.hbm, 777, rfl⟩
abbrev main_c_246 : Ref sig .tc := ⟨.hbm, 778, rfl⟩
abbrev main_v517 : Ref sig .tc := ⟨.hbm, 779, rfl⟩
abbrev main_c_247 : Ref sig .tc := ⟨.hbm, 780, rfl⟩
abbrev main_v518 : Ref sig .tc := ⟨.hbm, 781, rfl⟩
abbrev main_c_248 : Ref sig .tc := ⟨.hbm, 782, rfl⟩
abbrev main_v519 : Ref sig .tc := ⟨.hbm, 783, rfl⟩
abbrev main_c_249 : Ref sig .tc := ⟨.hbm, 784, rfl⟩
abbrev main_v520 : Ref sig .tc := ⟨.hbm, 785, rfl⟩
abbrev main_v521 : Ref sig .tc := ⟨.hbm, 786, rfl⟩
abbrev main_v522 : Ref sig .tc := ⟨.hbm, 787, rfl⟩
abbrev main_v523 : Ref sig .tc := ⟨.hbm, 788, rfl⟩
abbrev main_v524 : Ref sig .tc := ⟨.hbm, 789, rfl⟩
abbrev main_c_250 : Ref sig .tc := ⟨.hbm, 790, rfl⟩
abbrev main_v525 : Ref sig .tc := ⟨.hbm, 791, rfl⟩
abbrev main_c_251 : Ref sig .tc := ⟨.hbm, 792, rfl⟩
abbrev main_v526 : Ref sig .tc := ⟨.hbm, 793, rfl⟩
abbrev main_c_252 : Ref sig .tc := ⟨.hbm, 794, rfl⟩
abbrev main_v527 : Ref sig .tc := ⟨.hbm, 795, rfl⟩
abbrev main_c_253 : Ref sig .tc := ⟨.hbm, 796, rfl⟩
abbrev main_v528 : Ref sig .tc := ⟨.hbm, 797, rfl⟩
abbrev main_v529 : Ref sig .tc := ⟨.hbm, 798, rfl⟩
abbrev main_v530 : Ref sig .tc := ⟨.hbm, 799, rfl⟩
abbrev main_v531 : Ref sig .tc := ⟨.hbm, 800, rfl⟩
abbrev main_v532 : Ref sig .tc := ⟨.hbm, 801, rfl⟩
abbrev main_c_254 : Ref sig .tc := ⟨.hbm, 802, rfl⟩
abbrev main_v533 : Ref sig .tc := ⟨.hbm, 803, rfl⟩
abbrev main_c_255 : Ref sig .tc := ⟨.hbm, 804, rfl⟩
abbrev main_v534 : Ref sig .tc := ⟨.hbm, 805, rfl⟩
abbrev main_c_256 : Ref sig .tc := ⟨.hbm, 806, rfl⟩
abbrev main_v535 : Ref sig .tc := ⟨.hbm, 807, rfl⟩
abbrev main_c_257 : Ref sig .tc := ⟨.hbm, 808, rfl⟩
abbrev main_v536 : Ref sig .tc := ⟨.hbm, 809, rfl⟩
abbrev main_v537 : Ref sig .tc := ⟨.hbm, 810, rfl⟩
abbrev main_v538 : Ref sig .tc := ⟨.hbm, 811, rfl⟩
abbrev main_v539 : Ref sig .tc := ⟨.hbm, 812, rfl⟩
abbrev main_v540 : Ref sig .tc := ⟨.hbm, 813, rfl⟩
abbrev main_c_258 : Ref sig .tc := ⟨.hbm, 814, rfl⟩
abbrev main_v541 : Ref sig .tc := ⟨.hbm, 815, rfl⟩
abbrev main_c_259 : Ref sig .tc := ⟨.hbm, 816, rfl⟩
abbrev main_v542 : Ref sig .tc := ⟨.hbm, 817, rfl⟩
abbrev main_c_260 : Ref sig .tc := ⟨.hbm, 818, rfl⟩
abbrev main_v543 : Ref sig .tc := ⟨.hbm, 819, rfl⟩
abbrev main_c_261 : Ref sig .tc := ⟨.hbm, 820, rfl⟩
abbrev main_v544 : Ref sig .tc := ⟨.hbm, 821, rfl⟩
abbrev main_v545 : Ref sig .tc := ⟨.hbm, 822, rfl⟩
abbrev main_v546 : Ref sig .tc := ⟨.hbm, 823, rfl⟩
abbrev main_v547 : Ref sig .tc := ⟨.hbm, 824, rfl⟩
abbrev main_v548 : Ref sig .tc := ⟨.hbm, 825, rfl⟩
abbrev main_v549 : Ref sig .tc := ⟨.hbm, 826, rfl⟩
abbrev main_v550 : Ref sig .tc := ⟨.hbm, 827, rfl⟩
abbrev main_v551 : Ref sig .tc := ⟨.hbm, 828, rfl⟩
abbrev main_v552 : Ref sig .tc := ⟨.hbm, 829, rfl⟩
abbrev main_v553 : Ref sig .tc := ⟨.hbm, 830, rfl⟩
abbrev main_v554 : Ref sig .tc := ⟨.hbm, 831, rfl⟩
abbrev main_v555 : Ref sig .tc := ⟨.hbm, 832, rfl⟩
abbrev main_v556 : Ref sig .tc := ⟨.hbm, 833, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x14x14x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x30x30x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1152x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x28x28x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x58x58x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S576x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x56x56x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x114x114x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S288x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x112x112x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== DecoderReferenceIdeal.lean ====
abbrev S8x14x14x32 : Shape := ⟨4, ![8, 14, 14, 32]⟩
abbrev S32x128x4x4 : Shape := ⟨4, ![32, 128, 4, 4]⟩
abbrev S128 : Shape := ⟨1, ![128]⟩
abbrev S128x64x4x4 : Shape := ⟨4, ![128, 64, 4, 4]⟩
abbrev S64 : Shape := ⟨1, ![64]⟩
abbrev S64x32x4x4 : Shape := ⟨4, ![64, 32, 4, 4]⟩
abbrev S32 : Shape := ⟨1, ![32]⟩
abbrev S32x1x4x4 : Shape := ⟨4, ![32, 1, 4, 4]⟩
abbrev S1 : Shape := ⟨1, ![1]⟩
abbrev S8x32x14x14 : Shape := ⟨4, ![8, 32, 14, 14]⟩
abbrev S128x32x4x4 : Shape := ⟨4, ![128, 32, 4, 4]⟩
abbrev S_ : Shape := ⟨0, ![]⟩
abbrev S8x32x31x31 : Shape := ⟨4, ![8, 32, 31, 31]⟩
abbrev S8x32x28x31 : Shape := ⟨4, ![8, 32, 28, 31]⟩
abbrev S8x32x1x28x31 : Shape := ⟨5, ![8, 32, 1, 28, 31]⟩
abbrev S8x32x4x28x31 : Shape := ⟨5, ![8, 32, 4, 28, 31]⟩
abbrev S8x32x4x28x28 : Shape := ⟨5, ![8, 32, 4, 28, 28]⟩
abbrev S8x32x4x1x28x28 : Shape := ⟨6, ![8, 32, 4, 1, 28, 28]⟩
abbrev S8x32x4x4x28x28 : Shape := ⟨6, ![8, 32, 4, 4, 28, 28]⟩
abbrev S128x8x28x28 : Shape := ⟨4, ![128, 8, 28, 28]⟩
abbrev S8x128x28x28 : Shape := ⟨4, ![8, 128, 28, 28]⟩
abbrev S1x128x1x1 : Shape := ⟨4, ![1, 128, 1, 1]⟩
abbrev S64x128x4x4 : Shape := ⟨4, ![64, 128, 4, 4]⟩
abbrev S8x128x59x59 : Shape := ⟨4, ![8, 128, 59, 59]⟩
abbrev S8x128x56x59 : Shape := ⟨4, ![8, 128, 56, 59]⟩
abbrev S8x128x1x56x59 : Shape := ⟨5, ![8, 128, 1, 56, 59]⟩
abbrev S8x128x4x56x59 : Shape := ⟨5, ![8, 128, 4, 56, 59]⟩
abbrev S8x128x4x56x56 : Shape := ⟨5, ![8, 128, 4, 56, 56]⟩
abbrev S8x128x4x1x56x56 : Shape := ⟨6, ![8, 128, 4, 1, 56, 56]⟩
abbrev S8x128x4x4x56x56 : Shape := ⟨6, ![8, 128, 4, 4, 56, 56]⟩
abbrev S64x8x56x56 : Shape := ⟨4, ![64, 8, 56, 56]⟩
abbrev S8x64x56x56 : Shape := ⟨4, ![8, 64, 56, 56]⟩
abbrev S1x64x1x1 : Shape := ⟨4, ![1, 64, 1, 1]⟩
abbrev S32x64x4x4 : Shape := ⟨4, ![32, 64, 4, 4]⟩
abbrev S8x64x115x115 : Shape := ⟨4, ![8, 64, 115, 115]⟩
abbrev S8x64x112x115 : Shape := ⟨4, ![8, 64, 112, 115]⟩
abbrev S8x64x1x112x115 : Shape := ⟨5, ![8, 64, 1, 112, 115]⟩
abbrev S8x64x4x112x115 : Shape := ⟨5, ![8, 64, 4, 112, 115]⟩
abbrev S8x64x4x112x112 : Shape := ⟨5, ![8, 64, 4, 112, 112]⟩
abbrev S8x64x4x1x112x112 : Shape := ⟨6, ![8, 64, 4, 1, 112, 112]⟩
abbrev S8x64x4x4x112x112 : Shape := ⟨6, ![8, 64, 4, 4, 112, 112]⟩
abbrev S32x8x112x112 : Shape := ⟨4, ![32, 8, 112, 112]⟩
abbrev S8x32x112x112 : Shape := ⟨4, ![8, 32, 112, 112]⟩
abbrev S1x32x1x1 : Shape := ⟨4, ![1, 32, 1, 1]⟩
abbrev S1x32x4x4 : Shape := ⟨4, ![1, 32, 4, 4]⟩
abbrev S8x32x227x227 : Shape := ⟨4, ![8, 32, 227, 227]⟩
abbrev S8x32x224x227 : Shape := ⟨4, ![8, 32, 224, 227]⟩
abbrev S8x32x1x224x227 : Shape := ⟨5, ![8, 32, 1, 224, 227]⟩
abbrev S8x32x4x224x227 : Shape := ⟨5, ![8, 32, 4, 224, 227]⟩
abbrev S8x32x4x224x224 : Shape := ⟨5, ![8, 32, 4, 224, 224]⟩
abbrev S8x32x4x1x224x224 : Shape := ⟨6, ![8, 32, 4, 1, 224, 224]⟩
abbrev S8x32x4x4x224x224 : Shape := ⟨6, ![8, 32, 4, 4, 224, 224]⟩
abbrev S1x8x224x224 : Shape := ⟨4, ![1, 8, 224, 224]⟩
abbrev S8x1x224x224 : Shape := ⟨4, ![8, 1, 224, 224]⟩
abbrev S1x1x1x1 : Shape := ⟨4, ![1, 1, 1, 1]⟩
abbrev S8x1x1x224x224 : Shape := ⟨5, ![8, 1, 1, 224, 224]⟩

abbrev nBuf : Space → Nat
  | .hbm => 129
  | .vmem => 0
  | .smem => 0
  | _ => 0

abbrev hbmTy0_0 (i : Nat) : BufTy := match i % 128 with
  | 0 => ⟨S8x14x14x32, .f32⟩
  | 1 => ⟨S32x128x4x4, .f32⟩
  | 2 => ⟨S128, .f32⟩
  | 3 => ⟨S128x64x4x4, .f32⟩
  | 4 => ⟨S64, .f32⟩
  | 5 => ⟨S64x32x4x4, .f32⟩
  | 6 => ⟨S32, .f32⟩
  | 7 => ⟨S32x1x4x4, .f32⟩
  | 8 => ⟨S1, .f32⟩
  | 9 => ⟨S8x32x14x14, .f32⟩
  | 10 => ⟨S128x32x4x4, .f32⟩
  | 11 => ⟨S128x32x4x4, .f32⟩
  | 12 => ⟨S_, .f32⟩
  | 13 => ⟨S8x32x31x31, .f32⟩
  | 14 => ⟨S8x32x28x31, .f32⟩
  | 15 => ⟨S8x32x28x31, .f32⟩
  | 16 => ⟨S8x32x28x31, .f32⟩
  | 17 => ⟨S8x32x28x31, .f32⟩
  | 18 => ⟨S8x32x1x28x31, .f32⟩
  | 19 => ⟨S8x32x1x28x31, .f32⟩
  | 20 => ⟨S8x32x1x28x31, .f32⟩
  | 21 => ⟨S8x32x1x28x31, .f32⟩
  | 22 => ⟨S8x32x4x28x31, .f32⟩
  | 23 => ⟨S8x32x4x28x28, .f32⟩
  | 24 => ⟨S8x32x4x28x28, .f32⟩
  | 25 => ⟨S8x32x4x28x28, .f32⟩
  | 26 => ⟨S8x32x4x28x28, .f32⟩
  | 27 => ⟨S8x32x4x1x28x28, .f32⟩
  | 28 => ⟨S8x32x4x1x28x28, .f32⟩
  | 29 => ⟨S8x32x4x1x28x28, .f32⟩
  | 30 => ⟨S8x32x4x1x28x28, .f32⟩
  | 31 => ⟨S8x32x4x4x28x28, .f32⟩
  | 32 => ⟨S128x8x28x28, .f32⟩
  | 33 => ⟨S8x128x28x28, .f32⟩
  | 34 => ⟨S1x128x1x1, .f32⟩
  | 35 => ⟨S8x128x28x28, .f32⟩
  | 36 => ⟨S8x128x28x28, .f32⟩
  | 37 => ⟨S_, .f32⟩
  | 38 => ⟨S8x128x28x28, .f32⟩
  | 39 => ⟨S8x128x28x28, .f32⟩
  | 40 => ⟨S64x128x4x4, .f32⟩
  | 41 => ⟨S64x128x4x4, .f32⟩
  | 42 => ⟨S_, .f32⟩
  | 43 => ⟨S8x128x59x59, .f32⟩
  | 44 => ⟨S8x128x56x59, .f32⟩
  | 45 => ⟨S8x128x56x59, .f32⟩
  | 46 => ⟨S8x128x56x59, .f32⟩
  | 47 => ⟨S8x128x56x59, .f32⟩
  | 48 => ⟨S8x128x1x56x59, .f32⟩
  | 49 => ⟨S8x128x1x56x59, .f32⟩
  | 50 => ⟨S8x128x1x56x59, .f32⟩
  | 51 => ⟨S8x128x1x56x59, .f32⟩
  | 52 => ⟨S8x128x4x56x59, .f32⟩
  | 53 => ⟨S8x128x4x56x56, .f32⟩
  | 54 => ⟨S8x128x4x56x56, .f32⟩
  | 55 => ⟨S8x128x4x56x56, .f32⟩
  | 56 => ⟨S8x128x4x56x56, .f32⟩
  | 57 => ⟨S8x128x4x1x56x56, .f32⟩
  | 58 => ⟨S8x128x4x1x56x56, .f32⟩
  | 59 => ⟨S8x128x4x1x56x56, .f32⟩
  | 60 => ⟨S8x128x4x1x56x56, .f32⟩
  | 61 => ⟨S8x128x4x4x56x56, .f32⟩
  | 62 => ⟨S64x8x56x56, .f32⟩
  | 63 => ⟨S8x64x56x56, .f32⟩
  | 64 => ⟨S1x64x1x1, .f32⟩
  | 65 => ⟨S8x64x56x56, .f32⟩
  | 66 => ⟨S8x64x56x56, .f32⟩
  | 67 => ⟨S_, .f32⟩
  | 68 => ⟨S8x64x56x56, .f32⟩
  | 69 => ⟨S8x64x56x56, .f32⟩
  | 70 => ⟨S32x64x4x4, .f32⟩
  | 71 => ⟨S32x64x4x4, .f32⟩
  | 72 => ⟨S_, .f32⟩
  | 73 => ⟨S8x64x115x115, .f32⟩
  | 74 => ⟨S8x64x112x115, .f32⟩
  | 75 => ⟨S8x64x112x115, .f32⟩
  | 76 => ⟨S8x64x112x115, .f32⟩
  | 77 => ⟨S8x64x112x115, .f32⟩
  | 78 => ⟨S8x64x1x112x115, .f32⟩
  | 79 => ⟨S8x64x1x112x115, .f32⟩
  | 80 => ⟨S8x64x1x112x115, .f32⟩
  | 81 => ⟨S8x64x1x112x115, .f32⟩
  | 82 => ⟨S8x64x4x112x115, .f32⟩
  | 83 => ⟨S8x64x4x112x112, .f32⟩
  | 84 => ⟨S8x64x4x112x112, .f32⟩
  | 85 => ⟨S8x64x4x112x112, .f32⟩
  | 86 => ⟨S8x64x4x112x112, .f32⟩
  | 87 => ⟨S8x64x4x1x112x112, .f32⟩
  | 88 => ⟨S8x64x4x1x112x112, .f32⟩
  | 89 => ⟨S8x64x4x1x112x112, .f32⟩
  | 90 => ⟨S8x64x4x1x112x112, .f32⟩
  | 91 => ⟨S8x64x4x4x112x112, .f32⟩
  | 92 => ⟨S32x8x112x112, .f32⟩
  | 93 => ⟨S8x32x112x112, .f32⟩
  | 94 => ⟨S1x32x1x1, .f32⟩
  | 95 => ⟨S8x32x112x112, .f32⟩
  | 96 => ⟨S8x32x112x112, .f32⟩
  | 97 => ⟨S_, .f32⟩
  | 98 => ⟨S8x32x112x112, .f32⟩
  | 99 => ⟨S8x32x112x112, .f32⟩
  | 100 => ⟨S1x32x4x4, .f32⟩
  | 101 => ⟨S1x32x4x4, .f32⟩
  | 102 => ⟨S_, .f32⟩
  | 103 => ⟨S8x32x227x227, .f32⟩
  | 104 => ⟨S8x32x224x227, .f32⟩
  | 105 => ⟨S8x32x224x227, .f32⟩
  | 106 => ⟨S8x32x224x227, .f32⟩
  | 107 => ⟨S8x32x224x227, .f32⟩
  | 108 => ⟨S8x32x1x224x227, .f32⟩
  | 109 => ⟨S8x32x1x224x227, .f32⟩
  | 110 => ⟨S8x32x1x224x227, .f32⟩
  | 111 => ⟨S8x32x1x224x227, .f32⟩
  | 112 => ⟨S8x32x4x224x227, .f32⟩
  | 113 => ⟨S8x32x4x224x224, .f32⟩
  | 114 => ⟨S8x32x4x224x224, .f32⟩
  | 115 => ⟨S8x32x4x224x224, .f32⟩
  | 116 => ⟨S8x32x4x224x224, .f32⟩
  | 117 => ⟨S8x32x4x1x224x224, .f32⟩
  | 118 => ⟨S8x32x4x1x224x224, .f32⟩
  | 119 => ⟨S8x32x4x1x224x224, .f32⟩
  | 120 => ⟨S8x32x4x1x224x224, .f32⟩
  | 121 => ⟨S8x32x4x4x224x224, .f32⟩
  | 122 => ⟨S1x8x224x224, .f32⟩
  | 123 => ⟨S8x1x224x224, .f32⟩
  | 124 => ⟨S1x1x1x1, .f32⟩
  | 125 => ⟨S8x1x224x224, .f32⟩
  | 126 => ⟨S8x1x224x224, .f32⟩
  | 127 => ⟨S8x1x224x224, .f32⟩
  | _ => ⟨S8x14x14x32, .f32⟩

abbrev hbmTy0_1 (i : Nat) : BufTy := match i % 128 with
  | 0 => ⟨S8x1x1x224x224, .f32⟩
  | _ => ⟨S8x14x14x32, .f32⟩

abbrev hbmTy (i : Nat) : BufTy := match i / 128 with
  | 0 => hbmTy0_0 i
  | 1 => hbmTy0_1 i
  | _ => ⟨S8x14x14x32, .f32⟩

abbrev bufTy : (tb : Table) → Fin (tcTables nBuf tb) → BufTy
  | .hbm, ⟨i, _⟩ => hbmTy i
  | _, _ => ⟨S8x14x14x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_3 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_4 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_5 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩

abbrev nD : Nat := 1
abbrev τ : Topo := Topo.v7x

variable {F : FTy → Type} [FloatOps F]
-- ==== Proof.KerRun.lean ====
/-
  What the first half's buffers hold when its program ends.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every buffer the program keeps ends at what the last stretch leaves there. -/
theorem ends : θ_run defs (onTc (τ := τ) (main (F := F))) ⟨m, fun _ => 0, ρ⟩ (fun r =>
    ∀ c : Dev nD, ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun _ h _ => h)

end Cert.KernelIdeal.Gen

end
-- ==== Proof.Spec.lean ====
/-
  The network's layers over extended reals, entry by entry: the convolution with kernel 4, stride 2 and padding 1, its
  transpose, and the choice of the nearest vector of the codebook. A picture is a function of (image, row, column, channel).
-/
module

public import Idealize.ShloMosaic.PureOps.Ideal.Laws
public import Mathlib.Tactic.Ring
public import Mathlib.Tactic.NormNum
public import Mathlib.Data.EReal.Inv

@[expose] public section

noncomputable section

namespace Cert.Net

open Finset

variable {B H W C N : ℕ}

/-- A batch of pictures. -/
abbrev Pic (B H W C : ℕ) := Fin B → Fin H → Fin W → Fin C → EReal

/-- The picture with a border of zeros of width one, at a row and a column of the bordered picture. -/
def border (A : Pic B H W C) (b : Fin B) (p q : ℕ) (c : Fin C) : EReal :=
  if h : (1 ≤ p ∧ p ≤ H) ∧ (1 ≤ q ∧ q ≤ W) then A b ⟨p - 1, by omega⟩ ⟨q - 1, by omega⟩ c else 0

/-- The convolution with kernel 4, stride 2, padding 1. -/
def conv (H' W' : ℕ) (A : Pic B H W C) (w : Fin N → Fin C → Fin 4 → Fin 4 → EReal) (bias : Fin N → EReal) : Pic B H' W' N :=
  fun b i j n => (∑ kh : Fin 4, ∑ kw : Fin 4, ∑ c : Fin C, border A b (2 * i.val + kh.val) (2 * j.val + kw.val) c * w n c kh kw) + bias n

/-- The larger of an entry and zero. -/
def relu (A : Pic B H W C) : Pic B H W C := fun b i j n => max (A b i j n) 0

/-- The picture with a zero between neighbours and two zeros around (before the first, at least two after the last), at a
    row and a column of the picture so widened. -/
def spread (A : Pic B H W C) (b : Fin B) (p q : ℕ) (c : Fin C) : EReal :=
  if p % 2 = 0 then (if q % 2 = 0 then border A b (p / 2) (q / 2) c else 0) else 0

/-- The transposed convolution with kernel 4, stride 2, padding 1: the widened picture against the reversed weights. -/
def convT (H' W' : ℕ) (A : Pic B H W C) (w : Fin C → Fin N → Fin 4 → Fin 4 → EReal) (bias : Fin N → EReal) : Pic B H' W' N :=
  fun b i j n => (∑ kh : Fin 4, ∑ kw : Fin 4, ∑ c : Fin C, spread A b (i.val + kh.val) (j.val + kw.val) c * w c n kh.rev kw.rev) + bias n

/-- Which of the four kernel rows meets the row `a` of three neighbours when the output row's parity is `π`. -/
def tapOf (π a : ℕ) : Fin 4 :=
  if π = 0 then (if a = 0 then 3 else 1) else (if a = 1 then 2 else 0)

/-- The weights of the transposed convolution gathered by the parity of the output position over three by three neighbours,
    zero where a neighbour does not take part. -/
def nine (w : Fin C → Fin N → Fin 4 → Fin 4 → EReal) (a b : ℕ) (c : Fin C) (π ρ : ℕ) (n : Fin N) : EReal :=
  if π ≤ a ∧ a ≤ π + 1 then (if ρ ≤ b ∧ b ≤ ρ + 1 then w c n (tapOf π a) (tapOf ρ b) else 0) else 0

/-- One axis of the transposed convolution: of four kernel rows the two of the right parity remain. -/
theorem sum_parity {M : Type} [AddCommMonoid M] (p : ℕ) (g : ℕ → Fin 4 → M) :
    (∑ k : Fin 4, if (p + k.val) % 2 = 0 then g ((p + k.val) / 2) k.rev else 0)
      = ∑ a : Fin 3, if p % 2 ≤ a.val ∧ a.val ≤ p % 2 + 1 then g (p / 2 + a.val) (tapOf (p % 2) a.val) else 0 := by
  obtain ⟨i, rfl | rfl⟩ : ∃ i, p = 2 * i ∨ p = 2 * i + 1 := ⟨p / 2, by omega⟩
  · have e0 : (2 * i) % 2 = 0 := by omega
    have e1 : (2 * i + 1) % 2 = 1 := by omega
    have e2 : (2 * i + 2) % 2 = 0 := by omega
    have e3 : (2 * i + 3) % 2 = 1 := by omega
    have d0 : (2 * i) / 2 = i := by omega
    have d2 : (2 * i + 2) / 2 = i + 1 := by omega
    simp [Fin.sum_univ_succ, e1, e0, e3, d0, d2, tapOf]
  · have e0 : (2 * i + 1) % 2 = 1 := by omega
    have e1 : (2 * i + 1 + 1) % 2 = 0 := by omega
    have e2 : (2 * i + 1 + 2) % 2 = 1 := by omega
    have e3 : (2 * i + 1 + 3) % 2 = 0 := by omega
    have d0 : (2 * i + 1) / 2 = i := by omega
    have d1 : (2 * i + 1 + 1) / 2 = i + 1 := by omega
    have d3 : (2 * i + 1 + 3) / 2 = i + 2 := by omega
    simp [Fin.sum_univ_succ, e0, e1, e2, e3, d0, d1, d3, tapOf]

/-- The transposed convolution by the parities of the output position, over the three by three neighbours of the bordered
    picture. -/
theorem convT_eq_nine (H' W' : ℕ) (A : Pic B H W C) (w : Fin C → Fin N → Fin 4 → Fin 4 → EReal) (bias : Fin N → EReal)
    (b : Fin B) (i : Fin H') (j : Fin W') (n : Fin N) :
    convT H' W' A w bias b i j n
      = (∑ a : Fin 3, ∑ a' : Fin 3, ∑ c : Fin C, border A b (i.val / 2 + a.val) (j.val / 2 + a'.val) c
          * nine w a.val a'.val c (i.val % 2) (j.val % 2) n) + bias n := by
  unfold convT
  congr 1
  have inner : ∀ (P : ℕ) (k : Fin 4), (∑ kw : Fin 4, if (j.val + kw.val) % 2 = 0 then
        ∑ c : Fin C, border A b P ((j.val + kw.val) / 2) c * w c n k kw.rev else 0)
      = ∑ a' : Fin 3, if j.val % 2 ≤ a'.val ∧ a'.val ≤ j.val % 2 + 1 then
        ∑ c : Fin C, border A b P (j.val / 2 + a'.val) c * w c n k (tapOf (j.val % 2) a'.val) else 0 := fun P k =>
    sum_parity j.val fun Q l => ∑ c : Fin C, border A b P Q c * w c n k l
  have outer := sum_parity i.val fun P k => ∑ a' : Fin 3, if j.val % 2 ≤ a'.val ∧ a'.val ≤ j.val % 2 + 1 then
        ∑ c : Fin C, border A b P (j.val / 2 + a'.val) c * w c n k (tapOf (j.val % 2) a'.val) else 0
  refine Eq.trans ?_ (outer.trans ?_)
  · refine sum_congr rfl fun kh _ => ?_
    by_cases hp : (i.val + kh.val) % 2 = 0
    · rw [if_pos hp, ← inner]
      refine sum_congr rfl fun kw _ => ?_
      by_cases hq : (j.val + kw.val) % 2 = 0
      · simp only [spread, hp, hq, if_true]
      · simp only [spread, hp, hq, if_true, if_false, zero_mul, sum_const_zero]
    · rw [if_neg hp]
      simp only [spread, hp, if_false, zero_mul, sum_const_zero]
  · refine sum_congr rfl fun a _ => ?_
    by_cases ha : i.val % 2 ≤ a.val ∧ a.val ≤ i.val % 2 + 1
    · rw [if_pos ha]
      refine sum_congr rfl fun a' _ => ?_
      by_cases hb : j.val % 2 ≤ a'.val ∧ a'.val ≤ j.val % 2 + 1
      · simp only [nine, if_pos ha, if_pos hb]
      · simp only [nine, if_pos ha, if_neg hb, mul_zero, sum_const_zero]
    · rw [if_neg ha]
      simp only [nine, if_neg ha, mul_zero, sum_const_zero]

/-! ## The codebook -/

variable {R K D : ℕ}

/-- The squared distance of row `r` to the codebook's vector `k`, as the network writes it. -/
def dist (Z : Fin R → Fin D → EReal) (E : Fin K → Fin D → EReal) (r : Fin R) (k : Fin K) : EReal :=
  (∑ c, Z r c * Z r c) + (∑ c, E k c * E k c) - 2 * ∑ c, Z r c * E k c

/-- The first index at which `f` is least. -/
def first [NeZero K] (f : Fin K → EReal) : Fin K :=
  (univ.filter fun k => ∀ j, f k ≤ f j).min' (by
    obtain ⟨k, -, hk⟩ := exists_min_image univ f ⟨0, mem_univ _⟩
    exact ⟨k, mem_filter.mpr ⟨mem_univ _, fun j => hk j (mem_univ _)⟩⟩)

theorem first_le [NeZero K] (f : Fin K → EReal) (j : Fin K) : f (first f) ≤ f j :=
  (mem_filter.mp (min'_mem (univ.filter fun k => ∀ j, f k ≤ f j) _)).2 j

theorem first_min [NeZero K] (f : Fin K → EReal) (k : Fin K) (hk : ∀ j, f k ≤ f j) : first f ≤ k :=
  min'_le _ _ (mem_filter.mpr ⟨mem_univ _, hk⟩)

theorem first_unique [NeZero K] (f : Fin K → EReal) (k : Fin K) (hk : ∀ j, f k ≤ f j) (hl : ∀ j, j < k → f k < f j) :
    first f = k := by
  refine le_antisymm (first_min f k hk) (not_lt.mp fun h => ?_)
  exact absurd (first_le f k) (not_le.mpr (hl _ h))

/-! ## Finite entries -/

/-- An extended real that is a number. -/
def Real? (x : EReal) : Prop := x ≠ ⊤ ∧ x ≠ ⊥

theorem Real?.exists {x : EReal} (h : Real? x) : ∃ r : ℝ, x = r := ⟨x.toReal, (EReal.coe_toReal h.1 h.2).symm⟩

theorem real?_coe (r : ℝ) : Real? (r : EReal) := ⟨EReal.coe_ne_top r, EReal.coe_ne_bot r⟩

theorem real?_zero : Real? 0 := real?_coe 0

theorem Real?.add {x y : EReal} (hx : Real? x) (hy : Real? y) : Real? (x + y) := by
  obtain ⟨a, rfl⟩ := hx.exists; obtain ⟨b, rfl⟩ := hy.exists
  rw [← EReal.coe_add]; exact real?_coe _

theorem Real?.mul {x y : EReal} (hx : Real? x) (hy : Real? y) : Real? (x * y) := by
  obtain ⟨a, rfl⟩ := hx.exists; obtain ⟨b, rfl⟩ := hy.exists
  rw [← EReal.coe_mul]; exact real?_coe _

theorem Real?.max {x y : EReal} (hx : Real? x) (hy : Real? y) : Real? (max x y) := by
  rcases max_choice x y with h | h <;> rw [h] <;> assumption

theorem Real?.sum {ι : Type} (s : Finset ι) (f : ι → EReal) (h : ∀ i, Real? (f i)) : Real? (∑ i ∈ s, f i) := by
  classical
  induction s using Finset.induction_on with
  | empty => simpa using real?_zero
  | insert a s ha ih => rw [sum_insert ha]; exact (h a).add ih

theorem real?_conv (H' W' : ℕ) {A : Pic B H W C} {w : Fin N → Fin C → Fin 4 → Fin 4 → EReal} {bias : Fin N → EReal}
    (hA : ∀ b i j c, Real? (A b i j c)) (hw : ∀ n c k l, Real? (w n c k l)) (hb : ∀ n, Real? (bias n))
    (b : Fin B) (i : Fin H') (j : Fin W') (n : Fin N) : Real? (conv H' W' A w bias b i j n) := by
  refine Real?.add (Real?.sum _ _ fun kh => Real?.sum _ _ fun kw => Real?.sum _ _ fun c => Real?.mul ?_ (hw _ _ _ _)) (hb n)
  unfold border; split
  · exact hA _ _ _ _
  · exact real?_zero

theorem real?_relu {A : Pic B H W C} (hA : ∀ b i j c, Real? (A b i j c)) (b : Fin B) (i : Fin H) (j : Fin W) (c : Fin C) :
    Real? (relu A b i j c) := (hA _ _ _ _).max real?_zero

/-- Adding to a number the difference of a value and that number gives the value. -/
theorem add_sub_of_real {z : EReal} (hz : Real? z) (q : EReal) : z + (q - z) = q := by
  obtain ⟨a, rfl⟩ := hz.exists
  induction q using EReal.rec with
  | bot => simp
  | top => simp
  | coe x => rw [← EReal.coe_sub, ← EReal.coe_add]; congr 1; ring

/-- The mean of the squares and a quarter of it again is five quarters of it: a square is not negative, so the sum is a
    number or `⊤`. -/
theorem five_quarters (S : EReal) (hS : 0 ≤ S) :
    S * ((5 / 200704 : ℝ) : EReal) = S * ((50176 : ℝ) : EReal)⁻¹ + ((1 / 4 : ℝ) : EReal) * (S * ((50176 : ℝ) : EReal)⁻¹) := by
  rw [← EReal.coe_inv]
  induction S using EReal.rec with
  | bot => simp at hS
  | top =>
    rw [EReal.top_mul_coe_of_pos (by norm_num), EReal.top_mul_coe_of_pos (by norm_num), EReal.coe_mul_top_of_pos (by norm_num)]
    rfl
  | coe x =>
    rw [← EReal.coe_mul, ← EReal.coe_mul, ← EReal.coe_mul, ← EReal.coe_add]
    congr 1; ring

theorem mul_self_nonneg' (x : EReal) : 0 ≤ x * x := by
  induction x using EReal.rec with
  | bot => simp
  | top => simp
  | coe x => rw [← EReal.coe_mul]; exact_mod_cast mul_self_nonneg x

end Cert.Net

end

end
-- ==== Proof.Tile.lean ====
/-
  The one tile a grid step of a strided-convolution layer of the encoder works on: sixteen shifted slices of the
  space-to-depth picture side by side, contracted with the weights laid out the same way.
-/
module

public import proofs.«01_k».proof.Proof.Spec
public import Idealize.ShloMosaic.Lib.Pointwise
public import Idealize.ShloMosaic.Lib.Pipeline.Value

@[expose] public section

noncomputable section

namespace Cert.Net

open Idealize.ShloMosaic Finset

/-- `R * R` equally wide pieces side by side, piece by rows and columns. -/
def pieces {H W C : ℕ} (R : ℕ) (a : Fin R → Fin R → (⟨3, ![H, W, C]⟩ : Shape).Idx → EReal) :
    List ((s : Shape) × (s.Idx → EReal)) :=
  List.ofFn fun m : Fin (R * R) => ⟨⟨3, ![H, W, C]⟩,
    a ⟨m.val / R, Nat.div_lt_of_lt_mul m.isLt⟩ ⟨m.val % R, Nat.mod_lt _ (Nat.pos_of_ne_zero fun h => by
      have := m.isLt; subst h; omega)⟩⟩

/-- Equally wide pieces side by side, read inside the piece of row `u` and column `v`. -/
theorem cat_pieces {H W C K R : ℕ} (a : Fin R → Fin R → (⟨3, ![H, W, C]⟩ : Shape).Idx → EReal)
    (h : Shape.Concatenates ((pieces R a).map (·.1)) ⟨3, ![H, W, K]⟩ (2 : Fin 3))
    (i : Fin H) (j : Fin W) (u v : Fin R) (c : Fin C) (hk : (R * u.val + v.val) * C + c.val < K) :
    concatenate (⟨3, ![H, W, K]⟩ : Shape) (2 : Fin 3) (pieces R a) h (ix3 i j ⟨(R * u.val + v.val) * C + c.val, hk⟩)
      = a u v (ix3 i j c) := by
  have hC : 0 < C := by have := c.isLt; omega
  have hR : 0 < R := by have := u.isLt; omega
  have h1 : ((R * u.val + v.val) * C + c.val) / C = R * u.val + v.val := by
    rw [Nat.mul_comm, Nat.mul_add_div hC, Nat.div_eq_of_lt c.isLt, Nat.add_zero]
  have h2 : ((R * u.val + v.val) * C + c.val) % C = c.val := by
    rw [Nat.mul_comm, Nat.mul_add_mod, Nat.mod_eq_of_lt c.isLt]
  have h3 : (R * u.val + v.val) / R = u.val := by
    rw [Nat.mul_add_div hR, Nat.div_eq_of_lt v.isLt, Nat.add_zero]
  have h4 : (R * u.val + v.val) % R = v.val := by
    rw [Nat.mul_add_mod, Nat.mod_eq_of_lt v.isLt]
  have hlt : R * u.val + v.val < R * R := by
    have : R * (u.val + 1) ≤ R * R := Nat.mul_le_mul_left _ u.isLt
    have := v.isLt
    rw [Nat.mul_add] at *
    omega
  refine (concatenate_ofFn_apply (t := ⟨3, ![H, W, K]⟩) (s₁ := ⟨3, ![H, W, C]⟩) (2 : Fin 3) _ h rfl C rfl
    (ix3 i j ⟨(R * u.val + v.val) * C + c.val, hk⟩) ⟨R * u.val + v.val, hlt⟩ h1 (ix3 i j c) h2.symm ?_).trans ?_
  · intro b hb
    change Fin 3 at b
    match b with
    | 0 => rfl
    | 1 => rfl
    | 2 => exact absurd rfl hb
  · congr 2 <;> exact Fin.ext (by assumption)

/-- The 4 by 4 pieces, one after the other. -/
theorem pieces_4 {H W C : ℕ} (a : Fin 4 → Fin 4 → (⟨3, ![H, W, C]⟩ : Shape).Idx → EReal) :
    pieces 4 a = [⟨_, a 0 0⟩, ⟨_, a 0 1⟩, ⟨_, a 0 2⟩, ⟨_, a 0 3⟩,
      ⟨_, a 1 0⟩, ⟨_, a 1 1⟩, ⟨_, a 1 2⟩, ⟨_, a 1 3⟩,
      ⟨_, a 2 0⟩, ⟨_, a 2 1⟩, ⟨_, a 2 2⟩, ⟨_, a 2 3⟩,
      ⟨_, a 3 0⟩, ⟨_, a 3 1⟩, ⟨_, a 3 2⟩, ⟨_, a 3 3⟩] := rfl

/-- The 3 by 3 pieces, one after the other. -/
theorem pieces_3 {H W C : ℕ} (a : Fin 3 → Fin 3 → (⟨3, ![H, W, C]⟩ : Shape).Idx → EReal) :
    pieces 3 a = [⟨_, a 0 0⟩, ⟨_, a 0 1⟩, ⟨_, a 0 2⟩,
      ⟨_, a 1 0⟩, ⟨_, a 1 1⟩, ⟨_, a 1 2⟩,
      ⟨_, a 2 0⟩, ⟨_, a 2 1⟩, ⟨_, a 2 2⟩] := rfl

/-- The number the word zero is converted to. -/
theorem sitofp_zero : FloatOps.sitofp (F := Ideal) FTy.f32 0#32 = (0 : EReal) := by
  show (((0#32 : BitVec 32).toInt : ℝ) : EReal) = 0
  simp

/-- Equal lists of pieces, side by side. -/
theorem concatenate_list {α : Type} {t : Shape} {a : Fin t.rank} {l l' : List ((s : Shape) × (s.Idx → α))}
    (h : Shape.Concatenates (l.map (·.1)) t a) (h' : Shape.Concatenates (l'.map (·.1)) t a) (e : l = l') :
    concatenate t a l h = concatenate t a l' h' := by
  subst e
  rfl

/-- A sum over all columns of the pieces, piece by piece. -/
theorem sum_pieces {C K : ℕ} (R : ℕ) (hK : R * R * C = K) (g : Fin K → EReal) :
    ∑ k, g k = ∑ u : Fin R, ∑ v : Fin R, ∑ c : Fin C, g ⟨(R * u.val + v.val) * C + c.val, by
      have h1 : R * (u.val + 1) ≤ R * R := Nat.mul_le_mul_left _ u.isLt
      have h2 : (R * u.val + v.val + 1) * C ≤ R * R * C := Nat.mul_le_mul_right _ (by
        have := v.isLt
        rw [Nat.mul_add] at h1
        omega)
      have := c.isLt
      rw [Nat.add_mul _ 1] at h2
      omega⟩ := by
  subst hK
  rw [← (finProdFinEquiv (m := R * R) (n := C)).sum_comp, Fintype.sum_prod_type,
    ← (finProdFinEquiv (m := R) (n := R)).sum_comp, Fintype.sum_prod_type]
  refine sum_congr rfl fun u _ => sum_congr rfl fun v _ => sum_congr rfl fun c _ => ?_
  congr 1
  apply Fin.ext
  simp only [finProdFinEquiv_apply_val]
  ring

end Cert.Net
-- ==== Proof.KerEnc.lean ====
/-
  The encoder of the kernel, its three tiled convolutions: what a grid step stores, the array its steps leave, and
  the host's preparation of its operands.
-/
module

public import proofs.«01_k».proof.Proof.Gen.KernelIdeal.Frame
public import proofs.«01_k».proof.Proof.Tile
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 1000000

noncomputable section

namespace Cert.KernelIdeal.Value

open Idealize.ShloMosaic Idealize.ShloMosaic.TcCoe StableHlo Idealize.SL.Sem Cert.KernelIdeal Gen Cert.Net
open Idealize.ShloMosaic.Pipeline (Dat)

/-! ## Layer 2 -/

theorem slices1 (kh kw : Fin 4) : Shape.Slices S58x58x128
    ![(kh.val + 1) / 2, (kw.val + 1) / 2, (2 * ((kh.val + 1) % 2) + (kw.val + 1) % 2) * 32] S56x56x32 := by
  revert kh kw
  decide

/-- The slice that kernel row `kh` and kernel column `kw` meet. -/
def piece1 (x : Vec Ideal S58x58x128 .f32) (kh kw : Fin 4) : (⟨3, ![56, 56, 32]⟩ : Shape).Idx → EReal :=
  extractStridedSlice S56x56x32 ![(kh.val + 1) / 2, (kw.val + 1) / 2, (2 * ((kh.val + 1) % 2) + (kw.val + 1) % 2) * 32] x
    (slices1 kh kw)

theorem tile1 (v0 : Vec Ideal S1x58x58x128 .f32) (v20 : Vec Ideal S512x64 .f32) (v23 : Vec Ideal S1x64 .f32)
    (i j : Fin 56) (n : Fin 64) : k1_pay1 v0 v20 v23 (ix4 0 i j n) = max ((∑ kh : Fin 4, ∑ kw : Fin 4, ∑ c : Fin 32,
        v0 (ix4 0 ⟨(kh.val + 1) / 2 + (i).val, by omega⟩ ⟨(kw.val + 1) / 2 + (j).val, by omega⟩
            ⟨(2 * ((kh.val + 1) % 2) + (kw.val + 1) % 2) * 32 + c.val, by omega⟩)
          * v20 (ix2 ⟨(4 * kh.val + kw.val) * 32 + c.val, by omega⟩ n)) + v23 (ix2 0 n)) 0 := by
  unfold k1_pay1
  generalize hv : concatenate _ _ _ _ = v18
  have hv' : v18 = concatenate S56x56x512 (2 : Fin 3)
      (pieces 4 (piece1 (shapeCast S58x58x128 v0 shapeCasts_S1x58x58x128_S58x58x128)))
      concatenates_S56x56x32_S56x56x32_S56x56x32_S56x56x32_S56x56x32_S56x56x32_S56x56x32_S56x56x32_S56x56x32_S56x56x32_S56x56x32_S56x56x32_S56x56x32_S56x56x32_S56x56x32_S56x56x32_S56x56x512_d2 := by
    rw [← hv]
    refine concatenate_list _ _ (Eq.trans ?_ (pieces_4 _).symm)
    rfl
  clear hv
  pointwise
  rw [sum_pieces (C := 32) 4 rfl]
  congr 2
  refine Finset.sum_congr rfl fun kh _ => Finset.sum_congr rfl fun kw _ => Finset.sum_congr rfl fun c _ => ?_
  congr 1
  rw [hv']
  refine (cat_pieces (R := 4) _ _ i j kh kw c _).trans ?_
  unfold piece1
  pointwise

/-- What the layer's result holds, from what its operands hold. -/
def made1 (x : Vec Ideal S8x58x58x128 .f32) (w : Vec Ideal S512x64 .f32) (bias : Vec Ideal S1x64 .f32)
    (b : Fin 8) (i j : Fin 56) (n : Fin 64) : EReal :=
  max ((∑ kh : Fin 4, ∑ kw : Fin 4, ∑ c : Fin 32,
        x (ix4 b ⟨(kh.val + 1) / 2 + (i).val, by omega⟩ ⟨(kw.val + 1) / 2 + (j).val, by omega⟩
            ⟨(2 * ((kh.val + 1) % 2) + (kw.val + 1) % 2) * 32 + c.val, by omega⟩)
          * w (ix2 ⟨(4 * kh.val + kw.val) * 32 + c.val, by omega⟩ n)) + bias (ix2 0 n)) 0

/-- The layer's result is the convolution, whatever its operands hold, if they hold the picture by blocks and the weights. -/
theorem conv1_of (x : Vec Ideal S8x58x58x128 .f32) (w : Vec Ideal S512x64 .f32) (bias : Vec Ideal S1x64 .f32)
    (A : Pic 8 112 112 32) (wt : Fin 64 → Fin 32 → Fin 4 → Fin 4 → EReal) (bi : Fin 64 → EReal)
    (hx : ∀ (b : Fin 8) (p q : Fin 58) (u v : Fin 2) (k : Fin 32), x (ix4 b p q ⟨(2 * u.val + v.val) * 32 + k.val, by omega⟩)
      = border A b (2 * p.val + u.val - 1) (2 * q.val + v.val - 1) k)
    (hw : ∀ (kh kw : Fin 4) (k : Fin 32) (n : Fin 64), w (ix2 ⟨(4 * kh.val + kw.val) * 32 + k.val, by omega⟩ n) = wt n k kh kw)
    (hb : ∀ n : Fin 64, bias (ix2 0 n) = bi n) (b : Fin 8) (i j : Fin 56) (n : Fin 64) :
    made1 x w bias b i j n = relu (conv 56 56 A wt bi) b i j n := by
  dsimp only [made1, relu, conv]
  rw [hb]
  congr 2
  refine Finset.sum_congr rfl fun kh _ => Finset.sum_congr rfl fun kw _ => Finset.sum_congr rfl fun k _ => ?_
  rw [hw]
  congr 1
  refine (hx b ⟨(kh.val + 1) / 2 + i.val, by omega⟩ ⟨(kw.val + 1) / 2 + j.val, by omega⟩ ⟨(kh.val + 1) % 2, by omega⟩
    ⟨(kw.val + 1) % 2, by omega⟩ k).trans ?_
  dsimp only
  congr 1 <;> omega

theorem place1 : ∀ t : Fin cfg1.N, win1_0.index t = ![t.val, 0, 0, 0] ∧ win1_1.index t = ![0, 0]
    ∧ win1_2.index t = ![0, 0] ∧ win1_3.index t = ![t.val, 0, 0, 0] :=
  (by decide +kernel : ∀ t : Fin grid1.N, _)

theorem array1 (V : (c : Dev nD) → (b : Ref sig .tc) → Buf (Elt Ideal) ((c : Thread nD τ).loc b)) (c : Dev nD) :
    (dat1 V c).arrAt 3 cfg1.N = fun z => made1 (V c main_v21) (V c main_v23) (V c main_v24) (z 0) (z 1) (z 2) (z 3) := by
  refine (dat1 V c).arrAt_eq_of_covers 3 _ (by decide +kernel) fun t _ y => ?_
  blk_simp
  rw [after1_3]
  unfold out1_3
  rw [View.canon_unit_zero (by decide +kernel), View.ld_unit_zero (by decide +kernel), View.ld_unit_zero (by decide +kernel),
    View.ld_unit_zero (by decide +kernel)]
  obtain ⟨e0, e1, e2, e3⟩ := place1 t
  have ht : t.val < 8 := t.isLt
  have r0 : ∀ (p q : Fin 58) (r : Fin 128), iblk1 V c 0 t (ix4 0 p q r) = V c main_v21 (ix4 ⟨t.val, ht⟩ p q r) := fun p q r => by
    blk_ext [iblk1, e0]
  have r1 : ∀ (r : Fin 512) (n : Fin 64), iblk1 V c 1 t (ix2 r n) = V c main_v23 (ix2 r n) := fun r n => by
    blk_ext [iblk1, e1]
  have r2 : ∀ n : Fin 64, iblk1 V c 2 t (ix2 0 n) = V c main_v24 (ix2 0 n) := fun n => by
    blk_ext [iblk1, e2]
  obtain ⟨y0, y1, y2, y3, rfl⟩ : ∃ (y0 : Fin 1) (y1 : Fin 56) (y2 : Fin 56) (y3 : Fin 64), y = (ix4 y0 y1 y2 y3 : S1x56x56x64.Idx) :=
    ⟨y 0, y 1, y 2, y 3, eq_ix4 _⟩
  obtain rfl : y0 = 0 := Subsingleton.elim _ _
  have h0 : ((win1_3.blk t).view.emb (ix4 0 y1 y2 y3)) = (ix4 ⟨t.val, ht⟩ y1 y2 y3 : S8x56x56x64.Idx) := by
    blk_ext [e3]
  refine (tile1 _ _ _ _ _ _).trans ?_
  rw [h0]
  unfold made1
  simp only [r0, r1, r2]
  rfl

variable (V : Valuation τ sig (Elt Ideal))

theorem ring1 (b : Fin 8) (p q : Fin 58) (r : Fin 128) :
    after hostOps1_1 V (Proc.devRef .tc main_v21) (ix4 b p q r)
      = if h : (1 ≤ p.val ∧ p.val - 1 < 56) ∧ (1 ≤ q.val ∧ q.val - 1 < 56) then
          V (Proc.devRef .tc main_v20) (ix4 b ⟨p.val - 1, h.1.2⟩ ⟨q.val - 1, h.2.2⟩ r)
        else sitofp (F := Ideal) .f32 (V (Proc.devRef .tc main_c_0)) (Shape.Idx.first h_S_) := by
  after_reads_at

theorem depth1 (b : Fin 8) (p q : Fin 56) (u v : Fin 2) (c : Fin 32) :
    after hostOps1 V (Proc.devRef .tc main_v20) (ix4 b p q ⟨(2 * u.val + v.val) * 32 + c.val, by omega⟩)
      = V (Proc.devRef .tc main_v16) (ix2 ⟨(b.val * 112 + (2 * p.val + u.val)) * 112 + (2 * q.val + v.val), by omega⟩ c) := by
  after_reads_simp
  pointwise
  congr 2
  exact Fin.ext (by dsimp only; omega)

theorem zero1 : sitofp (F := Ideal) .f32 (after hostOps1 V (Proc.devRef .tc main_c_0)) (Shape.Idx.first h_S_) = (0 : EReal) := by
  after_reads_simp
  exact sitofp_zero

theorem host1 (b : Fin 8) (p q : Fin 58) (u v : Fin 2) (c : Fin 32) :
    after hostOps1_1 (after hostOps1 V) (Proc.devRef .tc main_v21) (ix4 b p q ⟨(2 * u.val + v.val) * 32 + c.val, by omega⟩)
      = border (fun (b : Fin 8) (i j : Fin 112) (c : Fin 32) => V (Proc.devRef .tc main_v16) (ix2 ⟨(b.val * 112 + i.val) * 112 + j.val, by omega⟩ c)) b (2 * p.val + u.val - 1) (2 * q.val + v.val - 1) c := by
  rw [ring1, zero1]
  unfold border
  by_cases h : (1 ≤ p.val ∧ p.val - 1 < 56) ∧ (1 ≤ q.val ∧ q.val - 1 < 56)
  · rw [dif_pos h, dif_pos (by omega), depth1]
    dsimp only
    congr 2 <;> exact Fin.ext (by dsimp only; omega)
  · rw [dif_neg h, dif_neg (by omega)]

theorem weights1 (kh kw : Fin 4) (c : Fin 32) (n : Fin 64) :
    after hostOps1_2 V (Proc.devRef .tc main_v23) (ix2 ⟨(4 * kh.val + kw.val) * 32 + c.val, by omega⟩ n)
      = V (Proc.devRef .tc main_arg3) (ix4 n c kh kw) := by
  after_reads_simp
  pointwise

theorem bias1 (n : Fin 64) :
    after hostOps1_2 V (Proc.devRef .tc main_v24) (ix2 0 n) = V (Proc.devRef .tc main_arg4) (ix1 n) := by
  after_reads_simp
  pointwise

theorem layer2 (m : (ℓ : Loc nD τ sig) → Buf (Elt Ideal) ℓ) (ρ : Dev nD → PrngReg) (c : Dev nD)
    (b : Fin 8) (i j : Fin 56) (n : Fin 64) :
    W8 m ρ c (Proc.devRef .tc main_v25) (ix4 b i j n)
      = relu (conv 56 56 (fun (b : Fin 8) (i j : Fin 112) (k : Fin 32) => W4 m ρ c (Proc.devRef .tc main_v16) (ix2 ⟨(b.val * 112 + i.val) * 112 + j.val, by omega⟩ k))
          (fun n k kh kw => m ((c : Thread nD τ).loc main_arg3) (ix4 n k kh kw)) (fun n => m ((c : Thread nD τ).loc main_arg4) (ix1 n))) b i j n := by
  refine (congrFun ((W8_arr m ρ c 3).trans (array1 (V7 m ρ) c)) (ix4 b i j n)).trans ?_
  have hx : ∀ (b : Fin 8) (p q : Fin 58) (u v : Fin 2) (k : Fin 32),
      W7 m ρ c (Proc.devRef .tc main_v21) (ix4 b p q ⟨(2 * u.val + v.val) * 32 + k.val, by omega⟩) = _ := fun b p q u v k =>
    (congrFun (W7_of m ρ c main_v21 (by decide)) _).trans (host1 (W4 m ρ c) b p q u v k)
  have hw : ∀ (kh kw : Fin 4) (k : Fin 32) (n : Fin 64),
      W7 m ρ c (Proc.devRef .tc main_v23) (ix2 ⟨(4 * kh.val + kw.val) * 32 + k.val, by omega⟩ n)
        = m ((c : Thread nD τ).loc main_arg3) (ix4 n k kh kw) := fun kh kw k n =>
    (weights1 (W6 m ρ c) kh kw k n).trans (congrFun (W6_args m ρ c main_arg3 (by decide)) _)
  have hb : ∀ n, W7 m ρ c (Proc.devRef .tc main_v24) (ix2 0 n) = m ((c : Thread nD τ).loc main_arg4) (ix1 n) := fun n =>
    (bias1 (W6 m ρ c) n).trans (congrFun (W6_args m ρ c main_arg4 (by decide)) _)
  exact conv1_of _ _ _ _ _ _ hx hw hb b i j n

/-! ## Layer 3 -/

theorem slices2 (kh kw : Fin 4) : Shape.Slices S30x30x256
    ![(kh.val + 1) / 2, (kw.val + 1) / 2, (2 * ((kh.val + 1) % 2) + (kw.val + 1) % 2) * 64] S28x28x64 := by
  revert kh kw
  decide

/-- The slice that kernel row `kh` and kernel column `kw` meet. -/
def piece2 (x : Vec Ideal S30x30x256 .f32) (kh kw : Fin 4) : (⟨3, ![28, 28, 64]⟩ : Shape).Idx → EReal :=
  extractStridedSlice S28x28x64 ![(kh.val + 1) / 2, (kw.val + 1) / 2, (2 * ((kh.val + 1) % 2) + (kw.val + 1) % 2) * 64] x
    (slices2 kh kw)

theorem tile2 (v0 : Vec Ideal S1x30x30x256 .f32) (v20 : Vec Ideal S1024x128 .f32) (v23 : Vec Ideal S1x128 .f32)
    (i j : Fin 28) (n : Fin 128) : k2_pay1 v0 v20 v23 (ix4 0 i j n) = max ((∑ kh : Fin 4, ∑ kw : Fin 4, ∑ c : Fin 64,
        v0 (ix4 0 ⟨(kh.val + 1) / 2 + (i).val, by omega⟩ ⟨(kw.val + 1) / 2 + (j).val, by omega⟩
            ⟨(2 * ((kh.val + 1) % 2) + (kw.val + 1) % 2) * 64 + c.val, by omega⟩)
          * v20 (ix2 ⟨(4 * kh.val + kw.val) * 64 + c.val, by omega⟩ n)) + v23 (ix2 0 n)) 0 := by
  unfold k2_pay1
  generalize hv : concatenate _ _ _ _ = v18
  have hv' : v18 = concatenate S28x28x1024 (2 : Fin 3)
      (pieces 4 (piece2 (shapeCast S30x30x256 v0 shapeCasts_S1x30x30x256_S30x30x256)))
      concatenates_S28x28x64_S28x28x64_S28x28x64_S28x28x64_S28x28x64_S28x28x64_S28x28x64_S28x28x64_S28x28x64_S28x28x64_S28x28x64_S28x28x64_S28x28x64_S28x28x64_S28x28x64_S28x28x64_S28x28x1024_d2 := by
    rw [← hv]
    refine concatenate_list _ _ (Eq.trans ?_ (pieces_4 _).symm)
    rfl
  clear hv
  pointwise
  rw [sum_pieces (C := 64) 4 rfl]
  congr 2
  refine Finset.sum_congr rfl fun kh _ => Finset.sum_congr rfl fun kw _ => Finset.sum_congr rfl fun c _ => ?_
  congr 1
  rw [hv']
  refine (cat_pieces (R := 4) _ _ i j kh kw c _).trans ?_
  unfold piece2
  pointwise

/-- What the layer's result holds, from what its operands hold. -/
def made2 (x : Vec Ideal S8x30x30x256 .f32) (w : Vec Ideal S1024x128 .f32) (bias : Vec Ideal S1x128 .f32)
    (b : Fin 8) (i j : Fin 28) (n : Fin 128) : EReal :=
  max ((∑ kh : Fin 4, ∑ kw : Fin 4, ∑ c : Fin 64,
        x (ix4 b ⟨(kh.val + 1) / 2 + (i).val, by omega⟩ ⟨(kw.val + 1) / 2 + (j).val, by omega⟩
            ⟨(2 * ((kh.val + 1) % 2) + (kw.val + 1) % 2) * 64 + c.val, by omega⟩)
          * w (ix2 ⟨(4 * kh.val + kw.val) * 64 + c.val, by omega⟩ n)) + bias (ix2 0 n)) 0

/-- The layer's result is the convolution, whatever its operands hold, if they hold the picture by blocks and the weights. -/
theorem conv2_of (x : Vec Ideal S8x30x30x256 .f32) (w : Vec Ideal S1024x128 .f32) (bias : Vec Ideal S1x128 .f32)
    (A : Pic 8 56 56 64) (wt : Fin 128 → Fin 64 → Fin 4 → Fin 4 → EReal) (bi : Fin 128 → EReal)
    (hx : ∀ (b : Fin 8) (p q : Fin 30) (u v : Fin 2) (k : Fin 64), x (ix4 b p q ⟨(2 * u.val + v.val) * 64 + k.val, by omega⟩)
      = border A b (2 * p.val + u.val - 1) (2 * q.val + v.val - 1) k)
    (hw : ∀ (kh kw : Fin 4) (k : Fin 64) (n : Fin 128), w (ix2 ⟨(4 * kh.val + kw.val) * 64 + k.val, by omega⟩ n) = wt n k kh kw)
    (hb : ∀ n : Fin 128, bias (ix2 0 n) = bi n) (b : Fin 8) (i j : Fin 28) (n : Fin 128) :
    made2 x w bias b i j n = relu (conv 28 28 A wt bi) b i j n := by
  dsimp only [made2, relu, conv]
  rw [hb]
  congr 2
  refine Finset.sum_congr rfl fun kh _ => Finset.sum_congr rfl fun kw _ => Finset.sum_congr rfl fun k _ => ?_
  rw [hw]
  congr 1
  refine (hx b ⟨(kh.val + 1) / 2 + i.val, by omega⟩ ⟨(kw.val + 1) / 2 + j.val, by omega⟩ ⟨(kh.val + 1) % 2, by omega⟩
    ⟨(kw.val + 1) % 2, by omega⟩ k).trans ?_
  dsimp only
  congr 1 <;> omega

theorem place2 : ∀ t : Fin cfg2.N, win2_0.index t = ![t.val, 0, 0, 0] ∧ win2_1.index t = ![0, 0]
    ∧ win2_2.index t = ![0, 0] ∧ win2_3.index t = ![t.val, 0, 0, 0] :=
  (by decide +kernel : ∀ t : Fin grid2.N, _)

theorem array2 (V : (c : Dev nD) → (b : Ref sig .tc) → Buf (Elt Ideal) ((c : Thread nD τ).loc b)) (c : Dev nD) :
    (dat2 V c).arrAt 3 cfg2.N = fun z => made2 (V c main_v29) (V c main_v31) (V c main_v32) (z 0) (z 1) (z 2) (z 3) := by
  refine (dat2 V c).arrAt_eq_of_covers 3 _ (by decide +kernel) fun t _ y => ?_
  blk_simp
  rw [after2_3]
  unfold out2_3
  rw [View.canon_unit_zero (by decide +kernel), View.ld_unit_zero (by decide +kernel), View.ld_unit_zero (by decide +kernel),
    View.ld_unit_zero (by decide +kernel)]
  obtain ⟨e0, e1, e2, e3⟩ := place2 t
  have ht : t.val < 8 := t.isLt
  have r0 : ∀ (p q : Fin 30) (r : Fin 256), iblk2 V c 0 t (ix4 0 p q r) = V c main_v29 (ix4 ⟨t.val, ht⟩ p q r) := fun p q r => by
    blk_ext [iblk2, e0]
  have r1 : ∀ (r : Fin 1024) (n : Fin 128), iblk2 V c 1 t (ix2 r n) = V c main_v31 (ix2 r n) := fun r n => by
    blk_ext [iblk2, e1]
  have r2 : ∀ n : Fin 128, iblk2 V c 2 t (ix2 0 n) = V c main_v32 (ix2 0 n) := fun n => by
    blk_ext [iblk2, e2]
  obtain ⟨y0, y1, y2, y3, rfl⟩ : ∃ (y0 : Fin 1) (y1 : Fin 28) (y2 : Fin 28) (y3 : Fin 128), y = (ix4 y0 y1 y2 y3 : S1x28x28x128.Idx) :=
    ⟨y 0, y 1, y 2, y 3, eq_ix4 _⟩
  obtain rfl : y0 = 0 := Subsingleton.elim _ _
  have h0 : ((win2_3.blk t).view.emb (ix4 0 y1 y2 y3)) = (ix4 ⟨t.val, ht⟩ y1 y2 y3 : S8x28x28x128.Idx) := by
    blk_ext [e3]
  refine (tile2 _ _ _ _ _ _).trans ?_
  rw [h0]
  unfold made2
  simp only [r0, r1, r2]
  rfl

variable (V : Valuation τ sig (Elt Ideal))

theorem ring2 (b : Fin 8) (p q : Fin 30) (r : Fin 256) :
    after hostOps2_1 V (Proc.devRef .tc main_v29) (ix4 b p q r)
      = if h : (1 ≤ p.val ∧ p.val - 1 < 28) ∧ (1 ≤ q.val ∧ q.val - 1 < 28) then
          V (Proc.devRef .tc main_v28) (ix4 b ⟨p.val - 1, h.1.2⟩ ⟨q.val - 1, h.2.2⟩ r)
        else sitofp (F := Ideal) .f32 (V (Proc.devRef .tc main_c_1)) (Shape.Idx.first h_S_) := by
  after_reads_at

theorem depth2 (b : Fin 8) (p q : Fin 28) (u v : Fin 2) (c : Fin 64) :
    after hostOps2 V (Proc.devRef .tc main_v28) (ix4 b p q ⟨(2 * u.val + v.val) * 64 + c.val, by omega⟩)
      = V (Proc.devRef .tc main_v25) (ix4 b ⟨2 * p.val + u.val, by omega⟩ ⟨2 * q.val + v.val, by omega⟩ c) := by
  after_reads_simp
  pointwise
  congr 2 <;> exact Fin.ext (by dsimp only; omega)

theorem zero2 : sitofp (F := Ideal) .f32 (after hostOps2 V (Proc.devRef .tc main_c_1)) (Shape.Idx.first h_S_) = (0 : EReal) := by
  after_reads_simp
  exact sitofp_zero

theorem host2 (b : Fin 8) (p q : Fin 30) (u v : Fin 2) (c : Fin 64) :
    after hostOps2_1 (after hostOps2 V) (Proc.devRef .tc main_v29) (ix4 b p q ⟨(2 * u.val + v.val) * 64 + c.val, by omega⟩)
      = border (fun (b : Fin 8) (i j : Fin 56) (c : Fin 64) => V (Proc.devRef .tc main_v25) (ix4 b i j c)) b (2 * p.val + u.val - 1) (2 * q.val + v.val - 1) c := by
  rw [ring2, zero2]
  unfold border
  by_cases h : (1 ≤ p.val ∧ p.val - 1 < 28) ∧ (1 ≤ q.val ∧ q.val - 1 < 28)
  · rw [dif_pos h, dif_pos (by omega), depth2]
    dsimp only
    congr 2 <;> exact Fin.ext (by dsimp only; omega)
  · rw [dif_neg h, dif_neg (by omega)]

theorem weights2 (kh kw : Fin 4) (c : Fin 64) (n : Fin 128) :
    after hostOps2_2 V (Proc.devRef .tc main_v31) (ix2 ⟨(4 * kh.val + kw.val) * 64 + c.val, by omega⟩ n)
      = V (Proc.devRef .tc main_arg5) (ix4 n c kh kw) := by
  after_reads_simp
  pointwise

theorem bias2 (n : Fin 128) :
    after hostOps2_2 V (Proc.devRef .tc main_v32) (ix2 0 n) = V (Proc.devRef .tc main_arg6) (ix1 n) := by
  after_reads_simp
  pointwise

theorem layer3 (m : (ℓ : Loc nD τ sig) → Buf (Elt Ideal) ℓ) (ρ : Dev nD → PrngReg) (c : Dev nD)
    (b : Fin 8) (i j : Fin 28) (n : Fin 128) :
    W12 m ρ c (Proc.devRef .tc main_v33) (ix4 b i j n)
      = relu (conv 28 28 (fun (b : Fin 8) (i j : Fin 56) (k : Fin 64) => W8 m ρ c (Proc.devRef .tc main_v25) (ix4 b i j k))
          (fun n k kh kw => m ((c : Thread nD τ).loc main_arg5) (ix4 n k kh kw)) (fun n => m ((c : Thread nD τ).loc main_arg6) (ix1 n))) b i j n := by
  refine (congrFun ((W12_arr m ρ c 3).trans (array2 (V11 m ρ) c)) (ix4 b i j n)).trans ?_
  have hx : ∀ (b : Fin 8) (p q : Fin 30) (u v : Fin 2) (k : Fin 64),
      W11 m ρ c (Proc.devRef .tc main_v29) (ix4 b p q ⟨(2 * u.val + v.val) * 64 + k.val, by omega⟩) = _ := fun b p q u v k =>
    (congrFun (W11_of m ρ c main_v29 (by decide)) _).trans (host2 (W8 m ρ c) b p q u v k)
  have hw : ∀ (kh kw : Fin 4) (k : Fin 64) (n : Fin 128),
      W11 m ρ c (Proc.devRef .tc main_v31) (ix2 ⟨(4 * kh.val + kw.val) * 64 + k.val, by omega⟩ n)
        = m ((c : Thread nD τ).loc main_arg5) (ix4 n k kh kw) := fun kh kw k n =>
    (weights2 (W10 m ρ c) kh kw k n).trans (congrFun (W10_args m ρ c main_arg5 (by decide)) _)
  have hb : ∀ n, W11 m ρ c (Proc.devRef .tc main_v32) (ix2 0 n) = m ((c : Thread nD τ).loc main_arg6) (ix1 n) := fun n =>
    (bias2 (W10 m ρ c) n).trans (congrFun (W10_args m ρ c main_arg6 (by decide)) _)
  exact conv2_of _ _ _ _ _ _ hx hw hb b i j n

/-! ## Layer 4 -/

theorem slices3 (kh kw : Fin 4) : Shape.Slices S16x16x512
    ![(kh.val + 1) / 2, (kw.val + 1) / 2, (2 * ((kh.val + 1) % 2) + (kw.val + 1) % 2) * 128] S14x14x128 := by
  revert kh kw
  decide

/-- The slice that kernel row `kh` and kernel column `kw` meet. -/
def piece3 (x : Vec Ideal S16x16x512 .f32) (kh kw : Fin 4) : (⟨3, ![14, 14, 128]⟩ : Shape).Idx → EReal :=
  extractStridedSlice S14x14x128 ![(kh.val + 1) / 2, (kw.val + 1) / 2, (2 * ((kh.val + 1) % 2) + (kw.val + 1) % 2) * 128] x
    (slices3 kh kw)

theorem tile3 (v0 : Vec Ideal S1x16x16x512 .f32) (v20 : Vec Ideal S2048x32 .f32) (v23 : Vec Ideal S1x32 .f32)
    (i j : Fin 14) (n : Fin 32) : k3_pay1 v0 v20 v23 (ix4 0 i j n) = (∑ kh : Fin 4, ∑ kw : Fin 4, ∑ c : Fin 128,
        v0 (ix4 0 ⟨(kh.val + 1) / 2 + (i).val, by omega⟩ ⟨(kw.val + 1) / 2 + (j).val, by omega⟩
            ⟨(2 * ((kh.val + 1) % 2) + (kw.val + 1) % 2) * 128 + c.val, by omega⟩)
          * v20 (ix2 ⟨(4 * kh.val + kw.val) * 128 + c.val, by omega⟩ n)) + v23 (ix2 0 n) := by
  unfold k3_pay1
  generalize hv : concatenate _ _ _ _ = v18
  have hv' : v18 = concatenate S14x14x2048 (2 : Fin 3)
      (pieces 4 (piece3 (shapeCast S16x16x512 v0 shapeCasts_S1x16x16x512_S16x16x512)))
      concatenates_S14x14x128_S14x14x128_S14x14x128_S14x14x128_S14x14x128_S14x14x128_S14x14x128_S14x14x128_S14x14x128_S14x14x128_S14x14x128_S14x14x128_S14x14x128_S14x14x128_S14x14x128_S14x14x128_S14x14x2048_d2 := by
    rw [← hv]
    refine concatenate_list _ _ (Eq.trans ?_ (pieces_4 _).symm)
    rfl
  clear hv
  pointwise
  rw [sum_pieces (C := 128) 4 rfl]
  congr 1
  refine Finset.sum_congr rfl fun kh _ => Finset.sum_congr rfl fun kw _ => Finset.sum_congr rfl fun c _ => ?_
  congr 1
  rw [hv']
  refine (cat_pieces (R := 4) _ _ i j kh kw c _).trans ?_
  unfold piece3
  pointwise

/-- What the layer's result holds, from what its operands hold. -/
def made3 (x : Vec Ideal S8x16x16x512 .f32) (w : Vec Ideal S2048x32 .f32) (bias : Vec Ideal S1x32 .f32)
    (b : Fin 8) (i j : Fin 14) (n : Fin 32) : EReal :=
  (∑ kh : Fin 4, ∑ kw : Fin 4, ∑ c : Fin 128,
        x (ix4 b ⟨(kh.val + 1) / 2 + (i).val, by omega⟩ ⟨(kw.val + 1) / 2 + (j).val, by omega⟩
            ⟨(2 * ((kh.val + 1) % 2) + (kw.val + 1) % 2) * 128 + c.val, by omega⟩)
          * w (ix2 ⟨(4 * kh.val + kw.val) * 128 + c.val, by omega⟩ n)) + bias (ix2 0 n)

/-- The layer's result is the convolution, whatever its operands hold, if they hold the picture by blocks and the weights. -/
theorem conv3_of (x : Vec Ideal S8x16x16x512 .f32) (w : Vec Ideal S2048x32 .f32) (bias : Vec Ideal S1x32 .f32)
    (A : Pic 8 28 28 128) (wt : Fin 32 → Fin 128 → Fin 4 → Fin 4 → EReal) (bi : Fin 32 → EReal)
    (hx : ∀ (b : Fin 8) (p q : Fin 16) (u v : Fin 2) (k : Fin 128), x (ix4 b p q ⟨(2 * u.val + v.val) * 128 + k.val, by omega⟩)
      = border A b (2 * p.val + u.val - 1) (2 * q.val + v.val - 1) k)
    (hw : ∀ (kh kw : Fin 4) (k : Fin 128) (n : Fin 32), w (ix2 ⟨(4 * kh.val + kw.val) * 128 + k.val, by omega⟩ n) = wt n k kh kw)
    (hb : ∀ n : Fin 32, bias (ix2 0 n) = bi n) (b : Fin 8) (i j : Fin 14) (n : Fin 32) :
    made3 x w bias b i j n = (conv 14 14 A wt bi) b i j n := by
  dsimp only [made3, conv]
  rw [hb]
  congr 1
  refine Finset.sum_congr rfl fun kh _ => Finset.sum_congr rfl fun kw _ => Finset.sum_congr rfl fun k _ => ?_
  rw [hw]
  congr 1
  refine (hx b ⟨(kh.val + 1) / 2 + i.val, by omega⟩ ⟨(kw.val + 1) / 2 + j.val, by omega⟩ ⟨(kh.val + 1) % 2, by omega⟩
    ⟨(kw.val + 1) % 2, by omega⟩ k).trans ?_
  dsimp only
  congr 1 <;> omega

theorem place3 : ∀ t : Fin cfg3.N, win3_0.index t = ![t.val, 0, 0, 0] ∧ win3_1.index t = ![0, 0]
    ∧ win3_2.index t = ![0, 0] ∧ win3_3.index t = ![t.val, 0, 0, 0] :=
  (by decide +kernel : ∀ t : Fin grid3.N, _)

theorem array3 (V : (c : Dev nD) → (b : Ref sig .tc) → Buf (Elt Ideal) ((c : Thread nD τ).loc b)) (c : Dev nD) :
    (dat3 V c).arrAt 3 cfg3.N = fun z => made3 (V c main_v37) (V c main_v39) (V c main_v40) (z 0) (z 1) (z 2) (z 3) := by
  refine (dat3 V c).arrAt_eq_of_covers 3 _ (by decide +kernel) fun t _ y => ?_
  blk_simp
  rw [after3_3]
  unfold out3_3
  rw [View.canon_unit_zero (by decide +kernel), View.ld_unit_zero (by decide +kernel), View.ld_unit_zero (by decide +kernel),
    View.ld_unit_zero (by decide +kernel)]
  obtain ⟨e0, e1, e2, e3⟩ := place3 t
  have ht : t.val < 8 := t.isLt
  have r0 : ∀ (p q : Fin 16) (r : Fin 512), iblk3 V c 0 t (ix4 0 p q r) = V c main_v37 (ix4 ⟨t.val, ht⟩ p q r) := fun p q r => by
    blk_ext [iblk3, e0]
  have r1 : ∀ (r : Fin 2048) (n : Fin 32), iblk3 V c 1 t (ix2 r n) = V c main_v39 (ix2 r n) := fun r n => by
    blk_ext [iblk3, e1]
  have r2 : ∀ n : Fin 32, iblk3 V c 2 t (ix2 0 n) = V c main_v40 (ix2 0 n) := fun n => by
    blk_ext [iblk3, e2]
  obtain ⟨y0, y1, y2, y3, rfl⟩ : ∃ (y0 : Fin 1) (y1 : Fin 14) (y2 : Fin 14) (y3 : Fin 32), y = (ix4 y0 y1 y2 y3 : S1x14x14x32.Idx) :=
    ⟨y 0, y 1, y 2, y 3, eq_ix4 _⟩
  obtain rfl : y0 = 0 := Subsingleton.elim _ _
  have h0 : ((win3_3.blk t).view.emb (ix4 0 y1 y2 y3)) = (ix4 ⟨t.val, ht⟩ y1 y2 y3 : S8x14x14x32.Idx) := by
    blk_ext [e3]
  refine (tile3 _ _ _ _ _ _).trans ?_
  rw [h0]
  unfold made3
  simp only [r0, r1, r2]
  rfl

variable (V : Valuation τ sig (Elt Ideal))

theorem ring3 (b : Fin 8) (p q : Fin 16) (r : Fin 512) :
    after hostOps3_1 V (Proc.devRef .tc main_v37) (ix4 b p q r)
      = if h : (1 ≤ p.val ∧ p.val - 1 < 14) ∧ (1 ≤ q.val ∧ q.val - 1 < 14) then
          V (Proc.devRef .tc main_v36) (ix4 b ⟨p.val - 1, h.1.2⟩ ⟨q.val - 1, h.2.2⟩ r)
        else sitofp (F := Ideal) .f32 (V (Proc.devRef .tc main_c_2)) (Shape.Idx.first h_S_) := by
  after_reads_at

theorem depth3 (b : Fin 8) (p q : Fin 14) (u v : Fin 2) (c : Fin 128) :
    after hostOps3 V (Proc.devRef .tc main_v36) (ix4 b p q ⟨(2 * u.val + v.val) * 128 + c.val, by omega⟩)
      = V (Proc.devRef .tc main_v33) (ix4 b ⟨2 * p.val + u.val, by omega⟩ ⟨2 * q.val + v.val, by omega⟩ c) := by
  after_reads_simp
  pointwise
  congr 2 <;> exact Fin.ext (by dsimp only; omega)

theorem zero3 : sitofp (F := Ideal) .f32 (after hostOps3 V (Proc.devRef .tc main_c_2)) (Shape.Idx.first h_S_) = (0 : EReal) := by
  after_reads_simp
  exact sitofp_zero

theorem host3 (b : Fin 8) (p q : Fin 16) (u v : Fin 2) (c : Fin 128) :
    after hostOps3_1 (after hostOps3 V) (Proc.devRef .tc main_v37) (ix4 b p q ⟨(2 * u.val + v.val) * 128 + c.val, by omega⟩)
      = border (fun (b : Fin 8) (i j : Fin 28) (c : Fin 128) => V (Proc.devRef .tc main_v33) (ix4 b i j c)) b (2 * p.val + u.val - 1) (2 * q.val + v.val - 1) c := by
  rw [ring3, zero3]
  unfold border
  by_cases h : (1 ≤ p.val ∧ p.val - 1 < 14) ∧ (1 ≤ q.val ∧ q.val - 1 < 14)
  · rw [dif_pos h, dif_pos (by omega), depth3]
    dsimp only
    congr 2 <;> exact Fin.ext (by dsimp only; omega)
  · rw [dif_neg h, dif_neg (by omega)]

theorem weights3 (kh kw : Fin 4) (c : Fin 128) (n : Fin 32) :
    after hostOps3_2 V (Proc.devRef .tc main_v39) (ix2 ⟨(4 * kh.val + kw.val) * 128 + c.val, by omega⟩ n)
      = V (Proc.devRef .tc main_arg7) (ix4 n c kh kw) := by
  after_reads_simp
  pointwise

theorem bias3 (n : Fin 32) :
    after hostOps3_2 V (Proc.devRef .tc main_v40) (ix2 0 n) = V (Proc.devRef .tc main_arg8) (ix1 n) := by
  after_reads_simp
  pointwise

theorem layer4 (m : (ℓ : Loc nD τ sig) → Buf (Elt Ideal) ℓ) (ρ : Dev nD → PrngReg) (c : Dev nD)
    (b : Fin 8) (i j : Fin 14) (n : Fin 32) :
    W16 m ρ c (Proc.devRef .tc main_v41) (ix4 b i j n)
      = (conv 14 14 (fun (b : Fin 8) (i j : Fin 28) (k : Fin 128) => W12 m ρ c (Proc.devRef .tc main_v33) (ix4 b i j k))
          (fun n k kh kw => m ((c : Thread nD τ).loc main_arg7) (ix4 n k kh kw)) (fun n => m ((c : Thread nD τ).loc main_arg8) (ix1 n))) b i j n := by
  refine (congrFun ((W16_arr m ρ c 3).trans (array3 (V15 m ρ) c)) (ix4 b i j n)).trans ?_
  have hx : ∀ (b : Fin 8) (p q : Fin 16) (u v : Fin 2) (k : Fin 128),
      W15 m ρ c (Proc.devRef .tc main_v37) (ix4 b p q ⟨(2 * u.val + v.val) * 128 + k.val, by omega⟩) = _ := fun b p q u v k =>
    (congrFun (W15_of m ρ c main_v37 (by decide)) _).trans (host3 (W12 m ρ c) b p q u v k)
  have hw : ∀ (kh kw : Fin 4) (k : Fin 128) (n : Fin 32),
      W15 m ρ c (Proc.devRef .tc main_v39) (ix2 ⟨(4 * kh.val + kw.val) * 128 + k.val, by omega⟩ n)
        = m ((c : Thread nD τ).loc main_arg7) (ix4 n k kh kw) := fun kh kw k n =>
    (weights3 (W14 m ρ c) kh kw k n).trans (congrFun (W14_args m ρ c main_arg7 (by decide)) _)
  have hb : ∀ n, W15 m ρ c (Proc.devRef .tc main_v40) (ix2 0 n) = m ((c : Thread nD τ).loc main_arg8) (ix1 n) := fun n =>
    (bias3 (W14 m ρ c) n).trans (congrFun (W14_args m ρ c main_arg8 (by decide)) _)
  exact conv3_of _ _ _ _ _ _ hx hw hb b i j n

end Cert.KernelIdeal.Value
-- ==== Proof.KerFirst.lean ====
/-
  The encoder's first layer in the kernel: patches of the picture against the weights, tile after tile of rows.
-/
module

public import proofs.«01_k».proof.Proof.KerEnc

@[expose] public section

set_option maxRecDepth 16384
set_option maxHeartbeats 1000000

noncomputable section

namespace Cert.KernelIdeal.Value

open Idealize.ShloMosaic Idealize.ShloMosaic.TcCoe StableHlo Idealize.SL.Sem Cert.KernelIdeal Gen Cert.Net
open Idealize.ShloMosaic.Pipeline (Dat)

theorem tile0 (v0 : Vec Ideal S3136x16 .f32) (v2 : Vec Ideal S16x32 .f32) (v5 : Vec Ideal S1x32 .f32) (r : Fin 3136) (n : Fin 32) :
    k0_pay1 v0 v2 v5 (ix2 r n) = max ((∑ k : Fin 16, v0 (ix2 r k) * v2 (ix2 k n)) + v5 (ix2 0 n)) 0 := by
  unfold k0_pay1
  pointwise

/-- What the layer's result holds, from what its operands hold. -/
def made0 (x : Vec Ideal S100352x16 .f32) (w : Vec Ideal S16x32 .f32) (bias : Vec Ideal S1x32 .f32) (r : Fin 100352) (n : Fin 32) : EReal :=
  max ((∑ k : Fin 16, x (ix2 r k) * w (ix2 k n)) + bias (ix2 0 n)) 0

theorem place0 : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem array0 (V : (c : Dev nD) → (b : Ref sig .tc) → Buf (Elt Ideal) ((c : Thread nD τ).loc b)) (c : Dev nD) :
    (dat0 V c).arrAt 3 cfg0.N = fun z => made0 (V c main_v12) (V c main_v14) (V c main_v15) (z 0) (z 1) := by
  refine (dat0 V c).arrAt_eq_of_covers 3 _ (by decide +kernel) fun t _ y => ?_
  blk_simp
  rw [after0_3]
  unfold out0_3
  rw [View.canon_unit_zero (by decide +kernel), View.ld_unit_zero (by decide +kernel), View.ld_unit_zero (by decide +kernel),
    View.ld_unit_zero (by decide +kernel)]
  obtain ⟨e0, e1, e2, e3⟩ := place0 t
  have ht : t.val < 32 := t.isLt
  have r0 : ∀ (p : Fin 3136) (r : Fin 16), iblk0 V c 0 t (ix2 p r) = V c main_v12 (ix2 ⟨t.val * 3136 + p.val, by omega⟩ r) := fun p r => by
    blk_ext [iblk0, e0]
  have r1 : ∀ (r : Fin 16) (n : Fin 32), iblk0 V c 1 t (ix2 r n) = V c main_v14 (ix2 r n) := fun r n => by
    blk_ext [iblk0, e1]
  have r2 : ∀ n : Fin 32, iblk0 V c 2 t (ix2 0 n) = V c main_v15 (ix2 0 n) := fun n => by
    blk_ext [iblk0, e2]
  obtain ⟨y0, y1, rfl⟩ : ∃ (y0 : Fin 3136) (y1 : Fin 32), y = (ix2 y0 y1 : S3136x32.Idx) := ⟨y 0, y 1, eq_ix2 _⟩
  have h0 : ((win0_3.blk t).view.emb (ix2 y0 y1)) = (ix2 ⟨t.val * 3136 + y0.val, by omega⟩ y1 : S100352x32.Idx) := by
    blk_ext [e3]
  refine (tile0 _ _ _ _ _).trans ?_
  rw [h0]
  unfold made0
  simp only [r0, r1, r2]
  rfl

variable (V : Valuation τ sig (Elt Ideal))

theorem ring0 (b : Fin 8) (p q : Fin 226) :
    after hostOps0_1 V (Proc.devRef .tc main_v0) (ix3 b p q)
      = if h : (1 ≤ p.val ∧ p.val - 1 < 224) ∧ (1 ≤ q.val ∧ q.val - 1 < 224) then
          V (Proc.devRef .tc main_arg0) (ix3 b ⟨p.val - 1, h.1.2⟩ ⟨q.val - 1, h.2.2⟩)
        else sitofp (F := Ideal) .f32 (V (Proc.devRef .tc main_c)) (Shape.Idx.first h_S_) := by
  after_reads_at

theorem zero0 : sitofp (F := Ideal) .f32 (after hostOps0 V (Proc.devRef .tc main_c)) (Shape.Idx.first h_S_) = (0 : EReal) := by
  after_reads_simp
  exact sitofp_zero

theorem arg0 : after hostOps0 V (Proc.devRef .tc main_arg0) = V (Proc.devRef .tc main_arg0) := by
  after_reads_simp

theorem host0 (b : Fin 8) (p q : Fin 226) :
    after hostOps0_1 (after hostOps0 V) (Proc.devRef .tc main_v0) (ix3 b p q)
      = border (fun (b : Fin 8) (i j : Fin 224) (_ : Fin 1) => V (Proc.devRef .tc main_arg0) (ix3 b i j)) b p.val q.val 0 := by
  rw [ring0, zero0, arg0]
  unfold border
  by_cases h : (1 ≤ p.val ∧ p.val - 1 < 224) ∧ (1 ≤ q.val ∧ q.val - 1 < 224)
  · rw [dif_pos h, dif_pos (by omega)]
  · rw [dif_neg h, dif_neg (by omega)]

omit V in
theorem at3 {α : Type} (f : S8x226x226.Idx → α) (b : Fin 8) (p p' q q' : Fin 226) (hp : p.val = p'.val) (hq : q.val = q'.val) :
    f (ix3 b p q) = f (ix3 b p' q') := by rw [Fin.ext hp, Fin.ext hq]

theorem patches (b : Fin 8) (i j : Fin 112) (kh kw : Fin 4) :
    after hostOps0_2 V (Proc.devRef .tc main_v12) (ix2 ⟨(b.val * 112 + i.val) * 112 + j.val, by omega⟩ ⟨4 * kh.val + kw.val, by omega⟩)
      = V (Proc.devRef .tc main_v0) (ix3 b ⟨2 * i.val + kh.val, by omega⟩ ⟨2 * j.val + kw.val, by omega⟩) := by
  fin_vals kh with hk <;> fin_vals kw with hl <;> simp only [hk, hl] <;> after_reads_simp <;> pointwise <;> after_reads_simp <;> pointwise <;> after_reads_simp <;> pointwise <;>
    exact at3 _ _ _ _ _ _ (by dsimp only; omega) (by dsimp only; omega)

theorem weights0 (kh kw : Fin 4) (n : Fin 32) :
    after hostOps0_2 V (Proc.devRef .tc main_v14) (ix2 ⟨4 * kh.val + kw.val, by omega⟩ n)
      = V (Proc.devRef .tc main_arg1) (ix4 n 0 kh kw) := by
  after_reads_simp
  pointwise

theorem bias0 (n : Fin 32) :
    after hostOps0_2 V (Proc.devRef .tc main_v15) (ix2 0 n) = V (Proc.devRef .tc main_arg2) (ix1 n) := by
  after_reads_simp
  pointwise

/-- The layer's result is the convolution, whatever its operands hold, if they hold the patches and the weights. -/
theorem conv0_of (x : Vec Ideal S100352x16 .f32) (w : Vec Ideal S16x32 .f32) (bias : Vec Ideal S1x32 .f32)
    (A : Pic 8 224 224 1) (wt : Fin 32 → Fin 1 → Fin 4 → Fin 4 → EReal) (bi : Fin 32 → EReal)
    (hx : ∀ (b : Fin 8) (i j : Fin 112) (kh kw : Fin 4), x (ix2 ⟨(b.val * 112 + i.val) * 112 + j.val, by omega⟩ ⟨4 * kh.val + kw.val, by omega⟩)
      = border A b (2 * i.val + kh.val) (2 * j.val + kw.val) 0)
    (hw : ∀ (kh kw : Fin 4) (n : Fin 32), w (ix2 ⟨4 * kh.val + kw.val, by omega⟩ n) = wt n 0 kh kw)
    (hb : ∀ n : Fin 32, bias (ix2 0 n) = bi n) (b : Fin 8) (i j : Fin 112) (n : Fin 32) :
    made0 x w bias ⟨(b.val * 112 + i.val) * 112 + j.val, by omega⟩ n = relu (conv 112 112 A wt bi) b i j n := by
  dsimp only [made0, relu, conv]
  rw [hb, sum_pieces (C := 1) 4 rfl]
  congr 2
  refine Finset.sum_congr rfl fun kh _ => Finset.sum_congr rfl fun kw _ => Finset.sum_congr rfl fun k _ => ?_
  obtain rfl : k = 0 := Subsingleton.elim _ _
  rw [← hx, ← hw]
  simp only [Nat.mul_one, Fin.val_zero, Nat.add_zero]

theorem layer1 (m : (ℓ : Loc nD τ sig) → Buf (Elt Ideal) ℓ) (ρ : Dev nD → PrngReg) (c : Dev nD)
    (b : Fin 8) (i j : Fin 112) (n : Fin 32) :
    W4 m ρ c (Proc.devRef .tc main_v16) (ix2 ⟨(b.val * 112 + i.val) * 112 + j.val, by omega⟩ n)
      = relu (conv 112 112 (fun (b : Fin 8) (i j : Fin 224) (_ : Fin 1) => m ((c : Thread nD τ).loc main_arg0) (ix3 b i j))
          (fun n k kh kw => m ((c : Thread nD τ).loc main_arg1) (ix4 n k kh kw)) (fun n => m ((c : Thread nD τ).loc main_arg2) (ix1 n))) b i j n := by
  refine (congrFun ((W4_arr m ρ c 3).trans (array0 (V3 m ρ) c)) (ix2 ⟨(b.val * 112 + i.val) * 112 + j.val, by omega⟩ n)).trans ?_
  have hx : ∀ (b : Fin 8) (i j : Fin 112) (kh kw : Fin 4),
      W3 m ρ c (Proc.devRef .tc main_v12) (ix2 ⟨(b.val * 112 + i.val) * 112 + j.val, by omega⟩ ⟨4 * kh.val + kw.val, by omega⟩) = _ :=
    fun b i j kh kw => (patches (W2 m ρ c) b i j kh kw).trans (host0 (W0 m ρ c) b _ _)
  have hw : ∀ (kh kw : Fin 4) (n : Fin 32),
      W3 m ρ c (Proc.devRef .tc main_v14) (ix2 ⟨4 * kh.val + kw.val, by omega⟩ n)
        = m ((c : Thread nD τ).loc main_arg1) (ix4 n 0 kh kw) := fun kh kw n =>
    (weights0 (W2 m ρ c) kh kw n).trans (congrFun (W2_args m ρ c main_arg1 (by decide)) _)
  have hb : ∀ n, W3 m ρ c (Proc.devRef .tc main_v15) (ix2 0 n) = m ((c : Thread nD τ).loc main_arg2) (ix1 n) := fun n =>
    (bias0 (W2 m ρ c) n).trans (congrFun (W2_args m ρ c main_arg2 (by decide)) _)
  exact conv0_of _ _ _ _ _ _ hx hw hb b i j n

end Cert.KernelIdeal.Value
-- ==== Proof.Vq.lean ====
/-
  The choice of a codebook vector: the ways the two programs find the first least distance, and the row a choice takes.
-/
module

public import proofs.«01_k».proof.Proof.Spec
public import proofs.«01_k».proof.ReferenceIdeal
public import Idealize.ShloMosaic.Lib.Pipeline.ValueKit
public import Idealize.ShloMosaic.Lib.StableHlo.Predicate

@[expose] public section

set_option maxRecDepth 16384

noncomputable section

namespace Cert.Net

open Idealize.ShloMosaic Finset

variable {K : ℕ} [NeZero K]

theorem two_eq : (Ideal.ofBits FTy.f32 1073741824#32 : EReal) = 2 := by
  have : (Ideal.ofBits FTy.f32 1073741824#32 : EReal) = ((2 : ℝ) : EReal) := by
    simp [Ideal.ofBits, Ideal.ieee]; rw [← EReal.coe_mul]; norm_num
  rw [this]; rfl

theorem quarter_eq : (Ideal.ofBits FTy.f32 0x3E800000#32 : EReal) = ((1 / 4 : ℝ) : EReal) := by
  simp [Ideal.ofBits, Ideal.ieee]; rw [← EReal.coe_mul]; norm_num

theorem count_eq : (Ideal.ofBits FTy.f32 0x47440000#32 : EReal) = ((50176 : ℝ) : EReal) := by
  simp [Ideal.ofBits, Ideal.ieee]; rw [← EReal.coe_mul]; norm_num

theorem top_eq : (Ideal.ofBits FTy.f32 2139095040#32 : EReal) = ⊤ := by simp [Ideal.ofBits, Ideal.ieee]

/-- The pixels of a picture of 14 × 14 vectors, row after row. -/
def flat (z : Pic 8 14 14 32) (r : Fin 1568) (n : Fin 32) : EReal :=
  z ⟨r.val / 196, by omega⟩ ⟨r.val / 14 % 14, by omega⟩ ⟨r.val % 14, by omega⟩ n

/-- The codebook's vector that row `r` chooses: the first of the nearest. -/
def choice (Z : Fin 1568 → Fin 32 → EReal) (E : Fin 512 → Fin 32 → EReal) (r : Fin 1568) : Fin 512 := first (dist Z E r)

/-- The squares of what the choice leaves, over all rows. -/
def rest (z q : Fin 1568 → Fin 32 → EReal) : EReal := ∑ r : Fin 1568, ∑ c : Fin 32, (q r c - z r c) * (q r c - z r c)

/-- A sum over the rows, picture after picture. -/
theorem sum_rows (g : Fin 1568 → EReal) :
    ∑ r, g r = ∑ b : Fin 8, ∑ i : Fin 14, ∑ j : Fin 14, g ⟨(b.val * 14 + i.val) * 14 + j.val, by omega⟩ := by
  rw [← (finProdFinEquiv (m := 8 * 14) (n := 14)).sum_comp, Fintype.sum_prod_type,
    ← (finProdFinEquiv (m := 8) (n := 14)).sum_comp, Fintype.sum_prod_type]
  refine sum_congr rfl fun b _ => sum_congr rfl fun i _ => sum_congr rfl fun j _ => congrArg g (Fin.ext ?_)
  simp only [finProdFinEquiv_apply_val]
  omega

theorem flat_row (z : Pic 8 14 14 32) (b : Fin 8) (i j : Fin 14) (n : Fin 32) :
    flat z ⟨(b.val * 14 + i.val) * 14 + j.val, by omega⟩ n = z b i j n := by
  have hb : (⟨((b.val * 14 + i.val) * 14 + j.val) / 196, by omega⟩ : Fin 8) = b := Fin.ext (by dsimp only; omega)
  have hi : (⟨((b.val * 14 + i.val) * 14 + j.val) / 14 % 14, by omega⟩ : Fin 14) = i := Fin.ext (by dsimp only; omega)
  have hj : (⟨((b.val * 14 + i.val) * 14 + j.val) % 14, by omega⟩ : Fin 14) = j := Fin.ext (by dsimp only; omega)
  unfold flat
  dsimp only
  rw [hb, hi, hj]

/-- The sum over all rows and columns is the sum over the picture, its channels before its places. -/
theorem sum_flat (f : Pic 8 14 14 32) :
    ∑ b : Fin 8, ∑ n : Fin 32, ∑ i : Fin 14, ∑ j : Fin 14, f b i j n = ∑ r : Fin 1568, ∑ n : Fin 32, flat f r n := by
  rw [sum_rows]
  refine sum_congr rfl fun b _ => ?_
  rw [sum_comm]
  refine sum_congr rfl fun i _ => ?_
  rw [sum_comm]
  exact sum_congr rfl fun j _ => sum_congr rfl fun n _ => (flat_row f b i j n).symm

/-- The least of a family is its value at the first index at which it is least. -/
theorem fold_least (f : Fin K → EReal) : (univ : Finset (Fin K)).fold min ⊤ f = f (first f) :=
  le_antisymm ((fold_min_le _).2 (Or.inr ⟨_, mem_univ _, le_refl _⟩))
    ((le_fold_min _).2 ⟨le_top, fun j _ => first_le f j⟩)

theorem toInt_minsi (x y : BitVec 32) : (IntOp.minsi x y).toInt = min x.toInt y.toInt := by
  unfold IntOp.minsi
  by_cases h : x.slt y
  · rw [if_pos h]; rw [BitVec.slt_iff_toInt_lt] at h; exact (min_eq_left h.le).symm
  · rw [if_neg h]; rw [BitVec.slt_iff_toInt_lt] at h; exact (min_eq_right (not_lt.mp h)).symm

theorem toInt_index (k : Fin K) (hK : K ≤ 512) : (BitVec.ofNat 32 k.val).toInt = k.val :=
  StableHlo.Predicate.toInt_ofNat_small _ (by omega)

/-- The least of the indices at which a family is least, `512` standing for the others. -/
theorem fold_index (f : Fin K → EReal) (hK : K ≤ 512) :
    (univ : Finset (Fin K)).fold IntOp.minsi 2147483647#32
      (fun k => if f k = f (first f) then BitVec.ofNat 32 k.val else 512#32) = BitVec.ofNat 32 (first f).val := by
  refine BitVec.eq_of_toInt_eq ?_
  rw [← fold_hom (op' := min) (m := BitVec.toInt) toInt_minsi, toInt_index _ hK]
  have hv : ∀ k : Fin K, (if f k = f (first f) then BitVec.ofNat 32 k.val else 512#32).toInt
      = if f k = f (first f) then (k.val : ℤ) else 512 := fun k => by
    by_cases h : f k = f (first f)
    · rw [if_pos h, if_pos h, toInt_index _ hK]
    · rw [if_neg h, if_neg h]; decide
  refine le_antisymm ((fold_min_le _).2 (Or.inr ⟨first f, mem_univ _, ?_⟩)) ((le_fold_min _).2 ⟨?_, fun k _ => ?_⟩)
  · rw [hv, if_pos rfl]
  · have : (2147483647#32).toInt = 2147483647 := by decide
    have := (first f).isLt
    omega
  · rw [hv]
    by_cases h : f k = f (first f)
    · rw [if_pos h]
      have : (first f).val ≤ k.val := first_min f k fun j => h ▸ first_le f j
      omega
    · rw [if_neg h]
      have := (first f).isLt
      omega

/-- The order of the reference's reducer: by value, then by index. -/
def ahead (a b : EReal × BitVec 32) : Prop := a.1 < b.1 ∨ a.1 = b.1 ∧ a.2.toInt ≤ b.2.toInt

theorem ahead_trans {a b c : EReal × BitVec 32} (h : ahead a b) (h' : ahead b c) : ahead a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem reducer_pair (x y : EReal) (i j : BitVec 32) :
    Cert.ReferenceIdeal.reducer_argmin_f32_i32 (F := Ideal) (x, i) (y, j)
      = (Scalar.select (IntOp.ori (Ideal.cmp .olt x y) (Ideal.cmp .une x x)) x y,
        Scalar.select (IntOp.ori (IntOp.ori (Ideal.cmp .olt x y) (Ideal.cmp .une x x))
          (IntOp.andi (Ideal.cmp .oeq x y) (IntOp.cmpi .slt i j))) i j) := rfl

theorem reducer_eq (a b : EReal × BitVec 32) :
    (Cert.ReferenceIdeal.reducer_argmin_f32_i32 (F := Ideal) a b = a ∨ Cert.ReferenceIdeal.reducer_argmin_f32_i32 (F := Ideal) a b = b)
      ∧ ahead (Cert.ReferenceIdeal.reducer_argmin_f32_i32 (F := Ideal) a b) a ∧ ahead (Cert.ReferenceIdeal.reducer_argmin_f32_i32 (F := Ideal) a b) b := by
  obtain ⟨x, i⟩ := a
  obtain ⟨y, j⟩ := b
  rw [reducer_pair]
  unfold ahead
  simp only [Ideal.cmp, IntOp.ori, IntOp.andi, IntOp.cmpi, Scalar.select]
  rcases lt_trichotomy x y with h | h | h
  · simp [h, h.ne]
  · subst h
    by_cases k : i.toInt < j.toInt
    · have e : i.slt j = true := BitVec.slt_iff_toInt_lt.2 k
      simp [e, k.le]
    · have e : i.slt j = false := Bool.eq_false_iff.2 fun h => k (BitVec.slt_iff_toInt_lt.1 h)
      simp [e, not_lt.mp k]
  · simp [h, h.ne', not_lt.mpr h.le]

theorem foldl_ahead (l : List (EReal × BitVec 32)) (a : EReal × BitVec 32) :
    (l.foldl (Cert.ReferenceIdeal.reducer_argmin_f32_i32 (F := Ideal)) a = a ∨ l.foldl (Cert.ReferenceIdeal.reducer_argmin_f32_i32 (F := Ideal)) a ∈ l)
      ∧ ahead (l.foldl (Cert.ReferenceIdeal.reducer_argmin_f32_i32 (F := Ideal)) a) a
      ∧ ∀ p ∈ l, ahead (l.foldl (Cert.ReferenceIdeal.reducer_argmin_f32_i32 (F := Ideal)) a) p := by
  induction l generalizing a with
  | nil => exact ⟨Or.inl rfl, Or.inr ⟨rfl, le_refl _⟩, fun p h => nomatch h⟩
  | cons b l ih =>
    obtain ⟨h1, h2, h3⟩ := ih (Cert.ReferenceIdeal.reducer_argmin_f32_i32 (F := Ideal) a b)
    obtain ⟨e, ea, eb⟩ := reducer_eq a b
    rw [List.foldl_cons]
    refine ⟨?_, ahead_trans h2 ea, fun p hp => ?_⟩
    · rcases h1 with h1 | h1
      · rw [h1]
        rcases e with e | e
        · exact Or.inl e
        · exact Or.inr (by rw [e]; exact List.mem_cons_self)
      · exact Or.inr (List.mem_cons_of_mem _ h1)
    · rcases List.mem_cons.mp hp with rfl | hp
      · exact ahead_trans h2 eb
      · exact h3 p hp

/-- The reference's reducer over every pair of a value and its index ends at the first least value. -/
theorem foldl_index (f : Fin K → EReal) (hK : K ≤ 512) (l : List (EReal × BitVec 32))
    (hl : ∀ p, p ∈ l ↔ ∃ k : Fin K, p = (f k, BitVec.ofNat 32 k.val)) :
    (l.foldl (Cert.ReferenceIdeal.reducer_argmin_f32_i32 (F := Ideal)) (⊤, 0#32)).2 = BitVec.ofNat 32 (first f).val := by
  obtain ⟨h1, h2, h3⟩ := foldl_ahead l (⊤, 0#32)
  generalize l.foldl (Cert.ReferenceIdeal.reducer_argmin_f32_i32 (F := Ideal)) (⊤, 0#32) = r at h1 h2 h3 ⊢
  have hr : ∃ k : Fin K, r = (f k, BitVec.ofNat 32 k.val) := by
    rcases h1 with rfl | h1
    · have h := h3 _ ((hl _).2 ⟨0, rfl⟩)
      refine ⟨0, Prod.ext ?_ ?_⟩
      · rcases h with h | ⟨h, -⟩
        · exact absurd h not_top_lt
        · exact h
      · simp
    · exact (hl _).1 h1
  obtain ⟨k, rfl⟩ := hr
  have hk : ∀ j, f k < f j ∨ f k = f j ∧ k.val ≤ j.val := fun j => by
    rcases h3 _ ((hl _).2 ⟨j, rfl⟩) with h | ⟨h, h'⟩
    · exact Or.inl h
    · refine Or.inr ⟨h, ?_⟩
      simp only [toInt_index _ hK] at h'
      omega
  have : first f = k := first_unique f k (fun j => (hk j).elim (fun h => h.le) (fun h => h.1.le)) fun j hj => by
    rcases hk j with h | ⟨_, h⟩
    · exact h
    · exact absurd hj (not_lt.mpr h)
  rw [this]

/-- The row of a table that an index written as a row of ones and zeros takes. -/
theorem sum_hot {D : ℕ} (E : Fin K → Fin D → EReal) (i : Fin K) (d : Fin D) (u : Fin K → EReal)
    (hu : ∀ k, u k = if k = i then 1 else 0) : ∑ k, u k * E k d = E i d := by
  rw [sum_eq_single i]
  · rw [hu, if_pos rfl, one_mul]
  · intro k _ hk; rw [hu, if_neg hk, zero_mul]
  · exact fun h => absurd (mem_univ _) h

theorem index_eq {i k : Fin K} (hK : K ≤ 512) : BitVec.ofNat 32 k.val = BitVec.ofNat 32 i.val ↔ k = i := by
  constructor
  · intro h
    have := congrArg BitVec.toInt h
    rw [toInt_index _ hK, toInt_index _ hK] at this
    exact Fin.ext (by omega)
  · rintro rfl; rfl

/-- An entry of the row of ones and zeros, as the kernel's body makes it. -/
theorem hot_signed {i k : Fin K} (hK : K ≤ 512) :
    (FloatOps.sitofp (F := Ideal) .f32 (BitVec.setWidth 32 (IntOp.cmpi .eq (BitVec.ofNat 32 k.val) (BitVec.ofNat 32 i.val))) : EReal)
      = if k = i then 1 else 0 := by
  by_cases h : k = i
  · have : IntOp.cmpi .eq (BitVec.ofNat 32 k.val) (BitVec.ofNat 32 i.val) = 1#1 := StableHlo.Predicate.cmpi_eq_iff.2 ((index_eq hK).2 h)
    rw [this, if_pos h]
    show (((BitVec.setWidth 32 1#1).toInt : ℝ) : EReal) = 1
    rw [show (BitVec.setWidth 32 1#1).toInt = 1 from by decide]
    simp
  · have : IntOp.cmpi .eq (BitVec.ofNat 32 k.val) (BitVec.ofNat 32 i.val) = 0#1 :=
      eq_zero_of_ne_one _ fun e => h ((index_eq hK).1 (StableHlo.Predicate.cmpi_eq_iff.1 e))
    rw [this, if_neg h]
    show (((BitVec.setWidth 32 0#1).toInt : ℝ) : EReal) = 0
    rw [show (BitVec.setWidth 32 0#1).toInt = 0 from by decide]
    simp
where eq_zero_of_ne_one (b : BitVec 1) (h : b ≠ 1#1) : b = 0#1 := by revert b; decide

/-- An entry of the row of ones and zeros, as the reference makes it. -/
theorem hot_unsigned {i k : Fin K} (hK : K ≤ 512) :
    (FloatOps.uitofp (F := Ideal) .f32 (IntOp.cmpi .eq (BitVec.ofNat 32 i.val) (BitVec.ofNat 32 k.val)) : EReal)
      = if k = i then 1 else 0 := by
  by_cases h : k = i
  · have : IntOp.cmpi .eq (BitVec.ofNat 32 i.val) (BitVec.ofNat 32 k.val) = 1#1 := StableHlo.Predicate.cmpi_eq_iff.2 ((index_eq hK).2 h).symm
    rw [this, if_pos h]
    show (((1#1 : BitVec 1).toNat : ℝ) : EReal) = 1
    simp
  · have : IntOp.cmpi .eq (BitVec.ofNat 32 i.val) (BitVec.ofNat 32 k.val) = 0#1 :=
      hot_signed.eq_zero_of_ne_one _ fun e => h ((index_eq hK).1 (StableHlo.Predicate.cmpi_eq_iff.1 e).symm)
    rw [this, if_neg h]
    show (((0#1 : BitVec 1).toNat : ℝ) : EReal) = 0
    simp

end Cert.Net

end

end
-- ==== Proof.KerVq.lean ====
/-
  The codebook's part of the kernel: which vector a row chooses, the vectors chosen, and the loss.
-/
module

public import proofs.«01_k».proof.Proof.KerFirst
public import proofs.«01_k».proof.Proof.Vq

@[expose] public section

set_option maxRecDepth 16384
set_option maxHeartbeats 1000000

noncomputable section

namespace Cert.KernelIdeal.Value

open Idealize.ShloMosaic Idealize.ShloMosaic.TcCoe StableHlo Idealize.SL.Sem Cert.KernelIdeal Gen Cert.Net
open Idealize.ShloMosaic.Pipeline (Dat)

/-! ## The body -/

section body
variable (v0 : Vec Ideal S1568x32 .f32) (v2 : Vec Ideal S512x32 .f32) (v7 : Vec Ideal S1x512 .f32)
  (hv : ∀ k : Fin 512, v7 (ix2 0 k) = ∑ c : Fin 32, v2 (ix2 k c) * v2 (ix2 k c))

/-- The vector that row `r` chooses. -/
abbrev pick (r : Fin 1568) : Fin 512 :=
  first (dist (fun (r : Fin 1568) (c : Fin 32) => v0 (ix2 r c)) (fun (k : Fin 512) (c : Fin 32) => v2 (ix2 k c)) r)

include hv in
theorem codes (r : Fin 1568) : k4_pay3 v0 v2 v7 (ix2 r 0) = BitVec.ofNat 32 (pick v0 v2 r).val := by
  unfold k4_pay3 k4_pay2
  pointwise
  unfold pick
  rw [← fold_index (dist (fun (r : Fin 1568) (c : Fin 32) => v0 (ix2 r c)) (fun (k : Fin 512) (c : Fin 32) => v2 (ix2 k c)) r) (le_refl 512),
    ← fold_least (dist (fun (r : Fin 1568) (c : Fin 32) => v0 (ix2 r c)) (fun (k : Fin 512) (c : Fin 32) => v2 (ix2 k c)) r)]
  simp only [hv, two_eq, top_eq]
  rfl

include hv in
theorem quants (r : Fin 1568) (n : Fin 32) : k4_pay4 v0 v2 v7 (ix2 r n) = v2 (ix2 (pick v0 v2 r) n) := by
  unfold k4_pay4
  pointwise
  rw [codes v0 v2 v7 hv]
  exact sum_hot (fun (k : Fin 512) (c : Fin 32) => v2 (ix2 k c)) _ n _ fun k => hot_signed (le_refl 512)

include hv in
theorem part : k4_pay1 (k4_pay5 v0 v2 v7) k4_pay6 (ix2 0 0)
    = rest (fun r c => v0 (ix2 r c)) (fun r c => v2 (ix2 (pick v0 v2 r) c)) * ((5 / 200704 : ℝ) : EReal) := by
  unfold k4_pay1 k4_pay5 k4_pay6
  pointwise
  have h2 : ∀ r c, k4_pay2 v0 (ix2 r c) = v0 (ix2 r c) := fun r c => by unfold k4_pay2; pointwise
  simp only [quants v0 v2 v7 hv, h2]
  rfl

end body

/-! ## The arrays -/

theorem place4 : ∀ t : Fin cfg4.N, win4_0.index t = ![0, 0] ∧ win4_1.index t = ![0, 0] ∧ win4_2.index t = ![0, 0]
    ∧ win4_3.index t = ![0, 0] ∧ win4_4.index t = ![0, 0] ∧ win4_5.index t = ![0, 0] :=
  (by decide +kernel : ∀ t : Fin grid4.N, _)

section arrays
variable (V : (c : Dev nD) → (b : Ref sig .tc) → Buf (Elt Ideal) ((c : Thread nD τ).loc b)) (c : Dev nD)

theorem block4_0 (t : Fin cfg4.N) : iblk4 V c 0 t = V c main_v42 := by
  funext z
  obtain ⟨p, q, rfl⟩ : ∃ (p : Fin 1568) (q : Fin 32), z = (ix2 p q : S1568x32.Idx) := ⟨z 0, z 1, eq_ix2 _⟩
  blk_ext [iblk4, (place4 t).1]

theorem block4_1 (t : Fin cfg4.N) : iblk4 V c 1 t = V c main_arg9 := by
  funext z
  obtain ⟨p, q, rfl⟩ : ∃ (p : Fin 512) (q : Fin 32), z = (ix2 p q : S512x32.Idx) := ⟨z 0, z 1, eq_ix2 _⟩
  blk_ext [iblk4, (place4 t).2.1]

theorem block4_2 (t : Fin cfg4.N) : iblk4 V c 2 t = V c main_v45 := by
  funext z
  obtain ⟨p, q, rfl⟩ : ∃ (p : Fin 1) (q : Fin 512), z = (ix2 p q : S1x512.Idx) := ⟨z 0, z 1, eq_ix2 _⟩
  blk_ext [iblk4, (place4 t).2.2.1]

theorem array4_3 : (dat4 V c).arrAt 3 cfg4.N = k4_pay3 (V c main_v42) (V c main_arg9) (V c main_v45) := by
  refine (dat4 V c).arrAt_eq_of_covers 3 _ (by decide +kernel) fun t _ y => ?_
  blk_simp
  rw [after4_3]
  unfold out4_3
  rw [View.canon_unit_zero (by decide +kernel), View.ld_unit_zero (by decide +kernel), View.ld_unit_zero (by decide +kernel),
    View.ld_unit_zero (by decide +kernel), block4_0, block4_1, block4_2]
  obtain ⟨p, q, rfl⟩ : ∃ (p : Fin 1568) (q : Fin 1), y = (ix2 p q : S1568x1.Idx) := ⟨y 0, y 1, eq_ix2 _⟩
  have h0 : ((win4_3.blk t).view.emb (ix2 p q)) = (ix2 p q : S1568x1.Idx) := by blk_ext [(place4 t).2.2.2.1]
  rw [h0]

theorem array4_4 : (dat4 V c).arrAt 4 cfg4.N = k4_pay4 (V c main_v42) (V c main_arg9) (V c main_v45) := by
  refine (dat4 V c).arrAt_eq_of_covers 4 _ (by decide +kernel) fun t _ y => ?_
  blk_simp
  rw [after4_4]
  unfold out4_4
  rw [View.canon_unit_zero (by decide +kernel), View.ld_unit_zero (by decide +kernel), View.ld_unit_zero (by decide +kernel),
    View.ld_unit_zero (by decide +kernel), block4_0, block4_1, block4_2]
  obtain ⟨p, q, rfl⟩ : ∃ (p : Fin 1568) (q : Fin 32), y = (ix2 p q : S1568x32.Idx) := ⟨y 0, y 1, eq_ix2 _⟩
  have h0 : ((win4_4.blk t).view.emb (ix2 p q)) = (ix2 p q : S1568x32.Idx) := by blk_ext [(place4 t).2.2.2.2.1]
  rw [h0]

theorem array4_5 : (dat4 V c).arrAt 5 cfg4.N
    = k4_pay1 (k4_pay5 (V c main_v42) (V c main_arg9) (V c main_v45)) k4_pay6 := by
  refine (dat4 V c).arrAt_eq_of_covers 5 _ (by decide +kernel) fun t _ y => ?_
  blk_simp
  rw [after4_5]
  unfold out4_5
  rw [View.canon_unit_zero (by decide +kernel), View.ld_unit_zero (by decide +kernel), View.ld_unit_zero (by decide +kernel),
    View.ld_unit_zero (by decide +kernel), block4_0, block4_1, block4_2]
  obtain ⟨p, q, rfl⟩ : ∃ (p : Fin 1) (q : Fin 1), y = (ix2 p q : S1x1.Idx) := ⟨y 0, y 1, eq_ix2 _⟩
  have h0 : ((win4_5.blk t).view.emb (ix2 p q)) = (ix2 p q : S1x1.Idx) := by blk_ext [(place4 t).2.2.2.2.2]
  rw [h0]

end arrays

/-! ## The host's lines around it -/

section host
variable (V : Valuation τ sig (Elt Ideal))

theorem rows (b : Fin 8) (i j : Fin 14) (n : Fin 32) :
    after hostOps4 V (Proc.devRef .tc main_v42) (ix2 ⟨(b.val * 14 + i.val) * 14 + j.val, by omega⟩ n)
      = V (Proc.devRef .tc main_v41) (ix4 b i j n) := by
  after_reads_simp
  pointwise

/-- The sum of the squares of a codebook vector's entries. -/
def norm (E : Vec Ideal S512x32 .f32) (k : Fin 512) : EReal := ∑ c : Fin 32, E (ix2 k c) * E (ix2 k c)

theorem norms (k : Fin 512) :
    after hostOps4 V (Proc.devRef .tc main_v45) (ix2 0 k)
      = norm (V (Proc.devRef .tc main_arg9)) k := by
  unfold norm
  after_reads_simp
  pointwise

theorem table : after hostOps4 V (Proc.devRef .tc main_arg9) = V (Proc.devRef .tc main_arg9) := by
  after_reads_simp

theorem out_loss : after hostOps5 V (Proc.devRef .tc main_v47) ix0 = V (Proc.devRef .tc main_v46_2) (ix2 0 0) := by
  after_reads_simp
  pointwise

theorem row_eq (b : Fin 8) (i j : Fin 14) :
    (⟨b.val * 196 + i.val * 14 + j.val, by omega⟩ : Fin 1568) = ⟨(b.val * 14 + i.val) * 14 + j.val, by omega⟩ := Fin.ext (by dsimp only; omega)

theorem out_codes (b : Fin 8) (i j : Fin 14) :
    after hostOps5 V (Proc.devRef .tc main_v48) (ix3 b i j)
      = V (Proc.devRef .tc main_v46_0) (ix2 ⟨(b.val * 14 + i.val) * 14 + j.val, by omega⟩ 0) := by
  after_reads_simp
  pointwise
  rw [row_eq]

theorem out_quants (b : Fin 8) (i j : Fin 14) (n : Fin 32) :
    after hostOps5 V (Proc.devRef .tc main_v49) (ix4 b i j n)
      = V (Proc.devRef .tc main_v46_1) (ix2 ⟨(b.val * 14 + i.val) * 14 + j.val, by omega⟩ n) := by
  after_reads_simp
  pointwise
  rw [row_eq]

end host

/-! ## The results -/

section results
variable (m : (ℓ : Loc nD τ sig) → Buf (Elt Ideal) ℓ) (ρ : Dev nD → PrngReg) (c : Dev nD)
  (z : Pic 8 14 14 32) (hz : ∀ b i j n, W16 m ρ c (Proc.devRef .tc main_v41) (ix4 b i j n) = z b i j n)

/-- The codebook as the launch finds it. -/
abbrev book (k : Fin 512) (n : Fin 32) : EReal := m ((c : Thread nD τ).loc main_arg9) (ix2 k n)

theorem table17 : W17 m ρ c (Proc.devRef .tc main_arg9) = m ((c : Thread nD τ).loc main_arg9) :=
  W17_args m ρ c main_arg9 (by decide)

theorem norms17 (k : Fin 512) : W17 m ρ c (Proc.devRef .tc main_v45) (ix2 0 k) = norm (W17 m ρ c (Proc.devRef .tc main_arg9)) k :=
  (norms (W16 m ρ c) k).trans (congrArg (norm · k) (table (W16 m ρ c)).symm)

include hz in
theorem rows17 (r : Fin 1568) (n : Fin 32) : W17 m ρ c (Proc.devRef .tc main_v42) (ix2 r n) = flat z r n := by
  have hr : r = ⟨((r.val / 196) * 14 + r.val / 14 % 14) * 14 + r.val % 14, by omega⟩ := Fin.ext (by dsimp only; omega)
  refine (congrArg (fun r => W17 m ρ c (Proc.devRef .tc main_v42) (ix2 r n)) hr).trans ?_
  exact (rows (W16 m ρ c) ⟨r.val / 196, by omega⟩ ⟨r.val / 14 % 14, by omega⟩ ⟨r.val % 14, by omega⟩ n).trans (hz _ _ _ _)

include hz in
theorem pick17 (r : Fin 1568) :
    pick (W17 m ρ c (Proc.devRef .tc main_v42)) (W17 m ρ c (Proc.devRef .tc main_arg9)) r = choice (flat z) (book m c) r := by
  have h0 : (fun (r : Fin 1568) (n : Fin 32) => W17 m ρ c (Proc.devRef .tc main_v42) (ix2 r n)) = flat z :=
    funext fun r => funext fun n => rows17 m ρ c z hz r n
  have h1 : (fun (k : Fin 512) (n : Fin 32) => W17 m ρ c (Proc.devRef .tc main_arg9) (ix2 k n)) = book m c :=
    funext fun k => funext fun n => congrFun (table17 m ρ c) (ix2 k n)
  exact congrArg₂ (fun Z E => first (dist Z E r)) h0 h1

include hz in
theorem result_codes (b : Fin 8) (i j : Fin 14) :
    W19 m ρ c (Proc.devRef .tc main_v48) (ix3 b i j)
      = BitVec.ofNat 32 (choice (flat z) (book m c) ⟨(b.val * 14 + i.val) * 14 + j.val, by omega⟩).val :=
  (out_codes (W18 m ρ c) b i j).trans ((congrFun ((W18_arr m ρ c 3).trans (array4_3 (V17 m ρ) c)) _).trans
    ((codes _ _ _ (norms17 m ρ c) _).trans (congrArg (fun k : Fin 512 => BitVec.ofNat 32 k.val) (pick17 m ρ c z hz _))))

include hz in
theorem result_vectors (b : Fin 8) (i j : Fin 14) (n : Fin 32) :
    W19 m ρ c (Proc.devRef .tc main_v49) (ix4 b i j n)
      = book m c (choice (flat z) (book m c) ⟨(b.val * 14 + i.val) * 14 + j.val, by omega⟩) n :=
  (out_quants (W18 m ρ c) b i j n).trans ((congrFun ((W18_arr m ρ c 4).trans (array4_4 (V17 m ρ) c)) _).trans
    ((quants _ _ _ (norms17 m ρ c) _ n).trans ((congrFun (table17 m ρ c) _).trans
      (congrArg (fun k : Fin 512 => book m c k n) (pick17 m ρ c z hz _)))))

include hz in
theorem result_loss :
    W19 m ρ c (Proc.devRef .tc main_v47) ix0
      = rest (flat z) (fun r => book m c (choice (flat z) (book m c) r)) * ((5 / 200704 : ℝ) : EReal) := by
  refine (out_loss (W18 m ρ c)).trans ((congrFun ((W18_arr m ρ c 5).trans (array4_5 (V17 m ρ) c)) _).trans
    ((part _ _ _ (norms17 m ρ c)).trans ?_))
  refine congrArg (· * ((5 / 200704 : ℝ) : EReal)) (congrArg₂ rest ?_ ?_)
  · exact funext fun r => funext fun n => rows17 m ρ c z hz r n
  · exact funext fun r => funext fun n => (congrFun (table17 m ρ c) _).trans
      (congrArg (fun k : Fin 512 => book m c k n) (pick17 m ρ c z hz _))

end results

end Cert.KernelIdeal.Value

end

end
-- ==== Proof.RefLine.lean ====
/-
  The two references' runs: each is a straight line of host operations, printed in three windows. Each window's operations
  are read off the printed program, and a run leaves at every buffer what the operations leave there in order.
-/
module

public import proofs.«01_k».proof.Proof.Gen.ReferenceIdeal
public import proofs.«01_k».proof.Proof.Gen.DecoderReferenceIdeal
public import proofs.«01_k».proof.Defs
public import Idealize.ShloMosaic.Lib.Claim

@[expose] public section

set_option maxRecDepth 16384

noncomputable section

/-- A line of one operation. -/
theorem Cert.isSeq_one {nD : Nat} {τ : Idealize.ShloMosaic.Topo} {sig : Idealize.ShloMosaic.RefSig}
    {Val : Idealize.ShloMosaic.EltTy → Type} {Λ : Idealize.SL.Sem.Labels} {op : Idealize.ShloMosaic.HloOp τ sig Val} :
    Idealize.ShloMosaic.StableHlo.IsSeq (nD := nD) (Λ := Λ)
      (Idealize.ShloMosaic.hlo rfl op fun _ => .ret (⟨⟩ : PUnit)) [op] := rfl

namespace Cert.ReferenceIdeal.Line

open Idealize.ShloMosaic StableHlo Idealize.SL.Sem

/-- A window of the printed program with the operations it runs. -/
abbrev Window (p : Dev nD → Prog (TpuEff nD τ sig (Elt Ideal) (Pipeline.Sig Λ₀ (Fin 0) fun p => (pcfgs (F := Ideal) p).Adm) .tc) PUnit) :=
  {l : List (HloOp τ sig (Elt Ideal)) // ∀ d, IsSeq (p d) l}

def w0 : Window (main_part0 (F := Ideal)) := by
  apply Subtype.mk
  intro d; unfold main_part0; repeat (first | exact IsSeq.nil | exact isSeq_one | apply IsSeq.cons)

def w1 : Window (main_part1 (F := Ideal)) := by
  apply Subtype.mk
  intro d; unfold main_part1; repeat (first | exact IsSeq.nil | exact isSeq_one | apply IsSeq.cons)

def w2 : Window (main_part2 (F := Ideal)) := by
  apply Subtype.mk
  intro d; unfold main_part2; repeat (first | exact IsSeq.nil | exact isSeq_one | apply IsSeq.cons)

/-- All the operations of the reference, in order. -/
def ops : List (HloOp τ sig (Elt Ideal)) := w0.1 ++ (w1.1 ++ w2.1)

theorem main_eq (d : Dev nD) : IsSeq (main (F := Ideal) d) ops := by
  show (main_part0 d >>= fun _ => main_part1 d >>= fun _ => main_part2 d) = _
  rw [show main_part0 (F := Ideal) d = _ from w0.2 d, show main_part1 (F := Ideal) d = _ from w1.2 d,
    show main_part2 (F := Ideal) d = _ from w2.2 d]
  simp only [ops, seq_append]

end Cert.ReferenceIdeal.Line

namespace Cert.DecoderReferenceIdeal.Line

open Idealize.ShloMosaic StableHlo Idealize.SL.Sem

/-- A window of the printed program with the operations it runs. -/
abbrev Window (p : Dev nD → Prog (TpuEff nD τ sig (Elt Ideal) (Pipeline.Sig Λ₀ (Fin 0) fun p => (pcfgs (F := Ideal) p).Adm) .tc) PUnit) :=
  {l : List (HloOp τ sig (Elt Ideal)) // ∀ d, IsSeq (p d) l}

def w0 : Window (main_part0 (F := Ideal)) := by
  apply Subtype.mk
  intro d; unfold main_part0; repeat (first | exact IsSeq.nil | exact isSeq_one | apply IsSeq.cons)

def w1 : Window (main_part1 (F := Ideal)) := by
  apply Subtype.mk
  intro d; unfold main_part1; repeat (first | exact IsSeq.nil | exact isSeq_one | apply IsSeq.cons)

def w2 : Window (main_part2 (F := Ideal)) := by
  apply Subtype.mk
  intro d; unfold main_part2; repeat (first | exact IsSeq.nil | exact isSeq_one | apply IsSeq.cons)

/-- All the operations of the reference, in order. -/
def ops : List (HloOp τ sig (Elt Ideal)) := w0.1 ++ (w1.1 ++ w2.1)

theorem main_eq (d : Dev nD) : IsSeq (main (F := Ideal) d) ops := by
  show (main_part0 d >>= fun _ => main_part1 d >>= fun _ => main_part2 d) = _
  rw [show main_part0 (F := Ideal) d = _ from w0.2 d, show main_part1 (F := Ideal) d = _ from w1.2 d,
    show main_part2 (F := Ideal) d = _ from w2.2 d]
  simp only [ops, seq_append]

end Cert.DecoderReferenceIdeal.Line

end

end
-- ==== Proof.Layer.lean ====
/-
  What every convolution of the references does to an array, whatever its extents: the contraction of the weights with
  the windows, over channels and kernel rows and columns.
-/
module

public import proofs.«01_k».proof.Proof.Spec
public import Idealize.ShloMosaic.Lib.Pointwise

@[expose] public section

noncomputable section

namespace Cert.Net

open Idealize.ShloMosaic Finset

/-- Which axes the contraction of the weights with the windows runs over. -/
def IsWindowDot {N C B H W : ℕ} (d : DotDims ⟨4, ![N, C, 4, 4]⟩ ⟨6, ![B, C, 4, 4, H, W]⟩ ⟨4, ![N, B, H, W]⟩) : Prop :=
  d.lhsContracting = [1, 2, 3] ∧ d.rhsContracting = [1, 2, 3] ∧ d.lhsNonContracting = [0] ∧ d.rhsNonContracting = [0, 4, 5]
    ∧ d.lhsBatch = [] ∧ d.rhsBatch = []

/-- An entry of the contraction of the weights with the windows. -/
theorem windowDot {N C B H W : ℕ} (d : DotDims ⟨4, ![N, C, 4, 4]⟩ ⟨6, ![B, C, 4, 4, H, W]⟩ ⟨4, ![N, B, H, W]⟩)
    (hd : IsWindowDot d) (x : (⟨4, ![N, C, 4, 4]⟩ : Shape).Idx → EReal) (y : (⟨6, ![B, C, 4, 4, H, W]⟩ : Shape).Idx → EReal)
    (n : Fin N) (b : Fin B) (p : Fin H) (q : Fin W) :
    Ideal.matmul d x y (fun _ => 0) (ix4 n b p q)
      = ∑ kh : Fin 4, ∑ kw : Fin 4, ∑ c : Fin C, x (ix4 n c kh kw) * y (ix6 b c kh kw p q) := by
  obtain ⟨h1, h2, h3, h4, h5, h6⟩ := hd
  obtain ⟨lc, rc, ln, rn, lb, rb, wf⟩ := d
  dsimp only at h1 h2 h3 h4 h5 h6
  subst h1 h2 h3 h4 h5 h6
  set d : DotDims ⟨4, ![N, C, 4, 4]⟩ ⟨6, ![B, C, 4, 4, H, W]⟩ ⟨4, ![N, B, H, W]⟩ := ⟨_, _, _, _, _, _, wf⟩ with hd
  let e : Fin 4 × Fin 4 × Fin C ≃ d.contr.Idx :=
    { toFun := fun k (p : Fin 3) => match p with | 0 => (k.2.2 : Fin C) | 1 => (k.1 : Fin 4) | 2 => (k.2.1 : Fin 4)
      invFun := fun kk => ((kk (1 : Fin 3) : Fin 4), (kk (2 : Fin 3) : Fin 4), (kk (0 : Fin 3) : Fin C))
      left_inv := fun _ => rfl
      right_inv := fun kk => by
        funext p
        change Fin 3 at p
        match p with
        | 0 => rfl
        | 1 => rfl
        | 2 => rfl }
  unfold Ideal.matmul
  rw [zero_add, ← Equiv.sum_comp e, Fintype.sum_prod_type]
  refine sum_congr rfl fun kh _ => ?_
  rw [Fintype.sum_prod_type]
  refine sum_congr rfl fun kw _ => sum_congr rfl fun c _ => ?_
  congr 2
  · funext a
    change Fin 4 at a
    match a with
    | 0 => rfl
    | 1 => rfl
    | 2 => rfl
    | 3 => rfl
  · funext a
    change Fin 6 at a
    match a with
    | 0 => rfl
    | 1 => rfl
    | 2 => rfl
    | 3 => rfl
    | 4 => rfl
    | 5 => rfl

/-- An entry of the border's picture as a padding of the host writes it. -/
theorem border_eq {B H W C : ℕ} (A : Pic B H W C) (b : Fin B) (p q : ℕ) (c : Fin C) :
    border A b p q c = if h : (1 ≤ p ∧ p - 1 < H) ∧ (1 ≤ q ∧ q - 1 < W) then A b ⟨p - 1, h.1.2⟩ ⟨q - 1, h.2.2⟩ c else 0 := by
  unfold border
  by_cases h : (1 ≤ p ∧ p ≤ H) ∧ (1 ≤ q ∧ q ≤ W)
  · rw [dif_pos h, dif_pos (by omega)]
  · rw [dif_neg h, dif_neg (by omega)]

/-- An entry of the widened picture as a padding of the host writes it. -/
theorem spread_eq {B H W C : ℕ} (A : Pic B H W C) (b : Fin B) (p q : ℕ) (c : Fin C) :
    spread A b p q c = if h : (2 ≤ p ∧ (p - 2) % 2 = 0 ∧ (p - 2) / 2 < H) ∧ (2 ≤ q ∧ (q - 2) % 2 = 0 ∧ (q - 2) / 2 < W) then
      A b ⟨(p - 2) / 2, h.1.2.2⟩ ⟨(q - 2) / 2, h.2.2.2⟩ c else 0 := by
  unfold spread border
  by_cases hp : p % 2 = 0
  · by_cases hq : q % 2 = 0
    · rw [if_pos hp, if_pos hq]
      by_cases h : (1 ≤ p / 2 ∧ p / 2 ≤ H) ∧ (1 ≤ q / 2 ∧ q / 2 ≤ W)
      · rw [dif_pos h, dif_pos (by omega)]
        congr 2 <;> omega
      · rw [dif_neg h, dif_neg (by omega)]
    · rw [if_pos hp, if_neg hq, dif_neg (by omega)]
  · rw [if_neg hp, dif_neg (by omega)]

/-- The contraction of the weights with the windows at stride 2 of a bordered picture, and the bias, is the convolution. -/
theorem conv_of_windows {B H W C N H' W' P Q : ℕ} (A : Pic B H W C) (x1 : (⟨4, ![B, C, P, Q]⟩ : Shape).Idx → EReal)
    (x2 : (⟨5, ![B, C, 4, H', Q]⟩ : Shape).Idx → EReal) (x3 : (⟨6, ![B, C, 4, 4, H', W']⟩ : Shape).Idx → EReal)
    (d : DotDims ⟨4, ![N, C, 4, 4]⟩ ⟨6, ![B, C, 4, 4, H', W']⟩ ⟨4, ![N, B, H', W']⟩) (hd : IsWindowDot d)
    (w : (⟨4, ![N, C, 4, 4]⟩ : Shape).Idx → EReal) (bias : Fin N → EReal)
    (hP : ∀ (p : Fin H') (k : Fin 4), 2 * p.val + k.val < P) (hQ : ∀ (q : Fin W') (k : Fin 4), 2 * q.val + k.val < Q)
    (e1 : ∀ b c p q, x1 (ix4 b c p q) = border A b p.val q.val c)
    (e2 : ∀ b c k p q, x2 (ix5 b c k p q) = x1 (ix4 b c ⟨2 * p.val + k.val, hP p k⟩ q))
    (e3 : ∀ b c k l p q, x3 (ix6 b c k l p q) = x2 (ix5 b c k p ⟨2 * q.val + l.val, hQ q l⟩))
    (b : Fin B) (n : Fin N) (p : Fin H') (q : Fin W') :
    Ideal.matmul d w x3 (fun _ => 0) (ix4 n b p q) + bias n
      = conv H' W' A (fun n c kh kw => w (ix4 n c kh kw)) bias b p q n := by
  rw [windowDot d hd]
  unfold conv
  congr 1
  refine sum_congr rfl fun kh _ => sum_congr rfl fun kw _ => sum_congr rfl fun c _ => ?_
  rw [e3, e2, e1, mul_comm]

/-- The contraction of the weights with the windows at stride 1 of a widened picture, and the bias, is the transposed
    convolution. -/
theorem convT_of_windows {B H W C N H' W' P Q : ℕ} (A : Pic B H W C) (x1 : (⟨4, ![B, C, P, Q]⟩ : Shape).Idx → EReal)
    (x2 : (⟨5, ![B, C, 4, H', Q]⟩ : Shape).Idx → EReal) (x3 : (⟨6, ![B, C, 4, 4, H', W']⟩ : Shape).Idx → EReal)
    (d : DotDims ⟨4, ![N, C, 4, 4]⟩ ⟨6, ![B, C, 4, 4, H', W']⟩ ⟨4, ![N, B, H', W']⟩) (hd : IsWindowDot d)
    (x : (⟨4, ![N, C, 4, 4]⟩ : Shape).Idx → EReal) (w : (⟨4, ![C, N, 4, 4]⟩ : Shape).Idx → EReal) (bias : Fin N → EReal)
    (hP : ∀ (p : Fin H') (k : Fin 4), p.val + k.val < P) (hQ : ∀ (q : Fin W') (k : Fin 4), q.val + k.val < Q)
    (e0 : ∀ n c k l, x (ix4 n c k l) = w (ix4 c n k.rev l.rev))
    (e1 : ∀ b c p q, x1 (ix4 b c p q) = spread A b p.val q.val c)
    (e2 : ∀ b c k p q, x2 (ix5 b c k p q) = x1 (ix4 b c ⟨p.val + k.val, hP p k⟩ q))
    (e3 : ∀ b c k l p q, x3 (ix6 b c k l p q) = x2 (ix5 b c k p ⟨q.val + l.val, hQ q l⟩))
    (b : Fin B) (n : Fin N) (p : Fin H') (q : Fin W') :
    Ideal.matmul d x x3 (fun _ => 0) (ix4 n b p q) + bias n
      = convT H' W' A (fun c n kh kw => w (ix4 c n kh kw)) bias b p q n := by
  rw [windowDot d hd]
  unfold convT
  congr 1
  refine sum_congr rfl fun kh _ => sum_congr rfl fun kw _ => sum_congr rfl fun c _ => ?_
  rw [e3, e2, e1, e0, mul_comm]

end Cert.Net
-- ==== Proof.RefEnc.lean ====
/-
  The encoder of the reference, layer by layer: what the buffer of each layer's result holds, as the convolution of the
  picture that the layer before left.
-/
module

public import proofs.«01_k».proof.Proof.RefLine
public import proofs.«01_k».proof.Proof.Layer
public import Idealize.ShloMosaic.Lib.StableHlo.RunRead

@[expose] public section

set_option maxRecDepth 16384

noncomputable section

namespace Cert.ReferenceIdeal.Line

open Idealize.ShloMosaic StableHlo Idealize.SL.Sem Cert.Net

/-- The `k` operations of the line after the first `n`. -/
def seg (n k : ℕ) : List (HloOp τ sig (Elt Ideal)) := (ops.drop n).take k

variable (V : Valuation τ sig (Elt Ideal))

/-- What the buffers hold after `n + k` operations. -/
theorem upto_add (n k : ℕ) : upto ops V (n + k) = after (seg n k) (upto ops V n) := by
  have append : ∀ (l l' : List (HloOp τ sig (Elt Ideal))) (W : Valuation τ sig (Elt Ideal)), after (l ++ l') W = after l' (after l W) := by
    intro l
    induction l with
    | nil => exact fun _ _ => rfl
    | cons op l ih => exact fun _ _ => ih _ _
  unfold upto seg
  rw [← append, List.take_add]

/-! ## Layer 1 -/

theorem pad1 (b : Fin 8) (c : Fin 1) (p q : Fin 226) :
    after (seg 0 3) V (Proc.devRef .tc main_v1) (ix4 b c p q) = border (fun (b : Fin 8) (i j : Fin 224) (_ : Fin 1) => V (Proc.devRef .tc main_arg0) (ix3 b i j)) b p.val q.val c := by
  after_reads_simp
  pointwise
  rw [border_eq]

theorem rows1 (b : Fin 8) (c : Fin 1) (k : Fin 4) (p : Fin 112) (q : Fin 226) :
    after (seg 3 9) V (Proc.devRef .tc main_v10) (ix5 b c k p q)
      = V (Proc.devRef .tc main_v1) (ix4 b c ⟨2 * p.val + k.val, by omega⟩ q) := by
  obtain rfl : c = 0 := Subsingleton.elim _ _
  after_reads_simp
  dsimp only [Matrix.cons_val]
  pointwise
  fin_vals k with hk <;> after_reads_simp <;> simp [hk] <;> pointwise <;> simp only [add_comm]

theorem cols1 (b : Fin 8) (c : Fin 1) (k l : Fin 4) (p q : Fin 112) :
    after (seg 12 9) V (Proc.devRef .tc main_v19) (ix6 b c k l p q)
      = V (Proc.devRef .tc main_v10) (ix5 b c k p ⟨2 * q.val + l.val, by omega⟩) := by
  obtain rfl : c = 0 := Subsingleton.elim _ _
  after_reads_simp
  dsimp only [Matrix.cons_val]
  pointwise
  fin_vals l with hk <;> after_reads_simp <;> simp [hk] <;> pointwise <;> simp only [add_comm]

theorem sum1 (b : Fin 8) (n : Fin 32) (p q : Fin 112) :
    after (seg 21 8) V (Proc.devRef .tc main_v26) (ix4 b n p q)
      = max (Ideal.matmul dot_S32x1x4x4_S8x1x4x4x112x112_S32x8x112x112_123_123_0_045_n_n (V (Proc.devRef .tc main_arg1)) (V (Proc.devRef .tc main_v19)) (fun _ => 0) (ix4 n b p q)
          + V (Proc.devRef .tc main_arg2) (ix1 n)) 0 := by
  after_reads_simp
  pointwise

/-! ## Layer 2 -/

theorem pad2 (b : Fin 8) (c : Fin 32) (p q : Fin 114) :
    after (seg 29 2) V (Proc.devRef .tc main_v27) (ix4 b c p q) = border (fun (b : Fin 8) (i j : Fin 112) (c : Fin 32) => V (Proc.devRef .tc main_v26) (ix4 b c i j)) b p.val q.val c := by
  after_reads_simp
  pointwise
  rw [border_eq]

theorem rows2 (b : Fin 8) (c : Fin 32) (k : Fin 4) (p : Fin 56) (q : Fin 114) :
    after (seg 31 9) V (Proc.devRef .tc main_v36) (ix5 b c k p q)
      = V (Proc.devRef .tc main_v27) (ix4 b c ⟨2 * p.val + k.val, by omega⟩ q) := by
  after_reads_simp
  dsimp only [Matrix.cons_val]
  pointwise
  fin_vals k with hk <;> after_reads_simp <;> simp [hk] <;> pointwise <;> simp only [add_comm]

theorem cols2 (b : Fin 8) (c : Fin 32) (k l : Fin 4) (p q : Fin 56) :
    after (seg 40 9) V (Proc.devRef .tc main_v45) (ix6 b c k l p q)
      = V (Proc.devRef .tc main_v36) (ix5 b c k p ⟨2 * q.val + l.val, by omega⟩) := by
  after_reads_simp
  dsimp only [Matrix.cons_val]
  pointwise
  fin_vals l with hk <;> after_reads_simp <;> simp [hk] <;> pointwise <;> simp only [add_comm]

theorem sum2 (b : Fin 8) (n : Fin 64) (p q : Fin 56) :
    after (seg 49 8) V (Proc.devRef .tc main_v52) (ix4 b n p q)
      = max (Ideal.matmul dot_S64x32x4x4_S8x32x4x4x56x56_S64x8x56x56_123_123_0_045_n_n (V (Proc.devRef .tc main_arg3)) (V (Proc.devRef .tc main_v45)) (fun _ => 0) (ix4 n b p q)
          + V (Proc.devRef .tc main_arg4) (ix1 n)) 0 := by
  after_reads_simp
  pointwise

/-! ## Layer 3 -/

theorem pad3 (b : Fin 8) (c : Fin 64) (p q : Fin 58) :
    after (seg 57 2) V (Proc.devRef .tc main_v53) (ix4 b c p q) = border (fun (b : Fin 8) (i j : Fin 56) (c : Fin 64) => V (Proc.devRef .tc main_v52) (ix4 b c i j)) b p.val q.val c := by
  after_reads_simp
  pointwise
  rw [border_eq]

theorem rows3 (b : Fin 8) (c : Fin 64) (k : Fin 4) (p : Fin 28) (q : Fin 58) :
    after (seg 59 9) V (Proc.devRef .tc main_v62) (ix5 b c k p q)
      = V (Proc.devRef .tc main_v53) (ix4 b c ⟨2 * p.val + k.val, by omega⟩ q) := by
  after_reads_simp
  dsimp only [Matrix.cons_val]
  pointwise
  fin_vals k with hk <;> after_reads_simp <;> simp [hk] <;> pointwise <;> simp only [add_comm]

theorem cols3 (b : Fin 8) (c : Fin 64) (k l : Fin 4) (p q : Fin 28) :
    after (seg 68 9) V (Proc.devRef .tc main_v71) (ix6 b c k l p q)
      = V (Proc.devRef .tc main_v62) (ix5 b c k p ⟨2 * q.val + l.val, by omega⟩) := by
  after_reads_simp
  dsimp only [Matrix.cons_val]
  pointwise
  fin_vals l with hk <;> after_reads_simp <;> simp [hk] <;> pointwise <;> simp only [add_comm]

theorem sum3 (b : Fin 8) (n : Fin 128) (p q : Fin 28) :
    after (seg 77 8) V (Proc.devRef .tc main_v78) (ix4 b n p q)
      = max (Ideal.matmul dot_S128x64x4x4_S8x64x4x4x28x28_S128x8x28x28_123_123_0_045_n_n (V (Proc.devRef .tc main_arg5)) (V (Proc.devRef .tc main_v71)) (fun _ => 0) (ix4 n b p q)
          + V (Proc.devRef .tc main_arg6) (ix1 n)) 0 := by
  after_reads_simp
  pointwise

/-! ## Layer 4 -/

theorem pad4 (b : Fin 8) (c : Fin 128) (p q : Fin 30) :
    after (seg 85 2) V (Proc.devRef .tc main_v79) (ix4 b c p q) = border (fun (b : Fin 8) (i j : Fin 28) (c : Fin 128) => V (Proc.devRef .tc main_v78) (ix4 b c i j)) b p.val q.val c := by
  after_reads_simp
  pointwise
  rw [border_eq]

theorem rows4 (b : Fin 8) (c : Fin 128) (k : Fin 4) (p : Fin 14) (q : Fin 30) :
    after (seg 87 9) V (Proc.devRef .tc main_v88) (ix5 b c k p q)
      = V (Proc.devRef .tc main_v79) (ix4 b c ⟨2 * p.val + k.val, by omega⟩ q) := by
  after_reads_simp
  dsimp only [Matrix.cons_val]
  pointwise
  fin_vals k with hk <;> after_reads_simp <;> simp [hk] <;> pointwise <;> simp only [add_comm]

theorem cols4 (b : Fin 8) (c : Fin 128) (k l : Fin 4) (p q : Fin 14) :
    after (seg 96 9) V (Proc.devRef .tc main_v97) (ix6 b c k l p q)
      = V (Proc.devRef .tc main_v88) (ix5 b c k p ⟨2 * q.val + l.val, by omega⟩) := by
  after_reads_simp
  dsimp only [Matrix.cons_val]
  pointwise
  fin_vals l with hk <;> after_reads_simp <;> simp [hk] <;> pointwise <;> simp only [add_comm]

theorem sum4 (b : Fin 8) (n : Fin 32) (p q : Fin 14) :
    after (seg 105 5) V (Proc.devRef .tc main_v102) (ix4 b n p q)
      = Ideal.matmul dot_S32x128x4x4_S8x128x4x4x14x14_S32x8x14x14_123_123_0_045_n_n (V (Proc.devRef .tc main_arg7)) (V (Proc.devRef .tc main_v97)) (fun _ => 0) (ix4 n b p q)
          + V (Proc.devRef .tc main_arg8) (ix1 n) := by
  after_reads_simp
  pointwise

/-- The picture after layer 1. -/
def layer1 : Pic 8 112 112 32 :=
  relu (conv 112 112 (fun b i j _ => V (Proc.devRef .tc main_arg0) (ix3 b i j) : Pic 8 224 224 1) (fun n c kh kw => V (Proc.devRef .tc main_arg1) (ix4 n c kh kw))
    (fun n => V (Proc.devRef .tc main_arg2) (ix1 n)))

theorem layer1_eq (b : Fin 8) (n : Fin 32) (p q : Fin 112) :
    upto ops V 29 (Proc.devRef .tc main_v26) (ix4 b n p q) = layer1 V b p q n := by
  have h1 : upto ops V 3 = after (seg 0 3) (upto ops V 0) := upto_add V 0 3
  have h2 : upto ops V 12 = after (seg 3 9) (upto ops V 3) := upto_add V 3 9
  have h3 : upto ops V 21 = after (seg 12 9) (upto ops V 12) := upto_add V 12 9
  have h4 : upto ops V 29 = after (seg 21 8) (upto ops V 21) := upto_add V 21 8
  have hw : upto ops V 21 (Proc.devRef .tc main_arg1) = V (Proc.devRef .tc main_arg1) := by after_reads_simp
  have hb : upto ops V 21 (Proc.devRef .tc main_arg2) = V (Proc.devRef .tc main_arg2) := by after_reads_simp
  have hx : upto ops V 0 = V := upto_zero ops V
  have := conv_of_windows (fun b i j _ => V (Proc.devRef .tc main_arg0) (ix3 b i j) : Pic 8 224 224 1) (upto ops V 3 (Proc.devRef .tc main_v1))
    (upto ops V 12 (Proc.devRef .tc main_v10)) (upto ops V 21 (Proc.devRef .tc main_v19))
    dot_S32x1x4x4_S8x1x4x4x112x112_S32x8x112x112_123_123_0_045_n_n ⟨rfl, rfl, rfl, rfl, rfl, rfl⟩
    (V (Proc.devRef .tc main_arg1)) (fun n => V (Proc.devRef .tc main_arg2) (ix1 n)) (by omega) (by omega)
    (fun b c p q => by rw [h1, pad1, hx]) (fun b c k p q => by rw [h2, rows1]) (fun b c k l p q => by rw [h3, cols1]) b n p q
  rw [h4, sum1, hw, hb, this]
  rfl

/-- The picture after layer 2. -/
def layer2 : Pic 8 56 56 64 :=
  relu (conv 56 56 (layer1 V : Pic 8 112 112 32) (fun n c kh kw => V (Proc.devRef .tc main_arg3) (ix4 n c kh kw))
    (fun n => V (Proc.devRef .tc main_arg4) (ix1 n)))

theorem layer2_eq (b : Fin 8) (n : Fin 64) (p q : Fin 56) :
    upto ops V 57 (Proc.devRef .tc main_v52) (ix4 b n p q) = layer2 V b p q n := by
  have h1 : upto ops V 31 = after (seg 29 2) (upto ops V 29) := upto_add V 29 2
  have h2 : upto ops V 40 = after (seg 31 9) (upto ops V 31) := upto_add V 31 9
  have h3 : upto ops V 49 = after (seg 40 9) (upto ops V 40) := upto_add V 40 9
  have h4 : upto ops V 57 = after (seg 49 8) (upto ops V 49) := upto_add V 49 8
  have hw : upto ops V 49 (Proc.devRef .tc main_arg3) = V (Proc.devRef .tc main_arg3) := by after_reads_simp
  have hb : upto ops V 49 (Proc.devRef .tc main_arg4) = V (Proc.devRef .tc main_arg4) := by after_reads_simp
  have hx : (fun (b : Fin 8) (i j : Fin 112) (c : Fin 32) => upto ops V 29 (Proc.devRef .tc main_v26) (ix4 b c i j)) = layer1 V :=
    funext fun b => funext fun i => funext fun j => funext fun c => layer1_eq V b c i j
  have := conv_of_windows (layer1 V : Pic 8 112 112 32) (upto ops V 31 (Proc.devRef .tc main_v27))
    (upto ops V 40 (Proc.devRef .tc main_v36)) (upto ops V 49 (Proc.devRef .tc main_v45))
    dot_S64x32x4x4_S8x32x4x4x56x56_S64x8x56x56_123_123_0_045_n_n ⟨rfl, rfl, rfl, rfl, rfl, rfl⟩
    (V (Proc.devRef .tc main_arg3)) (fun n => V (Proc.devRef .tc main_arg4) (ix1 n)) (by omega) (by omega)
    (fun b c p q => by rw [h1, pad2, hx]) (fun b c k p q => by rw [h2, rows2]) (fun b c k l p q => by rw [h3, cols2]) b n p q
  rw [h4, sum2, hw, hb, this]
  rfl

/-- The picture after layer 3. -/
def layer3 : Pic 8 28 28 128 :=
  relu (conv 28 28 (layer2 V : Pic 8 56 56 64) (fun n c kh kw => V (Proc.devRef .tc main_arg5) (ix4 n c kh kw))
    (fun n => V (Proc.devRef .tc main_arg6) (ix1 n)))

theorem layer3_eq (b : Fin 8) (n : Fin 128) (p q : Fin 28) :
    upto ops V 85 (Proc.devRef .tc main_v78) (ix4 b n p q) = layer3 V b p q n := by
  have h1 : upto ops V 59 = after (seg 57 2) (upto ops V 57) := upto_add V 57 2
  have h2 : upto ops V 68 = after (seg 59 9) (upto ops V 59) := upto_add V 59 9
  have h3 : upto ops V 77 = after (seg 68 9) (upto ops V 68) := upto_add V 68 9
  have h4 : upto ops V 85 = after (seg 77 8) (upto ops V 77) := upto_add V 77 8
  have hw : upto ops V 77 (Proc.devRef .tc main_arg5) = V (Proc.devRef .tc main_arg5) := by after_reads_simp
  have hb : upto ops V 77 (Proc.devRef .tc main_arg6) = V (Proc.devRef .tc main_arg6) := by after_reads_simp
  have hx : (fun (b : Fin 8) (i j : Fin 56) (c : Fin 64) => upto ops V 57 (Proc.devRef .tc main_v52) (ix4 b c i j)) = layer2 V :=
    funext fun b => funext fun i => funext fun j => funext fun c => layer2_eq V b c i j
  have := conv_of_windows (layer2 V : Pic 8 56 56 64) (upto ops V 59 (Proc.devRef .tc main_v53))
    (upto ops V 68 (Proc.devRef .tc main_v62)) (upto ops V 77 (Proc.devRef .tc main_v71))
    dot_S128x64x4x4_S8x64x4x4x28x28_S128x8x28x28_123_123_0_045_n_n ⟨rfl, rfl, rfl, rfl, rfl, rfl⟩
    (V (Proc.devRef .tc main_arg5)) (fun n => V (Proc.devRef .tc main_arg6) (ix1 n)) (by omega) (by omega)
    (fun b c p q => by rw [h1, pad3, hx]) (fun b c k p q => by rw [h2, rows3]) (fun b c k l p q => by rw [h3, cols3]) b n p q
  rw [h4, sum3, hw, hb, this]
  rfl

/-- The picture after layer 4. -/
def layer4 : Pic 8 14 14 32 :=
  conv 14 14 (layer3 V : Pic 8 28 28 128) (fun n c kh kw => V (Proc.devRef .tc main_arg7) (ix4 n c kh kw))
    (fun n => V (Proc.devRef .tc main_arg8) (ix1 n))

theorem layer4_eq (b : Fin 8) (n : Fin 32) (p q : Fin 14) :
    upto ops V 110 (Proc.devRef .tc main_v102) (ix4 b n p q) = layer4 V b p q n := by
  have h1 : upto ops V 87 = after (seg 85 2) (upto ops V 85) := upto_add V 85 2
  have h2 : upto ops V 96 = after (seg 87 9) (upto ops V 87) := upto_add V 87 9
  have h3 : upto ops V 105 = after (seg 96 9) (upto ops V 96) := upto_add V 96 9
  have h4 : upto ops V 110 = after (seg 105 5) (upto ops V 105) := upto_add V 105 5
  have hw : upto ops V 105 (Proc.devRef .tc main_arg7) = V (Proc.devRef .tc main_arg7) := by after_reads_simp
  have hb : upto ops V 105 (Proc.devRef .tc main_arg8) = V (Proc.devRef .tc main_arg8) := by after_reads_simp
  have hx : (fun (b : Fin 8) (i j : Fin 28) (c : Fin 128) => upto ops V 85 (Proc.devRef .tc main_v78) (ix4 b c i j)) = layer3 V :=
    funext fun b => funext fun i => funext fun j => funext fun c => layer3_eq V b c i j
  have := conv_of_windows (layer3 V : Pic 8 28 28 128) (upto ops V 87 (Proc.devRef .tc main_v79))
    (upto ops V 96 (Proc.devRef .tc main_v88)) (upto ops V 105 (Proc.devRef .tc main_v97))
    dot_S32x128x4x4_S8x128x4x4x14x14_S32x8x14x14_123_123_0_045_n_n ⟨rfl, rfl, rfl, rfl, rfl, rfl⟩
    (V (Proc.devRef .tc main_arg7)) (fun n => V (Proc.devRef .tc main_arg8) (ix1 n)) (by omega) (by omega)
    (fun b c p q => by rw [h1, pad4, hx]) (fun b c k p q => by rw [h2, rows4]) (fun b c k l p q => by rw [h3, cols4]) b n p q
  rw [h4, sum4, hw, hb, this]
  rfl

end Cert.ReferenceIdeal.Line
-- ==== Proof.RefVq.lean ====
/-
  The codebook's part of the reference: distances, the index of the first least one, the vectors chosen, the loss.
-/
module

public import proofs.«01_k».proof.Proof.RefEnc
public import proofs.«01_k».proof.Proof.Vq
public import Idealize.ShloMosaic.Lib.StableHlo.ReadAt

@[expose] public section

set_option maxRecDepth 16384
set_option maxHeartbeats 1000000

noncomputable section

namespace Cert.ReferenceIdeal.Line

open Idealize.ShloMosaic StableHlo Idealize.SL.Sem Cert.Net

variable (V : Valuation τ sig (Elt Ideal))

/-! ## Distances -/

/-- The rows of a picture of vectors kept channel after channel. -/
def rowsOf (x : Vec Ideal S8x32x14x14 .f32) : Fin 1568 → Fin 32 → EReal := flat fun b i j n => x (ix4 b n i j)

theorem unflat (r : Fin 1568) : r = ⟨((r.val / 196) * 14 + r.val / 14 % 14) * 14 + r.val % 14, by omega⟩ := Fin.ext (by dsimp only; omega)

theorem rows104 (r : Fin 1568) (n : Fin 32) :
    after (seg 110 2) V (Proc.devRef .tc main_v104) (ix2 r n) = rowsOf (V (Proc.devRef .tc main_v102)) r n := by
  after_reads_simp
  unfold rowsOf flat
  pointwise

theorem distances (r : Fin 1568) (k : Fin 512) :
    after (seg 112 17) V (Proc.devRef .tc main_v118) (ix2 r k)
      = Net.dist (fun (r : Fin 1568) (n : Fin 32) => V (Proc.devRef .tc main_v104) (ix2 r n))
          (fun (k : Fin 512) (n : Fin 32) => V (Proc.devRef .tc main_arg9) (ix2 k n)) r k := by
  after_reads_simp
  pointwise
  rw [two_eq]
  rfl

/-! ## The index -/

theorem argmin_keeps (r : Ref sig .tc) (h : r ∉ [main_call0_v0, main_call0_cst, main_call0_c, main_call0_v1_0, main_v119]) :
    after (seg 129 5) V (Proc.devRef .tc r) = V (Proc.devRef .tc r) :=
  after_unwritten [main_call0_v0, main_call0_cst, main_call0_c, main_call0_v1_0, main_v119] rfl h V

theorem argmin_reads :
    after (seg 132 2) V (Proc.devRef .tc main_v119)
      = fun j => (Host.argReduce (reducer_argmin_f32_i32 (F := Ideal)) (V (Proc.devRef .tc main_v118)) (V (Proc.devRef .tc main_call0_v0))
          (V (Proc.devRef .tc main_call0_cst)) (V (Proc.devRef .tc main_call0_c)) Facts₀.reducesTo_S1568x512_S1568_d1 Facts₀.h_S_ j).2 := by
  have h : seg 132 2 = [
      TRef.quaternary (.of main_v118 : TRef sig ⟨S1568x512, .f32⟩) main_call0.v0 main_call0.cst main_call0.c main_call0.v1_0
        (fun (x : FVec Ideal S1568x512 .f32) (y : IVec S1568x512 32) (u : FVec Ideal S_ .f32) (v : IVec S_ 32) j =>
          (Host.argReduce (reducer_argmin_f32_i32 (F := Ideal)) x y u v Facts₀.reducesTo_S1568x512_S1568_d1 Facts₀.h_S_ j).1),
      TRef.quaternary (.of main_v118 : TRef sig ⟨S1568x512, .f32⟩) main_call0.v0 main_call0.cst main_call0.c main_call0.v1_1
        (fun (x : FVec Ideal S1568x512 .f32) (y : IVec S1568x512 32) (u : FVec Ideal S_ .f32) (v : IVec S_ 32) j =>
          (Host.argReduce (reducer_argmin_f32_i32 (F := Ideal)) x y u v Facts₀.reducesTo_S1568x512_S1568_d1 Facts₀.h_S_ j).2)] := rfl
  rw [h, after_cons, after_cons, after_nil]
  refine (quaternary_result _ _ _ _ _ _ _ _ _ _ _ _).trans ?_
  rw [quaternary_result_ne, quaternary_result_ne, quaternary_result_ne, quaternary_result_ne]
  · rfl
  all_goals decide

theorem indices (r : Fin 1568) (k : Fin 512) : after (seg 129 3) V (Proc.devRef .tc main_call0_v0) (ix2 r k) = BitVec.ofNat 32 k.val := by
  after_reads_at

theorem start_value (i : S_.Idx) : after (seg 129 3) V (Proc.devRef .tc main_call0_cst) i = (⊤ : EReal) := by
  have : after (seg 129 3) V (Proc.devRef .tc main_call0_cst) i = Ideal.ofBits .f32 0x7F800000#32 := by after_reads_at
  exact this.trans top_eq

theorem start_index (i : S_.Idx) : after (seg 129 3) V (Proc.devRef .tc main_call0_c) i = 0#32 := by
  after_reads_at

theorem distances_keep : after (seg 129 3) V (Proc.devRef .tc main_v118) = V (Proc.devRef .tc main_v118) :=
  after_unwritten [main_call0_v0, main_call0_cst, main_call0_c] rfl (by decide) V

theorem seg_add : after (seg 129 5) V = after (seg 132 2) (after (seg 129 3) V) := by
  rw [show seg 129 5 = seg 129 3 ++ seg 132 2 from rfl]
  rfl

theorem mem_fiber (x : S1568x512.Idx → EReal) (y : S1568x512.Idx → BitVec 32) (r : Fin 1568) (p : EReal × BitVec 32) :
    p ∈ Host.argReduceFiber x y Facts₀.reducesTo_S1568x512_S1568_d1 (ix1 r) ↔ ∃ k : Fin 512, p = (x (ix2 r k), y (ix2 r k)) := by
  unfold Host.argReduceFiber
  rw [List.mem_map]
  constructor
  · rintro ⟨n, hn, rfl⟩
    rw [List.mem_filter] at hn
    obtain ⟨k, hk⟩ := (Shape.ReducesTo.fiber_r2_a1 _ _ _).1 (of_decide_eq_true hn.2)
    exact ⟨k, by rw [← hk]; rfl⟩
  · rintro ⟨k, rfl⟩
    refine ⟨S1568x512.rowMajor (ix2 r k), List.mem_filter.2 ⟨List.mem_finRange _, decide_eq_true ?_⟩, ?_⟩
    · rw [Equiv.symm_apply_apply]
      exact (Shape.ReducesTo.fiber_r2_a1 _ _ _).2 ⟨k, rfl⟩
    · rw [Equiv.symm_apply_apply]

theorem argmin (f : Fin 1568 → Fin 512 → EReal) (hf : ∀ r k, V (Proc.devRef .tc main_v118) (ix2 r k) = f r k) (r : Fin 1568) :
    after (seg 129 5) V (Proc.devRef .tc main_v119) (ix1 r) = BitVec.ofNat 32 (first (f r)).val := by
  rw [seg_add, argmin_reads]
  dsimp only
  rw [Ideal.argReduce_eq_reduce2, Host.reduce2_eq_foldl_fiber, start_value, start_index, distances_keep]
  refine foldl_index (f r) (le_refl 512) _ fun p => (mem_fiber _ _ r p).trans ?_
  exact exists_congr fun k => by rw [hf r k, indices V r k]

theorem hot (r : Fin 1568) (k : Fin 512) :
    after (seg 134 6) V (Proc.devRef .tc main_v120) (ix2 r k)
      = FloatOps.uitofp (F := Ideal) .f32 (IntOp.cmpi .eq (V (Proc.devRef .tc main_v119) (ix1 r)) (BitVec.ofNat 32 k.val)) := by
  after_reads_at

theorem hot_keeps (r : Ref sig .tc) (h : r ∉ [main_call1_v0, main_call1_v1, main_call1_v2, main_call1_v3, main_call1_v4, main_v120]) :
    after (seg 134 6) V (Proc.devRef .tc r) = V (Proc.devRef .tc r) :=
  after_unwritten [main_call1_v0, main_call1_v1, main_call1_v2, main_call1_v3, main_call1_v4, main_v120] rfl h V

/-! ## The results -/

theorem row_eq (b : Fin 8) (i j : Fin 14) :
    (⟨b.val * 196 + i.val * 14 + j.val, by omega⟩ : Fin 1568) = ⟨(b.val * 14 + i.val) * 14 + j.val, by omega⟩ := Fin.ext (by dsimp only; omega)

theorem chosen (b : Fin 8) (i j : Fin 14) (n : Fin 32) :
    after (seg 140 3) V (Proc.devRef .tc main_v123) (ix4 b n i j)
      = Ideal.matmul dot_S1568x512_S512x32_S1568x32_1_0_0_1_n_n (V (Proc.devRef .tc main_v120)) (V (Proc.devRef .tc main_arg9)) (fun _ => 0)
          (ix2 ⟨(b.val * 14 + i.val) * 14 + j.val, by omega⟩ n) := by
  after_reads_simp
  pointwise
  rw [row_eq]

/-- The loss as the reference writes it, of the sum `S` of squares. -/
def lossOf (S : EReal) : EReal := Ideal.div S (Ideal.ofBits .f32 0x47440000#32)
  + Ideal.ofBits .f32 0x3E800000#32 * Ideal.div S (Ideal.ofBits .f32 0x47440000#32)

theorem sum_all (x : Vec Ideal S8x32x14x14 .f32) :
    Ideal.hostReduceAdd Facts₀.reducesTo_S8x32x14x14_S_d0_1_2_3 x 0 ix0 = ∑ b : Fin 8, ∑ n : Fin 32, ∑ i : Fin 14, ∑ j : Fin 14, x (ix4 b n i j) := by
  unfold Ideal.hostReduceAdd
  rw [zero_add, Finset.filter_true_of_mem fun i _ => funext fun a => a.elim0, sum_idx4]

theorem loss (z q : Vec Ideal S8x32x14x14 .f32) (hz : V (Proc.devRef .tc main_v102) = z) (hq : V (Proc.devRef .tc main_v123) = q) :
    after (seg 143 15) V (Proc.devRef .tc main_v133) ix0 = lossOf (rest (rowsOf z) (rowsOf q)) := by
  after_reads_simp
  rw [hz, hq]
  pointwise
  rw [sum_all]
  pointwise
  unfold lossOf rest rowsOf
  rw [sum_flat fun b i j n => (q (ix4 b n i j) - z (ix4 b n i j)) * (q (ix4 b n i j) - z (ix4 b n i j))]
  rfl

theorem codes (b : Fin 8) (i j : Fin 14) :
    after (seg 158 4) V (Proc.devRef .tc main_v136) (ix3 b i j)
      = V (Proc.devRef .tc main_v119) (ix1 ⟨(b.val * 14 + i.val) * 14 + j.val, by omega⟩) := by
  after_reads_simp
  pointwise
  rw [row_eq]

theorem vectors (z q : Vec Ideal S8x32x14x14 .f32) (hz : V (Proc.devRef .tc main_v102) = z) (hq : V (Proc.devRef .tc main_v123) = q)
    (b : Fin 8) (i j : Fin 14) (n : Fin 32) :
    after (seg 158 4) V (Proc.devRef .tc main_v137) (ix4 b i j n) = z (ix4 b n i j) + (q (ix4 b n i j) - z (ix4 b n i j)) := by
  after_reads_simp
  rw [hz, hq]
  pointwise

end Cert.ReferenceIdeal.Line

end

end
-- ==== Proof.RefOut.lean ====
/-
  The results of the reference's first half, of the arrays it starts from.
-/
module

public import proofs.«01_k».proof.Proof.RefVq
public import Idealize.ShloMosaic.Lib.StableHlo.ReadAt

@[expose] public section

set_option maxRecDepth 16384
set_option maxHeartbeats 1000000

noncomputable section

namespace Cert.ReferenceIdeal.Line

open Idealize.ShloMosaic StableHlo Idealize.SL.Sem Cert.Net

variable (V : Valuation τ sig (Elt Ideal))

/-! ## The whole line -/

/-- The codebook the line starts from. -/
abbrev book (k : Fin 512) (n : Fin 32) : EReal := V (Proc.devRef .tc main_arg9) (ix2 k n)

/-- The vector a row chooses. -/
abbrev pick (r : Fin 1568) : Fin 512 := choice (flat (layer4 V)) (book V) r

theorem z110 : upto ops V 110 (Proc.devRef .tc main_v102) = fun i => layer4 V (i 0) (i 2) (i 3) (i 1) := by
  funext i
  obtain ⟨b, n, p, q, rfl⟩ : ∃ (b : Fin 8) (n : Fin 32) (p q : Fin 14), i = (ix4 b n p q : S8x32x14x14.Idx) := ⟨i 0, i 1, i 2, i 3, eq_ix4 _⟩
  exact layer4_eq V b n p q

theorem e110 : upto ops V 110 (Proc.devRef .tc main_arg9) = V (Proc.devRef .tc main_arg9) := by after_reads_simp

theorem z129 : upto ops V 129 (Proc.devRef .tc main_v102) = upto ops V 110 (Proc.devRef .tc main_v102) := by
  rw [upto_add V 110 19]; after_reads_simp

theorem e129 : upto ops V 129 (Proc.devRef .tc main_arg9) = upto ops V 110 (Proc.devRef .tc main_arg9) := by
  rw [upto_add V 110 19]; after_reads_simp

theorem e112 : upto ops V 112 (Proc.devRef .tc main_arg9) = upto ops V 110 (Proc.devRef .tc main_arg9) := by
  rw [upto_add V 110 2]; after_reads_simp

theorem rows112 (r : Fin 1568) (n : Fin 32) : upto ops V 112 (Proc.devRef .tc main_v104) (ix2 r n) = flat (layer4 V) r n := by
  rw [upto_add V 110 2, rows104, z110]; rfl

theorem distances129 (r : Fin 1568) (k : Fin 512) :
    upto ops V 129 (Proc.devRef .tc main_v118) (ix2 r k) = Net.dist (flat (layer4 V)) (book V) r k := by
  rw [upto_add V 112 17, distances, e112, e110]
  exact congrArg (fun Z => Net.dist Z (book V) r k) (funext fun r => funext fun n => rows112 V r n)

theorem codes134 (r : Fin 1568) : upto ops V 134 (Proc.devRef .tc main_v119) (ix1 r) = BitVec.ofNat 32 (pick V r).val := by
  rw [upto_add V 129 5, argmin _ _ (distances129 V)]; rfl

theorem hot140 (r : Fin 1568) (k : Fin 512) :
    upto ops V 140 (Proc.devRef .tc main_v120) (ix2 r k) = if k = pick V r then (1 : EReal) else 0 := by
  rw [upto_add V 134 6, hot, codes134]
  exact hot_unsigned (le_refl 512)

theorem z140 : upto ops V 140 (Proc.devRef .tc main_v102) = upto ops V 110 (Proc.devRef .tc main_v102) := by
  rw [upto_add V 134 6, hot_keeps _ _ (by decide), upto_add V 129 5, argmin_keeps _ _ (by decide), z129]

theorem e140 : upto ops V 140 (Proc.devRef .tc main_arg9) = V (Proc.devRef .tc main_arg9) := by
  rw [upto_add V 134 6, hot_keeps _ _ (by decide), upto_add V 129 5, argmin_keeps _ _ (by decide), e129, e110]

theorem codes140 (r : Fin 1568) : upto ops V 140 (Proc.devRef .tc main_v119) (ix1 r) = BitVec.ofNat 32 (pick V r).val := by
  rw [upto_add V 134 6, hot_keeps _ _ (by decide), codes134]

/-- The vectors chosen, at their places. -/
def drawnAt (b : Fin 8) (i j : Fin 14) (n : Fin 32) : EReal := book V (pick V ⟨(b.val * 14 + i.val) * 14 + j.val, by omega⟩) n

/-- The same, channel after channel. -/
def drawn (i : S8x32x14x14.Idx) : EReal := drawnAt V (i 0) (i 2) (i 3) (i 1)

theorem q143 : upto ops V 143 (Proc.devRef .tc main_v123) = drawn V := by
  funext i
  obtain ⟨b, n, p, q, rfl⟩ : ∃ (b : Fin 8) (n : Fin 32) (p q : Fin 14), i = (ix4 b n p q : S8x32x14x14.Idx) := ⟨i 0, i 1, i 2, i 3, eq_ix4 _⟩
  rw [upto_add V 140 3]
  refine (chosen _ b p q n).trans ?_
  rw [e140]
  pointwise
  exact sum_hot (book V) (pick V ⟨(b.val * 14 + p.val) * 14 + q.val, by omega⟩) n _ fun k => hot140 V _ k

theorem z143 : upto ops V 143 (Proc.devRef .tc main_v102) = fun i => layer4 V (i 0) (i 2) (i 3) (i 1) := by
  rw [upto_add V 140 3, ← z110, ← z140]; after_reads_simp

theorem codes143 (r : Fin 1568) : upto ops V 143 (Proc.devRef .tc main_v119) (ix1 r) = BitVec.ofNat 32 (pick V r).val := by
  rw [← codes140, upto_add V 140 3]; after_reads_simp

theorem rows_drawn (r : Fin 1568) (n : Fin 32) : rowsOf (drawn V) r n = book V (pick V r) n := by
  show drawnAt V _ _ _ n = _
  unfold drawnAt
  exact congrArg (fun r => book V (pick V r) n) (unflat r).symm

theorem ops_whole : after ops V = upto ops V 162 := rfl

theorem result_loss : after ops V (Proc.devRef .tc main_v133) ix0
    = lossOf (rest (flat (layer4 V)) (fun r => book V (pick V r))) := by
  have h : after (seg 158 4) (upto ops V 158) (Proc.devRef .tc main_v133) = upto ops V 158 (Proc.devRef .tc main_v133) := by after_reads_simp
  rw [ops_whole, upto_add V 158 4, h, upto_add V 143 15]
  refine (loss _ _ _ (z143 V) (q143 V)).trans ?_
  exact congrArg (fun q => lossOf (rest (flat (layer4 V)) q)) (funext fun r => funext fun n => rows_drawn V r n)

theorem result_codes (b : Fin 8) (i j : Fin 14) : after ops V (Proc.devRef .tc main_v136) (ix3 b i j)
    = BitVec.ofNat 32 (pick V ⟨(b.val * 14 + i.val) * 14 + j.val, by omega⟩).val := by
  have h : after (seg 143 15) (upto ops V 143) (Proc.devRef .tc main_v119) = upto ops V 143 (Proc.devRef .tc main_v119) := by after_reads_simp
  rw [ops_whole, upto_add V 158 4, codes, upto_add V 143 15, h, codes143]

theorem result_vectors (b : Fin 8) (i j : Fin 14) (n : Fin 32) : after ops V (Proc.devRef .tc main_v137) (ix4 b i j n)
    = layer4 V b i j n + (book V (pick V ⟨(b.val * 14 + i.val) * 14 + j.val, by omega⟩) n - layer4 V b i j n) := by
  have hz : after (seg 143 15) (upto ops V 143) (Proc.devRef .tc main_v102) = upto ops V 143 (Proc.devRef .tc main_v102) := by after_reads_simp
  have hq : after (seg 143 15) (upto ops V 143) (Proc.devRef .tc main_v123) = upto ops V 143 (Proc.devRef .tc main_v123) := by after_reads_simp
  rw [ops_whole, upto_add V 158 4]
  refine (vectors _ (fun i => layer4 V (i 0) (i 2) (i 3) (i 1)) (drawn V) ?_ ?_ b i j n).trans rfl
  · exact (congrFun (upto_add V 143 15) _).trans (hz.trans (z143 V))
  · exact (congrFun (upto_add V 143 15) _).trans (hq.trans (q143 V))

end Cert.ReferenceIdeal.Line

end

end
-- ==== Proof.Finite.lean ====
/-
  What the precondition says: every number of the encoder's arguments is a real number.
-/
module

public import proofs.«01_k».proof.Proof.Gen.Pre_encoder_finite
public import proofs.«01_k».proof.Proof.Spec
public import proofs.«01_k».proof.Defs
public import Idealize.ShloMosaic.Lib.StableHlo.Predicate
public import Idealize.ShloMosaic.Lib.Pipeline.ValueKit

@[expose] public section

set_option maxRecDepth 16384

noncomputable section

namespace Cert.Net

open Idealize.ShloMosaic

/-- A number whose absolute value lies under infinity is real. -/
theorem real?_of_abs {x : EReal} (h : max x (-x) < ⊤) : Real? x := by
  constructor
  · rintro rfl; exact absurd h (by simp)
  · rintro rfl; exact absurd h (by simp)

/-- An array whose absolute values all compare below infinity holds real numbers. -/
theorem real?_of_below {S : Shape} (hb : Shape.BroadcastsInDim ⟨0, ![]⟩ S ![]) (a : FVec Ideal S .f32)
    (h : cmpf .olt (Host.absf a) (broadcastInDim S ![] hb (constant (⟨0, ![]⟩ : Shape) .f32 0x7F800000#32)) = fun _ => 1#1) (i : S.Idx) :
    Real? (a i) := by
  have hi : BitVec.ofBool (decide (max (a i) (-(a i)) < (Ideal.ofBits FTy.f32 0x7F800000#32 : EReal))) = 1#1 := congrFun h i
  have top : (Ideal.ofBits FTy.f32 0x7F800000#32 : EReal) = ⊤ := by simp [Ideal.ofBits, Ideal.ieee]
  rw [top] at hi
  exact real?_of_abs (of_decide_eq_true ((StableHlo.Predicate.ofBool_eq_one_iff _).1 hi))

end Cert.Net

end
-- ==== Proof.Encoder.lean ====
/-
  The first half: from agreeing arguments the kernel and the reference end with the same vectors, loss and codes.
-/
module

public import proofs.«01_k».proof.Proof.KerRun
public import proofs.«01_k».proof.Proof.KerVq
public import proofs.«01_k».proof.Proof.RefOut
public import proofs.«01_k».proof.Proof.Finite
public import Idealize.ShloMosaic.Lib.Quiescent
public import Idealize.ShloMosaic.Lib.StableHlo.RunHlo

@[expose] public section

set_option maxRecDepth 16384
set_option maxHeartbeats 1000000

noncomputable section

/-! ## The reference's run -/

namespace Cert.ReferenceIdeal.Line

open Idealize.ShloMosaic StableHlo Idealize.SL.Sem Cert.Net

theorem ops_bufs : ops.Forall fun op => op.bufs ⊆ tcRefs τ sig := by
  simp [ops, w0, w1, w2, StableHlo.unary_bufs_sub, StableHlo.nullary_bufs_sub, StableHlo.binary_bufs_sub]

theorem ops_fresh : ∀ op ∈ ops, op.fresh = ∅ := by
  intro _ h; (repeat (cases h with | head => rfl | tail _ h => ?_)); exact nomatch h

variable (m : (ℓ : Loc nD τ sig) → Buf (Elt Ideal) ℓ) (ρ : Dev nD → PrngReg)

theorem ends : θ_run (defs (F := Ideal)) (onTc (τ := τ) (main (F := Ideal))) ⟨m, fun _ => 0, ρ⟩ fun r =>
    ∀ (d : Dev nD) (b : Ref sig .tc), r.2.mem ((d.tc : Thread nD τ).loc b) = after ops (launchContents m d) (Proc.devRef .tc b) :=
  run_hlo _ _ main_eq (by decide) (by decide) ops_bufs ops_fresh m ρ

theorem args_kept (V : Valuation τ sig (Elt Ideal)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9) := by
  refine ⟨?_, ?_, ?_, ?_, ?_, ?_, ?_, ?_, ?_, ?_⟩ <;> (rw [ops_whole]; after_reads_simp)

end Cert.ReferenceIdeal.Line

namespace Cert.Encoder

open Idealize.ShloMosaic StableHlo Idealize.SL.Sem Cert.Net

/-- The kernel's launch memory. -/
abbrev Memory := (ℓ : Loc Cert.KernelIdeal.nD Cert.KernelIdeal.τ Cert.KernelIdeal.sig) → Buf (Elt Ideal) ℓ

/-! ## The two pictures of vectors agree -/

/-- A layer depends on its picture, its weights and its bias only. -/
theorem conv_same {B H W C N : ℕ} (H' W' : ℕ) {A A' : Pic B H W C} {w w' : Fin N → Fin C → Fin 4 → Fin 4 → EReal} {β β' : Fin N → EReal}
    (hA : A = A') (hw : w = w') (hβ : β = β') : conv H' W' A w β = conv H' W' A' w' β' := by rw [hA, hw, hβ]

section agree
variable (m : Memory) (ρ : Dev Cert.KernelIdeal.nD → PrngReg) (c : Dev Cert.KernelIdeal.nD)
  (V : Valuation Cert.ReferenceIdeal.τ Cert.ReferenceIdeal.sig (Elt Ideal))

/-- The reference starts from the kernel's arguments. -/
structure Agree : Prop where
  h0 : V (Proc.devRef .tc Cert.ReferenceIdeal.main_arg0) = m ((c.tc : Thread Cert.KernelIdeal.nD Cert.KernelIdeal.τ).loc Cert.KernelIdeal.main_arg0)
  h1 : V (Proc.devRef .tc Cert.ReferenceIdeal.main_arg1) = m ((c.tc : Thread Cert.KernelIdeal.nD Cert.KernelIdeal.τ).loc Cert.KernelIdeal.main_arg1)
  h2 : V (Proc.devRef .tc Cert.ReferenceIdeal.main_arg2) = m ((c.tc : Thread Cert.KernelIdeal.nD Cert.KernelIdeal.τ).loc Cert.KernelIdeal.main_arg2)
  h3 : V (Proc.devRef .tc Cert.ReferenceIdeal.main_arg3) = m ((c.tc : Thread Cert.KernelIdeal.nD Cert.KernelIdeal.τ).loc Cert.KernelIdeal.main_arg3)
  h4 : V (Proc.devRef .tc Cert.ReferenceIdeal.main_arg4) = m ((c.tc : Thread Cert.KernelIdeal.nD Cert.KernelIdeal.τ).loc Cert.KernelIdeal.main_arg4)
  h5 : V (Proc.devRef .tc Cert.ReferenceIdeal.main_arg5) = m ((c.tc : Thread Cert.KernelIdeal.nD Cert.KernelIdeal.τ).loc Cert.KernelIdeal.main_arg5)
  h6 : V (Proc.devRef .tc Cert.ReferenceIdeal.main_arg6) = m ((c.tc : Thread Cert.KernelIdeal.nD Cert.KernelIdeal.τ).loc Cert.KernelIdeal.main_arg6)
  h7 : V (Proc.devRef .tc Cert.ReferenceIdeal.main_arg7) = m ((c.tc : Thread Cert.KernelIdeal.nD Cert.KernelIdeal.τ).loc Cert.KernelIdeal.main_arg7)
  h8 : V (Proc.devRef .tc Cert.ReferenceIdeal.main_arg8) = m ((c.tc : Thread Cert.KernelIdeal.nD Cert.KernelIdeal.τ).loc Cert.KernelIdeal.main_arg8)
  h9 : V (Proc.devRef .tc Cert.ReferenceIdeal.main_arg9) = m ((c.tc : Thread Cert.KernelIdeal.nD Cert.KernelIdeal.τ).loc Cert.KernelIdeal.main_arg9)

variable (h : Agree m c V)

include h in
theorem picture1 (b : Fin 8) (i j : Fin 112) (n : Fin 32) :
    Cert.KernelIdeal.Gen.W4 m ρ c (Proc.devRef .tc Cert.KernelIdeal.main_v16) (ix2 ⟨(b.val * 112 + i.val) * 112 + j.val, by omega⟩ n)
      = Cert.ReferenceIdeal.Line.layer1 V b i j n := by
  refine (Cert.KernelIdeal.Value.layer1 m ρ c b i j n).trans ?_
  unfold Cert.ReferenceIdeal.Line.layer1
  exact congrFun (congrFun (congrFun (congrFun (congrArg relu (conv_same 112 112
    (funext fun b => funext fun i => funext fun j => funext fun _ => congrFun h.h0.symm (ix3 b i j))
    (funext fun n => funext fun k => funext fun kh => funext fun kw => congrFun h.h1.symm (ix4 n k kh kw))
    (funext fun n => congrFun h.h2.symm (ix1 n)))) b) i) j) n

include h in
theorem picture2 (b : Fin 8) (i j : Fin 56) (n : Fin 64) :
    Cert.KernelIdeal.Gen.W8 m ρ c (Proc.devRef .tc Cert.KernelIdeal.main_v25) (ix4 b i j n) = Cert.ReferenceIdeal.Line.layer2 V b i j n := by
  refine (Cert.KernelIdeal.Value.layer2 m ρ c b i j n).trans ?_
  unfold Cert.ReferenceIdeal.Line.layer2
  exact congrFun (congrFun (congrFun (congrFun (congrArg relu (conv_same 56 56
    (funext fun b => funext fun i => funext fun j => funext fun k => picture1 m ρ c V h b i j k)
    (funext fun n => funext fun k => funext fun kh => funext fun kw => congrFun h.h3.symm (ix4 n k kh kw))
    (funext fun n => congrFun h.h4.symm (ix1 n)))) b) i) j) n

include h in
theorem picture3 (b : Fin 8) (i j : Fin 28) (n : Fin 128) :
    Cert.KernelIdeal.Gen.W12 m ρ c (Proc.devRef .tc Cert.KernelIdeal.main_v33) (ix4 b i j n) = Cert.ReferenceIdeal.Line.layer3 V b i j n := by
  refine (Cert.KernelIdeal.Value.layer3 m ρ c b i j n).trans ?_
  unfold Cert.ReferenceIdeal.Line.layer3
  exact congrFun (congrFun (congrFun (congrFun (congrArg relu (conv_same 28 28
    (funext fun b => funext fun i => funext fun j => funext fun k => picture2 m ρ c V h b i j k)
    (funext fun n => funext fun k => funext fun kh => funext fun kw => congrFun h.h5.symm (ix4 n k kh kw))
    (funext fun n => congrFun h.h6.symm (ix1 n)))) b) i) j) n

include h in
theorem picture4 (b : Fin 8) (i j : Fin 14) (n : Fin 32) :
    Cert.KernelIdeal.Gen.W16 m ρ c (Proc.devRef .tc Cert.KernelIdeal.main_v41) (ix4 b i j n) = Cert.ReferenceIdeal.Line.layer4 V b i j n := by
  refine (Cert.KernelIdeal.Value.layer4 m ρ c b i j n).trans ?_
  unfold Cert.ReferenceIdeal.Line.layer4
  exact congrFun (congrFun (congrFun (congrFun (conv_same 14 14
    (funext fun b => funext fun i => funext fun j => funext fun k => picture3 m ρ c V h b i j k)
    (funext fun n => funext fun k => funext fun kh => funext fun kw => congrFun h.h7.symm (ix4 n k kh kw))
    (funext fun n => congrFun h.h8.symm (ix1 n))) b) i) j) n

include h in
theorem book_same : Cert.KernelIdeal.Value.book m c = Cert.ReferenceIdeal.Line.book V :=
  funext fun k => funext fun n => congrFun h.h9.symm (ix2 k n)

/-! ## The vectors are real -/

/-- Every number of the encoder's arguments is real. -/
structure Finite : Prop where
  r0 : ∀ i : Cert.ReferenceIdeal.S8x224x224.Idx, Real? (V (Proc.devRef .tc Cert.ReferenceIdeal.main_arg0) i)
  r1 : ∀ i : Cert.ReferenceIdeal.S32x1x4x4.Idx, Real? (V (Proc.devRef .tc Cert.ReferenceIdeal.main_arg1) i)
  r2 : ∀ i : Cert.ReferenceIdeal.S32.Idx, Real? (V (Proc.devRef .tc Cert.ReferenceIdeal.main_arg2) i)
  r3 : ∀ i : Cert.ReferenceIdeal.S64x32x4x4.Idx, Real? (V (Proc.devRef .tc Cert.ReferenceIdeal.main_arg3) i)
  r4 : ∀ i : Cert.ReferenceIdeal.S64.Idx, Real? (V (Proc.devRef .tc Cert.ReferenceIdeal.main_arg4) i)
  r5 : ∀ i : Cert.ReferenceIdeal.S128x64x4x4.Idx, Real? (V (Proc.devRef .tc Cert.ReferenceIdeal.main_arg5) i)
  r6 : ∀ i : Cert.ReferenceIdeal.S128.Idx, Real? (V (Proc.devRef .tc Cert.ReferenceIdeal.main_arg6) i)
  r7 : ∀ i : Cert.ReferenceIdeal.S32x128x4x4.Idx, Real? (V (Proc.devRef .tc Cert.ReferenceIdeal.main_arg7) i)
  r8 : ∀ i : Cert.ReferenceIdeal.S32.Idx, Real? (V (Proc.devRef .tc Cert.ReferenceIdeal.main_arg8) i)

theorem real_layer4 (hf : Finite V) (b : Fin 8) (i j : Fin 14) (n : Fin 32) : Real? (Cert.ReferenceIdeal.Line.layer4 V b i j n) :=
  have l1 : ∀ b i j n, Real? (Cert.ReferenceIdeal.Line.layer1 V b i j n) := fun b i j n =>
    real?_relu (fun b i j n => real?_conv 112 112 (fun b i j _ => hf.r0 (ix3 b i j)) (fun n k kh kw => hf.r1 (ix4 n k kh kw)) (fun n => hf.r2 (ix1 n)) b i j n) b i j n
  have l2 : ∀ b i j n, Real? (Cert.ReferenceIdeal.Line.layer2 V b i j n) := fun b i j n =>
    real?_relu (fun b i j n => real?_conv 56 56 l1 (fun n k kh kw => hf.r3 (ix4 n k kh kw)) (fun n => hf.r4 (ix1 n)) b i j n) b i j n
  have l3 : ∀ b i j n, Real? (Cert.ReferenceIdeal.Line.layer3 V b i j n) := fun b i j n =>
    real?_relu (fun b i j n => real?_conv 28 28 l2 (fun n k kh kw => hf.r5 (ix4 n k kh kw)) (fun n => hf.r6 (ix1 n)) b i j n) b i j n
  real?_conv 14 14 l3 (fun n k kh kw => hf.r7 (ix4 n k kh kw)) (fun n => hf.r8 (ix1 n)) b i j n

/-! ## The three results -/

/-- A sum of squares divided by its count, with a quarter of that added, is the sum times the kernel's one constant. -/
theorem loss_same (z q : Fin 1568 → Fin 32 → EReal) : Cert.ReferenceIdeal.Line.lossOf (rest z q) = rest z q * ((5 / 200704 : ℝ) : EReal) := by
  have h0 : 0 ≤ rest z q := Finset.sum_nonneg fun r _ => Finset.sum_nonneg fun n _ => mul_self_nonneg' _
  unfold Cert.ReferenceIdeal.Line.lossOf
  rw [count_eq, quarter_eq, five_quarters _ h0, Ideal.div_coe (by norm_num), ← EReal.coe_inv, one_div (50176 : ℝ)]

include h in
theorem vectors_same (hf : Finite V) :
    Cert.KernelIdeal.Gen.W19 m ρ c (Proc.devRef .tc Cert.KernelIdeal.main_v49)
      = after Cert.ReferenceIdeal.Line.ops V (Proc.devRef .tc Cert.ReferenceIdeal.main_v137) := by
  funext y
  obtain ⟨b, i, j, n, rfl⟩ : ∃ (b : Fin 8) (i j : Fin 14) (n : Fin 32), y = (ix4 b i j n : Cert.KernelIdeal.S8x14x14x32.Idx) := ⟨y 0, y 1, y 2, y 3, eq_ix4 _⟩
  refine (Cert.KernelIdeal.Value.result_vectors m ρ c _ (picture4 m ρ c V h) b i j n).trans ?_
  refine Eq.trans ?_ (Cert.ReferenceIdeal.Line.result_vectors V b i j n).symm
  rw [add_sub_of_real (real_layer4 V hf b i j n), book_same m c V h]

include h in
theorem codes_same :
    Cert.KernelIdeal.Gen.W19 m ρ c (Proc.devRef .tc Cert.KernelIdeal.main_v48)
      = after Cert.ReferenceIdeal.Line.ops V (Proc.devRef .tc Cert.ReferenceIdeal.main_v136) := by
  funext y
  obtain ⟨b, i, j, rfl⟩ : ∃ (b : Fin 8) (i j : Fin 14), y = (ix3 b i j : Cert.KernelIdeal.S8x14x14.Idx) := ⟨y 0, y 1, y 2, eq_ix3 _⟩
  refine (Cert.KernelIdeal.Value.result_codes m ρ c _ (picture4 m ρ c V h) b i j).trans ?_
  refine Eq.trans ?_ (Cert.ReferenceIdeal.Line.result_codes V b i j).symm
  rw [book_same m c V h]

include h in
theorem losses_same :
    Cert.KernelIdeal.Gen.W19 m ρ c (Proc.devRef .tc Cert.KernelIdeal.main_v47)
      = after Cert.ReferenceIdeal.Line.ops V (Proc.devRef .tc Cert.ReferenceIdeal.main_v133) := by
  funext y
  obtain rfl : y = (ix0 : Cert.KernelIdeal.S_.Idx) := funext fun a : Fin 0 => a.elim0
  refine (Cert.KernelIdeal.Value.result_loss m ρ c _ (picture4 m ρ c V h)).trans ?_
  refine Eq.trans ?_ (Cert.ReferenceIdeal.Line.result_loss V).symm
  rw [loss_same, book_same m c V h]

end agree

/-! ## The claims -/

theorem agree_of (m : Memory) (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Agree m c (launchContents m' c) :=
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2⟩

theorem finite_of (m : Memory) (m' : (ℓ : Loc Cert.ReferenceIdeal.nD Cert.ReferenceIdeal.τ Cert.ReferenceIdeal.sig) → Buf (Elt Ideal) ℓ)
    (c : Dev Cert.KernelIdeal.nD) (hpre : Cert.Pre_KernelIdeal_encoder_finite m) (h : Agree m c (launchContents m' c)) :
    Finite (launchContents m' c) where
  r0 i := by rw [h.h0]; exact real?_of_below _ _ (hpre c).1 i
  r1 i := by rw [h.h1]; exact real?_of_below _ _ (hpre c).2.1 i
  r2 i := by rw [h.h2]; exact real?_of_below _ _ (hpre c).2.2.1 i
  r3 i := by rw [h.h3]; exact real?_of_below _ _ (hpre c).2.2.2.1 i
  r4 i := by rw [h.h4]; exact real?_of_below _ _ (hpre c).2.2.2.2.1 i
  r5 i := by rw [h.h5]; exact real?_of_below _ _ (hpre c).2.2.2.2.2.1 i
  r6 i := by rw [h.h6]; exact real?_of_below _ _ (hpre c).2.2.2.2.2.2.1 i
  r7 i := by rw [h.h7]; exact real?_of_below _ _ (hpre c).2.2.2.2.2.2.2.1 i
  r8 i := by rw [h.h8]; exact real?_of_below _ _ (hpre c).2.2.2.2.2.2.2.2 i

/-- The reference ends with its arguments as they were and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run _ _ _).mono (fun _ h => ⟨fun c => ⟨(h c _).trans (Cert.ReferenceIdeal.Line.args_kept _).1,
     (h c _).trans (Cert.ReferenceIdeal.Line.args_kept _).2.1,
     (h c _).trans (Cert.ReferenceIdeal.Line.args_kept _).2.2.1,
     (h c _).trans (Cert.ReferenceIdeal.Line.args_kept _).2.2.2.1,
     (h c _).trans (Cert.ReferenceIdeal.Line.args_kept _).2.2.2.2.1,
     (h c _).trans (Cert.ReferenceIdeal.Line.args_kept _).2.2.2.2.2.1,
     (h c _).trans (Cert.ReferenceIdeal.Line.args_kept _).2.2.2.2.2.2.1,
     (h c _).trans (Cert.ReferenceIdeal.Line.args_kept _).2.2.2.2.2.2.2.1,
     (h c _).trans (Cert.ReferenceIdeal.Line.args_kept _).2.2.2.2.2.2.2.2.1,
     (h c _).trans (Cert.ReferenceIdeal.Line.args_kept _).2.2.2.2.2.2.2.2.2⟩,
    sem_eq_zero_of_no_sems (by decide) _⟩) (Cert.ReferenceIdeal.Line.ends m ρ)

/-- From agreeing real arguments the kernel and the reference end with equal results. -/
theorem same : Cert.algebraic_KernelIdeal_ReferenceIdeal_pre_encoder_finite := by
  intro m g m' g' hpre hagree
  have ha := fun c => agree_of m m' c (hagree c)
  refine ⟨fun c => Cert.KernelIdeal.Gen.W19 m g c (Proc.devRef .tc Cert.KernelIdeal.main_v49),
    fun c => Cert.KernelIdeal.Gen.W19 m g c (Proc.devRef .tc Cert.KernelIdeal.main_v47),
    fun c => Cert.KernelIdeal.Gen.W19 m g c (Proc.devRef .tc Cert.KernelIdeal.main_v48), ?_, ?_⟩
  · refine (θ_run _ _ _).mono (fun _ h c => ?_) (Cert.KernelIdeal.Gen.ends m g)
    exact ⟨h c _ (Cert.KernelIdeal.Gen.mem_uc Cert.KernelIdeal.main_v49 (by decide)), h c _ (Cert.KernelIdeal.Gen.mem_uc Cert.KernelIdeal.main_v47 (by decide)),
      h c _ (Cert.KernelIdeal.Gen.mem_uc Cert.KernelIdeal.main_v48 (by decide)),
      (h c _ (Cert.KernelIdeal.Gen.mem_uc Cert.KernelIdeal.main_arg0 (by decide))).trans (Cert.KernelIdeal.Gen.W19_main_arg0 m g c),
      (h c _ (Cert.KernelIdeal.Gen.mem_uc Cert.KernelIdeal.main_arg1 (by decide))).trans (Cert.KernelIdeal.Gen.W19_main_arg1 m g c),
      (h c _ (Cert.KernelIdeal.Gen.mem_uc Cert.KernelIdeal.main_arg2 (by decide))).trans (Cert.KernelIdeal.Gen.W19_main_arg2 m g c),
      (h c _ (Cert.KernelIdeal.Gen.mem_uc Cert.KernelIdeal.main_arg3 (by decide))).trans (Cert.KernelIdeal.Gen.W19_main_arg3 m g c),
      (h c _ (Cert.KernelIdeal.Gen.mem_uc Cert.KernelIdeal.main_arg4 (by decide))).trans (Cert.KernelIdeal.Gen.W19_main_arg4 m g c),
      (h c _ (Cert.KernelIdeal.Gen.mem_uc Cert.KernelIdeal.main_arg5 (by decide))).trans (Cert.KernelIdeal.Gen.W19_main_arg5 m g c),
      (h c _ (Cert.KernelIdeal.Gen.mem_uc Cert.KernelIdeal.main_arg6 (by decide))).trans (Cert.KernelIdeal.Gen.W19_main_arg6 m g c),
      (h c _ (Cert.KernelIdeal.Gen.mem_uc Cert.KernelIdeal.main_arg7 (by decide))).trans (Cert.KernelIdeal.Gen.W19_main_arg7 m g c),
      (h c _ (Cert.KernelIdeal.Gen.mem_uc Cert.KernelIdeal.main_arg8 (by decide))).trans (Cert.KernelIdeal.Gen.W19_main_arg8 m g c),
      (h c _ (Cert.KernelIdeal.Gen.mem_uc Cert.KernelIdeal.main_arg9 (by decide))).trans (Cert.KernelIdeal.Gen.W19_main_arg9 m g c)⟩
  · refine (θ_run _ _ _).mono (fun _ h c => ?_) (Cert.ReferenceIdeal.Line.ends m' g')
    exact ⟨(h c _).trans (vectors_same m g c _ (ha c) (finite_of m m' c hpre (ha c))).symm, (h c _).trans (losses_same m g c _ (ha c)).symm,
      (h c _).trans (codes_same m g c _ (ha c)).symm,
     (h c _).trans (Cert.ReferenceIdeal.Line.args_kept _).1,
     (h c _).trans (Cert.ReferenceIdeal.Line.args_kept _).2.1,
     (h c _).trans (Cert.ReferenceIdeal.Line.args_kept _).2.2.1,
     (h c _).trans (Cert.ReferenceIdeal.Line.args_kept _).2.2.2.1,
     (h c _).trans (Cert.ReferenceIdeal.Line.args_kept _).2.2.2.2.1,
     (h c _).trans (Cert.ReferenceIdeal.Line.args_kept _).2.2.2.2.2.1,
     (h c _).trans (Cert.ReferenceIdeal.Line.args_kept _).2.2.2.2.2.2.1,
     (h c _).trans (Cert.ReferenceIdeal.Line.args_kept _).2.2.2.2.2.2.2.1,
     (h c _).trans (Cert.ReferenceIdeal.Line.args_kept _).2.2.2.2.2.2.2.2.1,
     (h c _).trans (Cert.ReferenceIdeal.Line.args_kept _).2.2.2.2.2.2.2.2.2⟩

end Cert.Encoder

end
-- ==== Proof.RefDec.lean ====
/-
  The decoder of the reference, layer by layer: what the buffer of each layer's result holds, as the transposed convolution
  of the picture that the layer before left.
-/
module

public import proofs.«01_k».proof.Proof.RefLine
public import proofs.«01_k».proof.Proof.Layer
public import Idealize.ShloMosaic.Lib.StableHlo.ReadAt

@[expose] public section

set_option maxRecDepth 16384

noncomputable section

namespace Cert.DecoderReferenceIdeal.Line

open Idealize.ShloMosaic StableHlo Idealize.SL.Sem Cert.Net

/-- The `k` operations of the line after the first `n`. -/
def seg (n k : ℕ) : List (HloOp τ sig (Elt Ideal)) := (ops.drop n).take k

variable (V : Valuation τ sig (Elt Ideal))

/-- What the buffers hold after `n + k` operations. -/
theorem upto_add (n k : ℕ) : upto ops V (n + k) = after (seg n k) (upto ops V n) := by
  have append : ∀ (l l' : List (HloOp τ sig (Elt Ideal))) (W : Valuation τ sig (Elt Ideal)), after (l ++ l') W = after l' (after l W) := by
    intro l
    induction l with
    | nil => exact fun _ _ => rfl
    | cons op l ih => exact fun _ _ => ih _ _
  unfold upto seg
  rw [← append, List.take_add]

/-! ## Layer 1 -/

theorem pad1 (b : Fin 8) (c : Fin 32) (p q : Fin 31) :
    after (seg 0 5) V (Proc.devRef .tc main_v3) (ix4 b c p q) = spread (fun (b : Fin 8) (i j : Fin 14) (c : Fin 32) => V (Proc.devRef .tc main_arg0) (ix4 b i j c)) b p.val q.val c := by
  after_reads_simp
  pointwise
  rw [spread_eq]

theorem rows1 (b : Fin 8) (c : Fin 32) (k : Fin 4) (p : Fin 28) (q : Fin 31) :
    after (seg 5 9) V (Proc.devRef .tc main_v12) (ix5 b c k p q)
      = V (Proc.devRef .tc main_v3) (ix4 b c ⟨p.val + k.val, by omega⟩ q) := by
  after_reads_simp
  dsimp only [Matrix.cons_val]
  pointwise
  fin_vals k with hk <;> after_reads_simp <;> simp [hk] <;> pointwise <;> simp only [add_comm]

theorem cols1 (b : Fin 8) (c : Fin 32) (k l : Fin 4) (p q : Fin 28) :
    after (seg 14 9) V (Proc.devRef .tc main_v21) (ix6 b c k l p q)
      = V (Proc.devRef .tc main_v12) (ix5 b c k p ⟨q.val + l.val, by omega⟩) := by
  after_reads_simp
  dsimp only [Matrix.cons_val]
  pointwise
  fin_vals l with hk <;> after_reads_simp <;> simp [hk] <;> pointwise <;> simp only [add_comm]

theorem flip1 (n : Fin 128) (c : Fin 32) (k l : Fin 4) :
    upto ops V 23 (Proc.devRef .tc main_v2) (ix4 n c k l) = V (Proc.devRef .tc main_arg1) (ix4 c n k.rev l.rev) := by
  after_reads_at
  rfl

theorem sum1 (b : Fin 8) (n : Fin 128) (p q : Fin 28) :
    after (seg 23 8) V (Proc.devRef .tc main_v28) (ix4 b n p q)
      = max (Ideal.matmul dot_S128x32x4x4_S8x32x4x4x28x28_S128x8x28x28_123_123_0_045_n_n (V (Proc.devRef .tc main_v2)) (V (Proc.devRef .tc main_v21)) (fun _ => 0) (ix4 n b p q)
          + V (Proc.devRef .tc main_arg2) (ix1 n)) 0 := by
  after_reads_simp
  pointwise

/-! ## Layer 2 -/

theorem pad2 (b : Fin 8) (c : Fin 128) (p q : Fin 59) :
    after (seg 31 4) V (Proc.devRef .tc main_v31) (ix4 b c p q) = spread (fun (b : Fin 8) (i j : Fin 28) (c : Fin 128) => V (Proc.devRef .tc main_v28) (ix4 b c i j)) b p.val q.val c := by
  after_reads_simp
  pointwise
  rw [spread_eq]

theorem rows2 (b : Fin 8) (c : Fin 128) (k : Fin 4) (p : Fin 56) (q : Fin 59) :
    after (seg 35 9) V (Proc.devRef .tc main_v40) (ix5 b c k p q)
      = V (Proc.devRef .tc main_v31) (ix4 b c ⟨p.val + k.val, by omega⟩ q) := by
  after_reads_simp
  dsimp only [Matrix.cons_val]
  pointwise
  fin_vals k with hk <;> after_reads_simp <;> simp [hk] <;> pointwise <;> simp only [add_comm]

theorem cols2 (b : Fin 8) (c : Fin 128) (k l : Fin 4) (p q : Fin 56) :
    after (seg 44 9) V (Proc.devRef .tc main_v49) (ix6 b c k l p q)
      = V (Proc.devRef .tc main_v40) (ix5 b c k p ⟨q.val + l.val, by omega⟩) := by
  after_reads_simp
  dsimp only [Matrix.cons_val]
  pointwise
  fin_vals l with hk <;> after_reads_simp <;> simp [hk] <;> pointwise <;> simp only [add_comm]

theorem flip2 (n : Fin 64) (c : Fin 128) (k l : Fin 4) :
    upto ops V 53 (Proc.devRef .tc main_v30) (ix4 n c k l) = V (Proc.devRef .tc main_arg3) (ix4 c n k.rev l.rev) := by
  after_reads_at
  rfl

theorem sum2 (b : Fin 8) (n : Fin 64) (p q : Fin 56) :
    after (seg 53 8) V (Proc.devRef .tc main_v56) (ix4 b n p q)
      = max (Ideal.matmul dot_S64x128x4x4_S8x128x4x4x56x56_S64x8x56x56_123_123_0_045_n_n (V (Proc.devRef .tc main_v30)) (V (Proc.devRef .tc main_v49)) (fun _ => 0) (ix4 n b p q)
          + V (Proc.devRef .tc main_arg4) (ix1 n)) 0 := by
  after_reads_simp
  pointwise

/-! ## Layer 3 -/

theorem pad3 (b : Fin 8) (c : Fin 64) (p q : Fin 115) :
    after (seg 61 4) V (Proc.devRef .tc main_v59) (ix4 b c p q) = spread (fun (b : Fin 8) (i j : Fin 56) (c : Fin 64) => V (Proc.devRef .tc main_v56) (ix4 b c i j)) b p.val q.val c := by
  after_reads_simp
  pointwise
  rw [spread_eq]

theorem rows3 (b : Fin 8) (c : Fin 64) (k : Fin 4) (p : Fin 112) (q : Fin 115) :
    after (seg 65 9) V (Proc.devRef .tc main_v68) (ix5 b c k p q)
      = V (Proc.devRef .tc main_v59) (ix4 b c ⟨p.val + k.val, by omega⟩ q) := by
  after_reads_simp
  dsimp only [Matrix.cons_val]
  pointwise
  fin_vals k with hk <;> after_reads_simp <;> simp [hk] <;> pointwise <;> simp only [add_comm]

theorem cols3 (b : Fin 8) (c : Fin 64) (k l : Fin 4) (p q : Fin 112) :
    after (seg 74 9) V (Proc.devRef .tc main_v77) (ix6 b c k l p q)
      = V (Proc.devRef .tc main_v68) (ix5 b c k p ⟨q.val + l.val, by omega⟩) := by
  after_reads_simp
  dsimp only [Matrix.cons_val]
  pointwise
  fin_vals l with hk <;> after_reads_simp <;> simp [hk] <;> pointwise <;> simp only [add_comm]

theorem flip3 (n : Fin 32) (c : Fin 64) (k l : Fin 4) :
    upto ops V 83 (Proc.devRef .tc main_v58) (ix4 n c k l) = V (Proc.devRef .tc main_arg5) (ix4 c n k.rev l.rev) := by
  after_reads_at
  rfl

theorem sum3 (b : Fin 8) (n : Fin 32) (p q : Fin 112) :
    after (seg 83 8) V (Proc.devRef .tc main_v84) (ix4 b n p q)
      = max (Ideal.matmul dot_S32x64x4x4_S8x64x4x4x112x112_S32x8x112x112_123_123_0_045_n_n (V (Proc.devRef .tc main_v58)) (V (Proc.devRef .tc main_v77)) (fun _ => 0) (ix4 n b p q)
          + V (Proc.devRef .tc main_arg6) (ix1 n)) 0 := by
  after_reads_simp
  pointwise

/-! ## Layer 4 -/

theorem pad4 (b : Fin 8) (c : Fin 32) (p q : Fin 227) :
    after (seg 91 4) V (Proc.devRef .tc main_v87) (ix4 b c p q) = spread (fun (b : Fin 8) (i j : Fin 112) (c : Fin 32) => V (Proc.devRef .tc main_v84) (ix4 b c i j)) b p.val q.val c := by
  after_reads_simp
  pointwise
  rw [spread_eq]

theorem rows4 (b : Fin 8) (c : Fin 32) (k : Fin 4) (p : Fin 224) (q : Fin 227) :
    after (seg 95 9) V (Proc.devRef .tc main_v96) (ix5 b c k p q)
      = V (Proc.devRef .tc main_v87) (ix4 b c ⟨p.val + k.val, by omega⟩ q) := by
  after_reads_simp
  dsimp only [Matrix.cons_val]
  pointwise
  fin_vals k with hk <;> after_reads_simp <;> simp [hk] <;> pointwise <;> simp only [add_comm]

theorem cols4 (b : Fin 8) (c : Fin 32) (k l : Fin 4) (p q : Fin 224) :
    after (seg 104 9) V (Proc.devRef .tc main_v105) (ix6 b c k l p q)
      = V (Proc.devRef .tc main_v96) (ix5 b c k p ⟨q.val + l.val, by omega⟩) := by
  after_reads_simp
  dsimp only [Matrix.cons_val]
  pointwise
  fin_vals l with hk <;> after_reads_simp <;> simp [hk] <;> pointwise <;> simp only [add_comm]

theorem flip4 (n : Fin 1) (c : Fin 32) (k l : Fin 4) :
    upto ops V 113 (Proc.devRef .tc main_v86) (ix4 n c k l) = V (Proc.devRef .tc main_arg7) (ix4 c n k.rev l.rev) := by
  obtain rfl : n = 0 := Subsingleton.elim _ _
  after_reads_at
  rfl

theorem sum4 (b : Fin 8) (n : Fin 1) (p q : Fin 224) :
    after (seg 113 7) V (Proc.devRef .tc main_v112) (ix5 b n 0 p q)
      = Ideal.tanh (Ideal.matmul dot_S1x32x4x4_S8x32x4x4x224x224_S1x8x224x224_123_123_0_045_n_n (V (Proc.devRef .tc main_v86)) (V (Proc.devRef .tc main_v105)) (fun _ => 0) (ix4 n b p q)
          + V (Proc.devRef .tc main_arg8) (ix1 n)) := by
  obtain rfl : n = 0 := Subsingleton.elim _ _
  after_reads_simp
  pointwise

/-- The picture after layer 1. -/
def layer1 : Pic 8 28 28 128 :=
  relu (convT 28 28 (fun b i j c => V (Proc.devRef .tc main_arg0) (ix4 b i j c) : Pic 8 14 14 32) (fun c n kh kw => V (Proc.devRef .tc main_arg1) (ix4 c n kh kw))
    (fun n => V (Proc.devRef .tc main_arg2) (ix1 n)))

theorem layer1_eq (b : Fin 8) (n : Fin 128) (p q : Fin 28) :
    upto ops V 31 (Proc.devRef .tc main_v28) (ix4 b n p q) = layer1 V b p q n := by
  have h1 : upto ops V 5 = after (seg 0 5) (upto ops V 0) := upto_add V 0 5
  have h2 : upto ops V 14 = after (seg 5 9) (upto ops V 5) := upto_add V 5 9
  have h3 : upto ops V 23 = after (seg 14 9) (upto ops V 14) := upto_add V 14 9
  have h4 : upto ops V 31 = after (seg 23 8) (upto ops V 23) := upto_add V 23 8
  have hb : upto ops V 23 (Proc.devRef .tc main_arg2) = V (Proc.devRef .tc main_arg2) := by after_reads_simp
  have hx : upto ops V 0 = V := upto_zero ops V
  have := convT_of_windows (fun b i j c => V (Proc.devRef .tc main_arg0) (ix4 b i j c) : Pic 8 14 14 32) (upto ops V 5 (Proc.devRef .tc main_v3))
    (upto ops V 14 (Proc.devRef .tc main_v12)) (upto ops V 23 (Proc.devRef .tc main_v21))
    dot_S128x32x4x4_S8x32x4x4x28x28_S128x8x28x28_123_123_0_045_n_n ⟨rfl, rfl, rfl, rfl, rfl, rfl⟩
    (upto ops V 23 (Proc.devRef .tc main_v2)) (V (Proc.devRef .tc main_arg1)) (fun n => V (Proc.devRef .tc main_arg2) (ix1 n)) (by omega) (by omega)
    (flip1 V) (fun b c p q => by rw [h1, pad1, hx]) (fun b c k p q => by rw [h2, rows1]) (fun b c k l p q => by rw [h3, cols1]) b n p q
  rw [h4, sum1, hb, this]
  rfl

/-- The picture after layer 2. -/
def layer2 : Pic 8 56 56 64 :=
  relu (convT 56 56 (layer1 V : Pic 8 28 28 128) (fun c n kh kw => V (Proc.devRef .tc main_arg3) (ix4 c n kh kw))
    (fun n => V (Proc.devRef .tc main_arg4) (ix1 n)))

theorem layer2_eq (b : Fin 8) (n : Fin 64) (p q : Fin 56) :
    upto ops V 61 (Proc.devRef .tc main_v56) (ix4 b n p q) = layer2 V b p q n := by
  have h1 : upto ops V 35 = after (seg 31 4) (upto ops V 31) := upto_add V 31 4
  have h2 : upto ops V 44 = after (seg 35 9) (upto ops V 35) := upto_add V 35 9
  have h3 : upto ops V 53 = after (seg 44 9) (upto ops V 44) := upto_add V 44 9
  have h4 : upto ops V 61 = after (seg 53 8) (upto ops V 53) := upto_add V 53 8
  have hb : upto ops V 53 (Proc.devRef .tc main_arg4) = V (Proc.devRef .tc main_arg4) := by after_reads_simp
  have hx : (fun (b : Fin 8) (i j : Fin 28) (c : Fin 128) => upto ops V 31 (Proc.devRef .tc main_v28) (ix4 b c i j)) = layer1 V :=
    funext fun b => funext fun i => funext fun j => funext fun c => layer1_eq V b c i j
  have := convT_of_windows (layer1 V : Pic 8 28 28 128) (upto ops V 35 (Proc.devRef .tc main_v31))
    (upto ops V 44 (Proc.devRef .tc main_v40)) (upto ops V 53 (Proc.devRef .tc main_v49))
    dot_S64x128x4x4_S8x128x4x4x56x56_S64x8x56x56_123_123_0_045_n_n ⟨rfl, rfl, rfl, rfl, rfl, rfl⟩
    (upto ops V 53 (Proc.devRef .tc main_v30)) (V (Proc.devRef .tc main_arg3)) (fun n => V (Proc.devRef .tc main_arg4) (ix1 n)) (by omega) (by omega)
    (flip2 V) (fun b c p q => by rw [h1, pad2, hx]) (fun b c k p q => by rw [h2, rows2]) (fun b c k l p q => by rw [h3, cols2]) b n p q
  rw [h4, sum2, hb, this]
  rfl

/-- The picture after layer 3. -/
def layer3 : Pic 8 112 112 32 :=
  relu (convT 112 112 (layer2 V : Pic 8 56 56 64) (fun c n kh kw => V (Proc.devRef .tc main_arg5) (ix4 c n kh kw))
    (fun n => V (Proc.devRef .tc main_arg6) (ix1 n)))

theorem layer3_eq (b : Fin 8) (n : Fin 32) (p q : Fin 112) :
    upto ops V 91 (Proc.devRef .tc main_v84) (ix4 b n p q) = layer3 V b p q n := by
  have h1 : upto ops V 65 = after (seg 61 4) (upto ops V 61) := upto_add V 61 4
  have h2 : upto ops V 74 = after (seg 65 9) (upto ops V 65) := upto_add V 65 9
  have h3 : upto ops V 83 = after (seg 74 9) (upto ops V 74) := upto_add V 74 9
  have h4 : upto ops V 91 = after (seg 83 8) (upto ops V 83) := upto_add V 83 8
  have hb : upto ops V 83 (Proc.devRef .tc main_arg6) = V (Proc.devRef .tc main_arg6) := by after_reads_simp
  have hx : (fun (b : Fin 8) (i j : Fin 56) (c : Fin 64) => upto ops V 61 (Proc.devRef .tc main_v56) (ix4 b c i j)) = layer2 V :=
    funext fun b => funext fun i => funext fun j => funext fun c => layer2_eq V b c i j
  have := convT_of_windows (layer2 V : Pic 8 56 56 64) (upto ops V 65 (Proc.devRef .tc main_v59))
    (upto ops V 74 (Proc.devRef .tc main_v68)) (upto ops V 83 (Proc.devRef .tc main_v77))
    dot_S32x64x4x4_S8x64x4x4x112x112_S32x8x112x112_123_123_0_045_n_n ⟨rfl, rfl, rfl, rfl, rfl, rfl⟩
    (upto ops V 83 (Proc.devRef .tc main_v58)) (V (Proc.devRef .tc main_arg5)) (fun n => V (Proc.devRef .tc main_arg6) (ix1 n)) (by omega) (by omega)
    (flip3 V) (fun b c p q => by rw [h1, pad3, hx]) (fun b c k p q => by rw [h2, rows3]) (fun b c k l p q => by rw [h3, cols3]) b n p q
  rw [h4, sum3, hb, this]
  rfl

/-- The picture after layer 4, before the hyperbolic tangent. -/
def layer4 : Pic 8 224 224 1 :=
  convT 224 224 (layer3 V : Pic 8 112 112 32) (fun c n kh kw => V (Proc.devRef .tc main_arg7) (ix4 c n kh kw))
    (fun n => V (Proc.devRef .tc main_arg8) (ix1 n))

theorem layer4_eq (b : Fin 8) (n : Fin 1) (p q : Fin 224) :
    upto ops V 120 (Proc.devRef .tc main_v112) (ix5 b n 0 p q) = Ideal.tanh (layer4 V b p q n) := by
  have h1 : upto ops V 95 = after (seg 91 4) (upto ops V 91) := upto_add V 91 4
  have h2 : upto ops V 104 = after (seg 95 9) (upto ops V 95) := upto_add V 95 9
  have h3 : upto ops V 113 = after (seg 104 9) (upto ops V 104) := upto_add V 104 9
  have h4 : upto ops V 120 = after (seg 113 7) (upto ops V 113) := upto_add V 113 7
  have hb : upto ops V 113 (Proc.devRef .tc main_arg8) = V (Proc.devRef .tc main_arg8) := by after_reads_simp
  have hx : (fun (b : Fin 8) (i j : Fin 112) (c : Fin 32) => upto ops V 91 (Proc.devRef .tc main_v84) (ix4 b c i j)) = layer3 V :=
    funext fun b => funext fun i => funext fun j => funext fun c => layer3_eq V b c i j
  have := convT_of_windows (layer3 V : Pic 8 112 112 32) (upto ops V 95 (Proc.devRef .tc main_v87))
    (upto ops V 104 (Proc.devRef .tc main_v96)) (upto ops V 113 (Proc.devRef .tc main_v105))
    dot_S1x32x4x4_S8x32x4x4x224x224_S1x8x224x224_123_123_0_045_n_n ⟨rfl, rfl, rfl, rfl, rfl, rfl⟩
    (upto ops V 113 (Proc.devRef .tc main_v86)) (V (Proc.devRef .tc main_arg7)) (fun n => V (Proc.devRef .tc main_arg8) (ix1 n)) (by omega) (by omega)
    (flip4 V) (fun b c p q => by rw [h1, pad4, hx]) (fun b c k p q => by rw [h2, rows4]) (fun b c k l p q => by rw [h3, cols4]) b n p q
  rw [h4, sum4, hb, this]
  rfl

end Cert.DecoderReferenceIdeal.Line
-- ==== Proof.RefDecRun.lean ====
/-
  What the reference's second half ends with.
-/
module

public import proofs.«01_k».proof.Proof.RefDec
public import Idealize.ShloMosaic.Lib.Quiescent
public import Idealize.ShloMosaic.Lib.StableHlo.RunHlo

@[expose] public section

set_option maxRecDepth 16384
set_option maxHeartbeats 1000000

noncomputable section

/-! ## The reference's run -/

namespace Cert.DecoderReferenceIdeal.Line

open Idealize.ShloMosaic StableHlo Idealize.SL.Sem Cert.Net

theorem ops_bufs : ops.Forall fun op => op.bufs ⊆ tcRefs τ sig := by
  simp [ops, w0, w1, w2, StableHlo.unary_bufs_sub, StableHlo.nullary_bufs_sub, StableHlo.binary_bufs_sub]

theorem ops_fresh : ∀ op ∈ ops, op.fresh = ∅ := by
  intro _ h; (repeat (cases h with | head => rfl | tail _ h => ?_)); exact nomatch h

variable (m : (ℓ : Loc nD τ sig) → Buf (Elt Ideal) ℓ) (ρ : Dev nD → PrngReg)

theorem ends : θ_run (defs (F := Ideal)) (onTc (τ := τ) (main (F := Ideal))) ⟨m, fun _ => 0, ρ⟩ fun r =>
    ∀ (d : Dev nD) (b : Ref sig .tc), r.2.mem ((d.tc : Thread nD τ).loc b) = after ops (launchContents m d) (Proc.devRef .tc b) :=
  run_hlo _ _ main_eq (by decide) (by decide) ops_bufs ops_fresh m ρ

/-- The whole line, as a stretch of it. -/
theorem ops_whole (V : Valuation τ sig (Elt Ideal)) : after ops V = upto ops V 120 := rfl

theorem args_kept (V : Valuation τ sig (Elt Ideal)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) := by
  refine ⟨?_, ?_, ?_, ?_, ?_, ?_, ?_, ?_, ?_⟩ <;> (rw [ops_whole]; after_reads_simp)

end Cert.DecoderReferenceIdeal.Line

namespace Cert.DecoderEnd

open Idealize.ShloMosaic StableHlo Idealize.SL.Sem Cert.Net

/-- The reference ends with its arguments as they were and every counter at zero. -/
theorem reference_frame (m : (ℓ : Loc Cert.DecoderReferenceIdeal.nD Cert.DecoderReferenceIdeal.τ Cert.DecoderReferenceIdeal.sig) → Buf (Elt Ideal) ℓ)
    (ρ : Dev Cert.DecoderReferenceIdeal.nD → PrngReg) :
    θ_run (Cert.DecoderReferenceIdeal.defs (F := Ideal)) (onTc (τ := Cert.DecoderReferenceIdeal.τ) (Cert.DecoderReferenceIdeal.main (F := Ideal))) ⟨m, fun _ => 0, ρ⟩ (fun r =>
      (∀ c : Dev Cert.DecoderReferenceIdeal.nD,
r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4)
      ∧ r.2.mem ((c.tc : Thread Cert.DecoderReferenceIdeal.nD Cert.DecoderReferenceIdeal.τ).loc Cert.DecoderReferenceIdeal.main_arg5) = m ((c.tc : Thread Cert.DecoderReferenceIdeal.nD Cert.DecoderReferenceIdeal.τ).loc Cert.DecoderReferenceIdeal.main_arg5)
      ∧ r.2.mem ((c.tc : Thread Cert.DecoderReferenceIdeal.nD Cert.DecoderReferenceIdeal.τ).loc Cert.DecoderReferenceIdeal.main_arg6) = m ((c.tc : Thread Cert.DecoderReferenceIdeal.nD Cert.DecoderReferenceIdeal.τ).loc Cert.DecoderReferenceIdeal.main_arg6)
      ∧ r.2.mem ((c.tc : Thread Cert.DecoderReferenceIdeal.nD Cert.DecoderReferenceIdeal.τ).loc Cert.DecoderReferenceIdeal.main_arg7) = m ((c.tc : Thread Cert.DecoderReferenceIdeal.nD Cert.DecoderReferenceIdeal.τ).loc Cert.DecoderReferenceIdeal.main_arg7)
      ∧ r.2.mem ((c.tc : Thread Cert.DecoderReferenceIdeal.nD Cert.DecoderReferenceIdeal.τ).loc Cert.DecoderReferenceIdeal.main_arg8) = m ((c.tc : Thread Cert.DecoderReferenceIdeal.nD Cert.DecoderReferenceIdeal.τ).loc Cert.DecoderReferenceIdeal.main_arg8))
      ∧ r.2.sem = fun _ => 0) :=
  (θ_run _ _ _).mono (fun _ h => ⟨fun c => ⟨(h c _).trans (Cert.DecoderReferenceIdeal.Line.args_kept _).1,
     (h c _).trans (Cert.DecoderReferenceIdeal.Line.args_kept _).2.1,
     (h c _).trans (Cert.DecoderReferenceIdeal.Line.args_kept _).2.2.1,
     (h c _).trans (Cert.DecoderReferenceIdeal.Line.args_kept _).2.2.2.1,
     (h c _).trans (Cert.DecoderReferenceIdeal.Line.args_kept _).2.2.2.2.1,
     (h c _).trans (Cert.DecoderReferenceIdeal.Line.args_kept _).2.2.2.2.2.1,
     (h c _).trans (Cert.DecoderReferenceIdeal.Line.args_kept _).2.2.2.2.2.2.1,
     (h c _).trans (Cert.DecoderReferenceIdeal.Line.args_kept _).2.2.2.2.2.2.2.1,
     (h c _).trans (Cert.DecoderReferenceIdeal.Line.args_kept _).2.2.2.2.2.2.2.2⟩,
    sem_eq_zero_of_no_sems (by decide) _⟩) (Cert.DecoderReferenceIdeal.Line.ends m ρ)

end Cert.DecoderEnd

end
-- ==== Proof.DecRun.lean ====
/-
  What the second half's buffers hold when its program ends.
-/
module

public import proofs.«01_k».proof.Proof.Gen.DecoderIdeal.Frame

@[expose] public section

set_option maxRecDepth 16384

noncomputable section

namespace Cert.DecoderIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer the program keeps ends at what the last stretch leaves there. -/
theorem ends : θ_run defs (onTc (τ := τ) (main (F := F))) ⟨m, fun _ => 0, ρ⟩ (fun r =>
    ∀ c : Dev nD, ∀ b ∈ Pipeline.ucRefs τ sig, r.2.mem (((c : Thread nD τ)).1, b) = W17 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun _ h _ => h)

end Cert.DecoderIdeal.Gen

end
-- ==== Proof.SpecDec.lean ====
/-
  The decoder as one function of what it starts from.
-/
module

public import proofs.«01_k».proof.Proof.Spec
public import Idealize.ShloMosaic.Lib.Pointwise

@[expose] public section

noncomputable section

namespace Cert.Net

open Idealize.ShloMosaic

/-- What the decoder starts from: a picture of vectors, and the weights and biases of its four layers. -/
structure Start where
  A : Pic 8 14 14 32
  w1 : Fin 32 → Fin 128 → Fin 4 → Fin 4 → EReal
  b1 : Fin 128 → EReal
  w2 : Fin 128 → Fin 64 → Fin 4 → Fin 4 → EReal
  b2 : Fin 64 → EReal
  w3 : Fin 64 → Fin 32 → Fin 4 → Fin 4 → EReal
  b3 : Fin 32 → EReal
  w4 : Fin 32 → Fin 1 → Fin 4 → Fin 4 → EReal
  b4 : Fin 1 → EReal

/-- The pictures after the first three layers. -/
def Start.pic1 (s : Start) : Pic 8 28 28 128 := relu (convT 28 28 s.A s.w1 s.b1)
def Start.pic2 (s : Start) : Pic 8 56 56 64 := relu (convT 56 56 s.pic1 s.w2 s.b2)
def Start.pic3 (s : Start) : Pic 8 112 112 32 := relu (convT 112 112 s.pic2 s.w3 s.b3)

/-- The decoded picture. -/
def Start.pic4 (s : Start) : Pic 8 224 224 1 := fun b i j n => Ideal.tanh (convT 224 224 s.pic3 s.w4 s.b4 b i j n)

/-- The decoded picture with its channel before its rows, and one slice. -/
def Start.decoded (s : Start) : (⟨5, ![8, 1, 1, 224, 224]⟩ : Shape).Idx → EReal := fun y => s.pic4 (y 0) (y 3) (y 4) (y 1)

end Cert.Net

end
-- ==== Proof.Scatter.lean ====
/-
  Setting one square of a six-axis array: what the array holds afterwards.
-/
module

public import proofs.«01_k».proof.Defs
public import proofs.«01_k».proof.Proof.Spec
public import Idealize.ShloMosaic.Lib.Routing.OpsPair
public import Idealize.ShloMosaic.Lib.Routing.OpsSet
public import Idealize.ShloMosaic.Lib.Pipeline.ValueKit

@[expose] public section

set_option maxRecDepth 16384
set_option maxHeartbeats 1000000

noncomputable section

namespace Cert.Net

open Idealize.ShloMosaic Idealize.ShloMosaic.Routing

/-- The array being filled: a row and a column of the nine taps, a channel, two parities and an output channel. -/
abbrev Six (C N : ℕ) : Shape := ⟨6, ![3, 3, C, 2, 2, N]⟩

/-- The start of an update's window: the index words, in the order of the axes they place. -/
theorem six_start {C N : ℕ} (d : ScatterDims (Six C N) ⟨1, ![4]⟩ ⟨2, ![C, N]⟩) (hd : d.scatterDimsToOperandDims = [0, 1, 3, 4])
    (hv : d.indexVectorDim = 0) (idx : IVec ⟨1, ![4]⟩ 32) (j : (⟨2, ![C, N]⟩ : Shape).Idx) (a : Fin 6) (k : Fin 4)
    (hk : ([0, 1, 3, 4] : List (Fin 6)).idxOf a = k.val) : d.start j idx a = (idx (ix1 k)).toInt := by
  have ha : a ∈ d.scatterDimsToOperandDims := by
    rw [hd]
    refine List.idxOf_lt_length_iff.1 ?_
    rw [hk]
    exact k.isLt
  unfold ScatterDims.start
  rw [dif_pos ha]
  congr 2
  funext b
  apply Fin.ext
  obtain rfl : b = (0 : Fin 1) := Subsingleton.elim _ _
  unfold ScatterDims.siIdx
  rw [dif_pos (by rw [hv]; rfl)]
  show List.idxOf a d.scatterDimsToOperandDims = k.val
  rw [hd, hk]

/-- The axes that no index word places start at zero. -/
theorem six_start_window {C N : ℕ} (d : ScatterDims (Six C N) ⟨1, ![4]⟩ ⟨2, ![C, N]⟩) (hd : d.scatterDimsToOperandDims = [0, 1, 3, 4])
    (idx : IVec ⟨1, ![4]⟩ 32) (j : (⟨2, ![C, N]⟩ : Shape).Idx) (a : Fin 6) (ha : a ∉ ([0, 1, 3, 4] : List (Fin 6))) :
    d.start j idx a = 0 := by
  unfold ScatterDims.start
  rw [dif_neg (by rw [hd]; exact ha)]

/-- An update's coordinates on the two axes it spans. -/
theorem six_window {C N : ℕ} (d : ScatterDims (Six C N) ⟨1, ![4]⟩ ⟨2, ![C, N]⟩) (hu : d.updateWindowDims = [0, 1])
    (hi : d.insertedWindowDims = [0, 1, 3, 4]) (c : Fin C) (n : Fin N) (a : Fin 6) :
    d.window (ix2 c n) a = if a = 2 then c.val else if a = 5 then n.val else 0 := by
  have hs : d.sKept = [2, 5] := by
    show (Six C N).kept d.insertedWindowDims = _
    rw [hi]
    rfl
  have e : ∀ (l : List (Fin 2)) (i : ℕ) (h : i < l.length) (k : Fin 2), l = [0, 1] → i = k.val → l[i]'h = k := by
    intro l i h k hl hn
    subst hl
    subst hn
    fin_cases k <;> rfl
  unfold ScatterDims.window
  by_cases ha : a ∈ ([2, 5] : List (Fin 6))
  · rw [dif_pos (by rw [hs]; exact ha)]
    rcases List.mem_cons.1 ha with rfl | ha
    · rw [e _ _ _ 0 hu (by rw [hs]; rfl)]
      rfl
    · obtain rfl := List.mem_singleton.1 ha
      rw [e _ _ _ 1 hu (by rw [hs]; rfl)]
      rfl
  · rw [dif_neg (by rw [hs]; exact ha), if_neg (fun h => ha (by rw [h]; decide)), if_neg (fun h => ha (by rw [h]; decide))]

/-- Where an update lands. -/
theorem six_lands {C N : ℕ} (d : ScatterDims (Six C N) ⟨1, ![4]⟩ ⟨2, ![C, N]⟩) (hu : d.updateWindowDims = [0, 1])
    (hi : d.insertedWindowDims = [0, 1, 3, 4]) (hd : d.scatterDimsToOperandDims = [0, 1, 3, 4]) (hv : d.indexVectorDim = 0)
    (idx : IVec ⟨1, ![4]⟩ 32) (c' : Fin C) (n' : Fin N) (p q : Fin 3) (c : Fin C) (u v : Fin 2) (n : Fin N) :
    d.resultIdx? (ix2 c' n') idx = some (ix6 p q c u v n) ↔
      ((idx (ix1 0)).toInt = p.val ∧ (idx (ix1 1)).toInt = q.val ∧ (idx (ix1 2)).toInt = u.val ∧ (idx (ix1 3)).toInt = v.val)
        ∧ c' = c ∧ n' = n := by
  have w := six_window d hu hi c' n'
  rw [resultIdx?_eq_some]
  have e0 := six_start d hd hv idx (ix2 c' n') 0 0 rfl
  have e1 := six_start d hd hv idx (ix2 c' n') 1 1 rfl
  have e3 := six_start d hd hv idx (ix2 c' n') 3 2 rfl
  have e4 := six_start d hd hv idx (ix2 c' n') 4 3 rfl
  have e2 := six_start_window d hd idx (ix2 c' n') 2 (by decide)
  have e5 := six_start_window d hd idx (ix2 c' n') 5 (by decide)
  have w0 : d.window (ix2 c' n') 0 = 0 := w 0
  have w1 : d.window (ix2 c' n') 1 = 0 := w 1
  have w2 : d.window (ix2 c' n') 2 = c'.val := w 2
  have w3 : d.window (ix2 c' n') 3 = 0 := w 3
  have w4 : d.window (ix2 c' n') 4 = 0 := w 4
  have w5 : d.window (ix2 c' n') 5 = n'.val := w 5
  have key : ∀ P : Fin 6 → Prop, (∀ a, P a) ↔ P 0 ∧ P 1 ∧ P 2 ∧ P 3 ∧ P 4 ∧ P 5 := fun P =>
    ⟨fun h => ⟨h 0, h 1, h 2, h 3, h 4, h 5⟩, fun ⟨h0, h1, h2, h3, h4, h5⟩ a => by fin_cases a <;> assumption⟩
  refine (key _).trans ?_
  rw [e0, e1, e2, e3, e4, e5, w0, w1, w2, w3, w4, w5]
  constructor
  · rintro ⟨h0, h1, h2, h3, h4, h5⟩
    refine ⟨⟨(add_zero _).symm.trans h0, (add_zero _).symm.trans h1, (add_zero _).symm.trans h3, (add_zero _).symm.trans h4⟩, ?_, ?_⟩
    · exact Fin.ext (Int.ofNat.inj ((zero_add _).symm.trans h2))
    · exact Fin.ext (Int.ofNat.inj ((zero_add _).symm.trans h5))
  · rintro ⟨⟨h0, h1, h3, h4⟩, rfl, rfl⟩
    exact ⟨(add_zero _).trans h0, (add_zero _).trans h1, zero_add _, (add_zero _).trans h3, (add_zero _).trans h4, zero_add _⟩

/-- What setting the square at the index words leaves. -/
theorem six_set {C N : ℕ} (d : ScatterDims (Six C N) ⟨1, ![4]⟩ ⟨2, ![C, N]⟩) (hu : d.updateWindowDims = [0, 1])
    (hi : d.insertedWindowDims = [0, 1, 3, 4]) (hd : d.scatterDimsToOperandDims = [0, 1, 3, 4]) (hv : d.indexVectorDim = 0)
    (x : (Six C N).Idx → EReal) (idx : IVec ⟨1, ![4]⟩ 32) (upd : (⟨2, ![C, N]⟩ : Shape).Idx → EReal)
    (P Q : Fin 3) (U W : Fin 2) (h0 : (idx (ix1 0)).toInt = P.val) (h1 : (idx (ix1 1)).toInt = Q.val)
    (h2 : (idx (ix1 2)).toInt = U.val) (h3 : (idx (ix1 3)).toInt = W.val)
    (p q : Fin 3) (c : Fin C) (u v : Fin 2) (n : Fin N) :
    Host.scatter d (fun _ b => b) x idx upd (ix6 p q c u v n)
      = if (P = p ∧ Q = q) ∧ U = u ∧ W = v then upd (ix2 c n) else x (ix6 p q c u v n) := by
  have hk : ∀ k : (⟨2, ![C, N]⟩ : Shape).Idx, d.resultIdx? k idx = some (ix6 p q c u v n) ↔
      (((P = p ∧ Q = q) ∧ U = u ∧ W = v) ∧ k = ix2 c n) := fun k => by
    obtain ⟨c', n', rfl⟩ : ∃ (c' : Fin C) (n' : Fin N), k = (ix2 c' n' : (⟨2, ![C, N]⟩ : Shape).Idx) := ⟨k 0, k 1, eq_ix2 _⟩
    rw [six_lands d hu hi hd hv, h0, h1, h2, h3]
    constructor
    · rintro ⟨⟨a, b, e, f⟩, rfl, rfl⟩
      exact ⟨⟨⟨Fin.ext (Int.ofNat.inj a), Fin.ext (Int.ofNat.inj b)⟩, Fin.ext (Int.ofNat.inj e), Fin.ext (Int.ofNat.inj f)⟩, rfl⟩
    · rintro ⟨⟨⟨rfl, rfl⟩, rfl, rfl⟩, e⟩
      exact ⟨⟨rfl, rfl, rfl, rfl⟩, congrFun e 0, congrFun e 1⟩
  by_cases h : (P = p ∧ Q = q) ∧ U = u ∧ W = v
  · rw [if_pos h]
    exact scatter_set_hit d x idx upd _ _ (fun k e => by rw [((hk k).1 e).2]) (ix2 c n) ((hk _).2 ⟨h, rfl⟩)
  · rw [if_neg h]
    exact scatter_set_miss d x idx upd _ fun k e => h ((hk k).1 e).1

/-! ## The weights of a transposed convolution, gathered by the parities of the output

Square `t` of sixteen: the parities of the output are `t / 8` and `t / 2 % 2`, and the taps are the parity, or one more. -/

/-- The row parity, the row tap, the column parity and the column tap of square `t`. -/
def parR (t : ℕ) : Fin 2 := ⟨t / 8 % 2, by omega⟩
def tapR (t : ℕ) : Fin 3 := ⟨t / 8 % 2 + t / 4 % 2, by omega⟩
def parC (t : ℕ) : Fin 2 := ⟨t / 2 % 2, by omega⟩
def tapC (t : ℕ) : Fin 3 := ⟨t / 2 % 2 + t % 2, by omega⟩

/-- The index words of square `t`. -/
def words (t : ℕ) : Fin 4 → BitVec 32 :=
  ![BitVec.ofNat 32 (tapR t).val, BitVec.ofNat 32 (tapC t).val, BitVec.ofNat 32 (parR t).val, BitVec.ofNat 32 (parC t).val]

/-- An index word of a square, at a word whose number is known. -/
theorem words_at {t : ℕ} {k : Fin 4} {x : BitVec 32} {v : ℕ} (hk : k.val = v) (h : v < 4) (e : x = words t ⟨v, h⟩) : x = words t k :=
  e.trans (congrArg _ (Fin.ext hk.symm))

/-- The array after its first squares are set. -/
def fill {C N : ℕ} (d : ScatterDims (Six C N) ⟨1, ![4]⟩ ⟨2, ![C, N]⟩) (w : Fin C → Fin N → Fin 4 → Fin 4 → EReal) :
    ℕ → (Six C N).Idx → EReal
  | 0 => fun _ => 0
  | t + 1 => Host.scatter d (fun _ b => b) (fill d w t) (fun i => words t (i 0)) fun z =>
      w (z 0) (z 1) (tapOf (parR t).val (tapR t).val) (tapOf (parC t).val (tapC t).val)

/-- Setting one square more. -/
theorem fill_step {C N : ℕ} (d : ScatterDims (Six C N) ⟨1, ![4]⟩ ⟨2, ![C, N]⟩) (w : Fin C → Fin N → Fin 4 → Fin 4 → EReal) (t : ℕ)
    (x : (Six C N).Idx → EReal) (idx : IVec ⟨1, ![4]⟩ 32) (upd : (⟨2, ![C, N]⟩ : Shape).Idx → EReal) (hx : x = fill d w t)
    (hi : ∀ k : Fin 4, idx (ix1 k) = words t k)
    (hu : ∀ c n, upd (ix2 c n) = w c n (tapOf (parR t).val (tapR t).val) (tapOf (parC t).val (tapC t).val)) :
    Host.scatter d (fun _ b => b) x idx upd = fill d w (t + 1) := by
  have h1 : idx = fun i => words t (i 0) := funext fun i => (congrArg idx (eq_ix1 i)).trans (hi (i 0))
  have h2 : upd = fun z => w (z 0) (z 1) (tapOf (parR t).val (tapR t).val) (tapOf (parC t).val (tapC t).val) :=
    funext fun z => (congrArg upd (eq_ix2 z)).trans (hu (z 0) (z 1))
  rw [hx, h1, h2]
  rfl

theorem words_toInt (t : ℕ) : (words t 0).toInt = (tapR t).val ∧ (words t 1).toInt = (tapC t).val ∧ (words t 2).toInt = (parR t).val
    ∧ (words t 3).toInt = (parC t).val := by
  have h3 : ∀ k : Fin 3, (BitVec.ofNat 32 k.val).toInt = k.val := by decide
  have h2 : ∀ k : Fin 2, (BitVec.ofNat 32 k.val).toInt = k.val := by decide
  exact ⟨h3 _, h3 _, h2 _, h2 _⟩

/-- What the array holds after its first squares are set. -/
theorem fill_at {C N : ℕ} (d : ScatterDims (Six C N) ⟨1, ![4]⟩ ⟨2, ![C, N]⟩) (hu : d.updateWindowDims = [0, 1])
    (hi : d.insertedWindowDims = [0, 1, 3, 4]) (hd : d.scatterDimsToOperandDims = [0, 1, 3, 4]) (hv : d.indexVectorDim = 0)
    (w : Fin C → Fin N → Fin 4 → Fin 4 → EReal) (p q : Fin 3) (c : Fin C) (u v : Fin 2) (n : Fin N) (t : ℕ) :
    fill d w t (ix6 p q c u v n)
      = if ∃ s : Fin t, (tapR s.val = p ∧ tapC s.val = q) ∧ parR s.val = u ∧ parC s.val = v then
          w c n (tapOf u.val p.val) (tapOf v.val q.val) else 0 := by
  induction t with
  | zero => rw [if_neg (fun ⟨s, _⟩ => s.elim0)]; rfl
  | succ t ih =>
    obtain ⟨e0, e1, e2, e3⟩ := words_toInt t
    refine (six_set d hu hi hd hv _ _ _ (tapR t) (tapC t) (parR t) (parC t) e0 e1 e2 e3 p q c u v n).trans ?_
    rw [ih]
    by_cases h : (tapR t = p ∧ tapC t = q) ∧ parR t = u ∧ parC t = v
    · rw [if_pos h, if_pos ⟨Fin.last t, h⟩]
      obtain ⟨⟨rfl, rfl⟩, rfl, rfl⟩ := h
      rfl
    · rw [if_neg h]
      refine if_congr ⟨fun ⟨s, hs⟩ => ⟨s.castSucc, hs⟩, fun ⟨s, hs⟩ => ?_⟩ rfl rfl
      rcases Nat.lt_succ_iff_lt_or_eq.1 s.isLt with hlt | heq
      · exact ⟨⟨s.val, hlt⟩, hs⟩
      · rw [heq] at hs
        exact absurd hs h

/-- The sixteen squares hold the weights by tap and parity. -/
theorem fill_nine {C N : ℕ} (d : ScatterDims (Six C N) ⟨1, ![4]⟩ ⟨2, ![C, N]⟩) (hu : d.updateWindowDims = [0, 1])
    (hi : d.insertedWindowDims = [0, 1, 3, 4]) (hd : d.scatterDimsToOperandDims = [0, 1, 3, 4]) (hv : d.indexVectorDim = 0)
    (w : Fin C → Fin N → Fin 4 → Fin 4 → EReal) (p q : Fin 3) (c : Fin C) (u v : Fin 2) (n : Fin N) :
    fill d w 16 (ix6 p q c u v n) = nine w p.val q.val c u.val v.val n := by
  rw [fill_at d hu hi hd hv]
  have key : ∀ (p q : Fin 3) (u v : Fin 2), (∃ s : Fin 16, (tapR s.val = p ∧ tapC s.val = q) ∧ parR s.val = u ∧ parC s.val = v) ↔
      (u.val ≤ p.val ∧ p.val ≤ u.val + 1) ∧ (v.val ≤ q.val ∧ q.val ≤ v.val + 1) := by
    decide
  rw [if_congr (key p q u v) rfl rfl]
  unfold nine
  by_cases h : u.val ≤ p.val ∧ p.val ≤ u.val + 1
  · by_cases h' : v.val ≤ q.val ∧ q.val ≤ v.val + 1
    · rw [if_pos ⟨h, h'⟩, if_pos h, if_pos h']
    · rw [if_neg (fun e => h' e.2), if_pos h, if_neg h']
  · rw [if_neg (fun e => h e.1), if_neg h]

end Cert.Net
-- ==== Proof.Stencil.lean ====
/-
  A layer of the decoder by the parities of the output: three by three neighbours of the bordered picture against the
  weights gathered by tap and parity, and the transposed convolution this is.
-/
module

public import proofs.«01_k».proof.Proof.Tile
public import proofs.«01_k».proof.Proof.Scatter

@[expose] public section

noncomputable section

namespace Cert.Net

open Idealize.ShloMosaic Finset

/-- Three by three neighbours of a bordered picture against a matrix of weights, and a bias. -/
def stencil {B H P C K M : ℕ} (hP : P = H + 2) (hK : 3 * 3 * C = K) (x : (⟨4, ![B, P, P, C]⟩ : Shape).Idx → EReal)
    (w : (⟨2, ![K, M]⟩ : Shape).Idx → EReal) (bias : (⟨2, ![1, M]⟩ : Shape).Idx → EReal) (b : Fin B) (i j : Fin H) (m : Fin M) : EReal :=
  (∑ a : Fin 3, ∑ a' : Fin 3, ∑ c : Fin C,
    x (ix4 b ⟨a.val + i.val, by omega⟩ ⟨a'.val + j.val, by omega⟩ c)
      * w (ix2 ⟨(3 * a.val + a'.val) * C + c.val, by
          have h1 : (3 * a.val + a'.val + 1) * C ≤ 3 * 3 * C := Nat.mul_le_mul_right _ (by omega)
          rw [Nat.add_mul _ 1] at h1
          omega⟩ m)) + bias (ix2 0 m)

/-- An output channel's place among the four parities' channels. -/
def lane {N M : ℕ} (hM : 4 * N = M) (π ρ : ℕ) (hπ : π < 2) (hρ : ρ < 2) (n : Fin N) : Fin M := ⟨(2 * π + ρ) * N + n.val, by
  have h1 : (2 * π + ρ + 1) * N ≤ 4 * N := Nat.mul_le_mul_right _ (by omega)
  rw [Nat.add_mul _ 1] at h1
  omega⟩

/-- The picture whose pixels by parity lie side by side in the lanes of a half-sized one. -/
def woven {B H N M : ℕ} (hM : 4 * N = M) (y : (⟨4, ![B, H, H, M]⟩ : Shape).Idx → EReal) (G : ℕ) (hG : G = 2 * H) : Pic B G G N :=
  fun b i j n => y (ix4 b ⟨i.val / 2, by omega⟩ ⟨j.val / 2, by omega⟩
    (lane hM (i.val % 2) (j.val % 2) (Nat.mod_lt _ two_pos) (Nat.mod_lt _ two_pos) n))

/-- A bordered picture, read where a test says whether the pixel is inside. -/
theorem border_dif {B H C : ℕ} (A : Pic B H H C) (b : Fin B) (p q : ℕ) (c : Fin C) :
    (if h : (1 ≤ p ∧ p - 1 < H) ∧ (1 ≤ q ∧ q - 1 < H) then A b ⟨p - 1, h.1.2⟩ ⟨q - 1, h.2.2⟩ c else 0) = border A b p q c := by
  unfold border
  by_cases h : (1 ≤ p ∧ p - 1 < H) ∧ (1 ≤ q ∧ q - 1 < H)
  · rw [dif_pos h, dif_pos (by omega)]
  · rw [dif_neg h, dif_neg (by omega)]

/-- The stencil is the transposed convolution, if its operands hold the bordered picture, the gathered weights and the biases. -/
theorem stencil_convT {B H P C K N M G : ℕ} (hP : P = H + 2) (hK : 3 * 3 * C = K) (hM : 4 * N = M) (hG : G = 2 * H)
    (x : (⟨4, ![B, P, P, C]⟩ : Shape).Idx → EReal) (w : (⟨2, ![K, M]⟩ : Shape).Idx → EReal) (bias : (⟨2, ![1, M]⟩ : Shape).Idx → EReal)
    (A : Pic B H H C) (wt : Fin C → Fin N → Fin 4 → Fin 4 → EReal) (bi : Fin N → EReal)
    (hx : ∀ (b : Fin B) (p q : Fin P) (c : Fin C), x (ix4 b p q c) = border A b p.val q.val c)
    (hw : ∀ (a a' : Fin 3) (c : Fin C) (h : (3 * a.val + a'.val) * C + c.val < K) (π ρ : Fin 2) (n : Fin N),
      w (ix2 ⟨(3 * a.val + a'.val) * C + c.val, h⟩ (lane hM π.val ρ.val π.isLt ρ.isLt n)) = nine wt a.val a'.val c π.val ρ.val n)
    (hb : ∀ (π ρ : Fin 2) (n : Fin N), bias (ix2 0 (lane hM π.val ρ.val π.isLt ρ.isLt n)) = bi n)
    (b : Fin B) (i j : Fin G) (n : Fin N) :
    stencil hP hK x w bias b ⟨i.val / 2, by omega⟩ ⟨j.val / 2, by omega⟩
        (lane hM (i.val % 2) (j.val % 2) (Nat.mod_lt _ two_pos) (Nat.mod_lt _ two_pos) n)
      = convT G G A wt bi b i j n := by
  rw [convT_eq_nine]
  unfold stencil
  refine congrArg₂ (· + ·) ?_ (hb ⟨i.val % 2, Nat.mod_lt _ two_pos⟩ ⟨j.val % 2, Nat.mod_lt _ two_pos⟩ n)
  refine sum_congr rfl fun a _ => sum_congr rfl fun a' _ => sum_congr rfl fun c _ => congrArg₂ (· * ·) ?_ ?_
  · rw [hx]
    dsimp only
    rw [Nat.add_comm a.val, Nat.add_comm a'.val]
  · exact hw a a' c _ ⟨i.val % 2, Nat.mod_lt _ two_pos⟩ ⟨j.val % 2, Nat.mod_lt _ two_pos⟩ n

end Cert.Net
-- ==== Proof.KerDec.lean ====
/-
  The decoder of the kernel, its four tiled layers: what a grid step stores, and the array its steps leave.
-/
module

public import proofs.«01_k».proof.Proof.Gen.DecoderIdeal.Frame
public import proofs.«01_k».proof.Proof.Stencil
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 1000000

noncomputable section

namespace Cert.DecoderIdeal.Value

open Idealize.ShloMosaic Idealize.ShloMosaic.TcCoe StableHlo Idealize.SL.Sem Cert.DecoderIdeal Gen Cert.Net
open Idealize.ShloMosaic.Pipeline (Dat)

/-! ## Layer 1 -/

theorem slices0 (a a' : Fin 3) : Shape.Slices S16x16x32 ![a.val, a'.val, 0] S14x14x32 := by
  revert a a'
  decide

/-- The slice of the bordered picture at one of the three by three neighbours. -/
def piece0 (x : Vec Ideal S16x16x32 .f32) (a a' : Fin 3) : (⟨3, ![14, 14, 32]⟩ : Shape).Idx → EReal :=
  extractStridedSlice S14x14x32 ![a.val, a'.val, 0] x (slices0 a a')

theorem tile0 (v0 : Vec Ideal S1x16x16x32 .f32) (v13 : Vec Ideal S288x512 .f32) (v16 : Vec Ideal S1x512 .f32)
    (i j : Fin 14) (n : Fin 512) :
    k0_pay1 v0 v13 v16 (ix4 0 i j n) = max (stencil (C := 32) rfl rfl v0 v13 v16 0 i j n) 0 := by
  unfold k0_pay1
  generalize hv : concatenate _ _ _ _ = v11
  have hv' : v11 = concatenate S14x14x288 (2 : Fin 3)
      (pieces 3 (piece0 (shapeCast S16x16x32 v0 shapeCasts_S1x16x16x32_S16x16x32)))
      concatenates_S14x14x32_S14x14x32_S14x14x32_S14x14x32_S14x14x32_S14x14x32_S14x14x32_S14x14x32_S14x14x32_S14x14x288_d2 := by
    rw [← hv]
    refine concatenate_list _ _ (Eq.trans ?_ (pieces_3 _).symm)
    rfl
  clear hv
  pointwise
  unfold stencil
  rw [sum_pieces (C := 32) 3 rfl]
  congr 2
  refine Finset.sum_congr rfl fun a _ => Finset.sum_congr rfl fun a' _ => Finset.sum_congr rfl fun c _ => ?_
  congr 1
  rw [hv']
  refine (cat_pieces (R := 3) _ _ i j a a' c _).trans ?_
  unfold piece0
  pointwise

theorem place0 : ∀ t : Fin cfg0.N, win0_0.index t = ![t.val, 0, 0, 0] ∧ win0_1.index t = ![0, 0]
    ∧ win0_2.index t = ![0, 0] ∧ win0_3.index t = ![t.val, 0, 0, 0] :=
  (by decide +kernel : ∀ t : Fin grid0.N, _)

theorem array0 (V : (c : Dev nD) → (b : Ref sig .tc) → Buf (Elt Ideal) ((c : Thread nD τ).loc b)) (c : Dev nD) :
    (dat0 V c).arrAt 3 cfg0.N = fun z => max (stencil (H := 14) (P := 16) (C := 32) (K := 288) (M := 512) rfl rfl (V c main_v0) (V c main_v130) (V c main_v134) (z 0) (z 1) (z 2) (z 3)) 0 := by
  refine (dat0 V c).arrAt_eq_of_covers 3 _ (by decide +kernel) fun t _ y => ?_
  blk_simp
  rw [after0_3]
  unfold out0_3
  rw [View.canon_unit_zero (by decide +kernel), View.ld_unit_zero (by decide +kernel), View.ld_unit_zero (by decide +kernel),
    View.ld_unit_zero (by decide +kernel)]
  obtain ⟨e0, e1, e2, e3⟩ := place0 t
  have ht : t.val < 8 := t.isLt
  have r0 : ∀ (p q : Fin 16) (r : Fin 32), iblk0 V c 0 t (ix4 0 p q r) = V c main_v0 (ix4 ⟨t.val, ht⟩ p q r) := fun p q r => by
    blk_ext [iblk0, e0]
  have r1 : ∀ (r : Fin 288) (n : Fin 512), iblk0 V c 1 t (ix2 r n) = V c main_v130 (ix2 r n) := fun r n => by
    blk_ext [iblk0, e1]
  have r2 : ∀ n : Fin 512, iblk0 V c 2 t (ix2 0 n) = V c main_v134 (ix2 0 n) := fun n => by
    blk_ext [iblk0, e2]
  obtain ⟨y0, y1, y2, y3, rfl⟩ : ∃ (y0 : Fin 1) (y1 : Fin 14) (y2 : Fin 14) (y3 : Fin 512), y = (ix4 y0 y1 y2 y3 : S1x14x14x512.Idx) :=
    ⟨y 0, y 1, y 2, y 3, eq_ix4 _⟩
  obtain rfl : y0 = 0 := Subsingleton.elim _ _
  have h0 : ((win0_3.blk t).view.emb (ix4 0 y1 y2 y3)) = (ix4 ⟨t.val, ht⟩ y1 y2 y3 : S8x14x14x512.Idx) := by
    blk_ext [e3]
  refine (tile0 _ _ _ _ _ _).trans ?_
  rw [h0]
  unfold stencil
  simp only [r0, r1, r2]
  rfl

/-! ## Layer 2 -/

theorem slices1 (a a' : Fin 3) : Shape.Slices S30x30x128 ![a.val, a'.val, 0] S28x28x128 := by
  revert a a'
  decide

/-- The slice of the bordered picture at one of the three by three neighbours. -/
def piece1 (x : Vec Ideal S30x30x128 .f32) (a a' : Fin 3) : (⟨3, ![28, 28, 128]⟩ : Shape).Idx → EReal :=
  extractStridedSlice S28x28x128 ![a.val, a'.val, 0] x (slices1 a a')

theorem tile1 (v0 : Vec Ideal S1x30x30x128 .f32) (v13 : Vec Ideal S1152x256 .f32) (v16 : Vec Ideal S1x256 .f32)
    (i j : Fin 28) (n : Fin 256) :
    k1_pay1 v0 v13 v16 (ix4 0 i j n) = max (stencil (C := 128) rfl rfl v0 v13 v16 0 i j n) 0 := by
  unfold k1_pay1
  generalize hv : concatenate _ _ _ _ = v11
  have hv' : v11 = concatenate S28x28x1152 (2 : Fin 3)
      (pieces 3 (piece1 (shapeCast S30x30x128 v0 shapeCasts_S1x30x30x128_S30x30x128)))
      concatenates_S28x28x128_S28x28x128_S28x28x128_S28x28x128_S28x28x128_S28x28x128_S28x28x128_S28x28x128_S28x28x128_S28x28x1152_d2 := by
    rw [← hv]
    refine concatenate_list _ _ (Eq.trans ?_ (pieces_3 _).symm)
    rfl
  clear hv
  pointwise
  unfold stencil
  rw [sum_pieces (C := 128) 3 rfl]
  congr 2
  refine Finset.sum_congr rfl fun a _ => Finset.sum_congr rfl fun a' _ => Finset.sum_congr rfl fun c _ => ?_
  congr 1
  rw [hv']
  refine (cat_pieces (R := 3) _ _ i j a a' c _).trans ?_
  unfold piece1
  pointwise

theorem place1 : ∀ t : Fin cfg1.N, win1_0.index t = ![t.val, 0, 0, 0] ∧ win1_1.index t = ![0, 0]
    ∧ win1_2.index t = ![0, 0] ∧ win1_3.index t = ![t.val, 0, 0, 0] :=
  (by decide +kernel : ∀ t : Fin grid1.N, _)

theorem array1 (V : (c : Dev nD) → (b : Ref sig .tc) → Buf (Elt Ideal) ((c : Thread nD τ).loc b)) (c : Dev nD) :
    (dat1 V c).arrAt 3 cfg1.N = fun z => max (stencil (H := 28) (P := 30) (C := 128) (K := 1152) (M := 256) rfl rfl (V c main_v139) (V c main_v269) (V c main_v273) (z 0) (z 1) (z 2) (z 3)) 0 := by
  refine (dat1 V c).arrAt_eq_of_covers 3 _ (by decide +kernel) fun t _ y => ?_
  blk_simp
  rw [after1_3]
  unfold out1_3
  rw [View.canon_unit_zero (by decide +kernel), View.ld_unit_zero (by decide +kernel), View.ld_unit_zero (by decide +kernel),
    View.ld_unit_zero (by decide +kernel)]
  obtain ⟨e0, e1, e2, e3⟩ := place1 t
  have ht : t.val < 8 := t.isLt
  have r0 : ∀ (p q : Fin 30) (r : Fin 128), iblk1 V c 0 t (ix4 0 p q r) = V c main_v139 (ix4 ⟨t.val, ht⟩ p q r) := fun p q r => by
    blk_ext [iblk1, e0]
  have r1 : ∀ (r : Fin 1152) (n : Fin 256), iblk1 V c 1 t (ix2 r n) = V c main_v269 (ix2 r n) := fun r n => by
    blk_ext [iblk1, e1]
  have r2 : ∀ n : Fin 256, iblk1 V c 2 t (ix2 0 n) = V c main_v273 (ix2 0 n) := fun n => by
    blk_ext [iblk1, e2]
  obtain ⟨y0, y1, y2, y3, rfl⟩ : ∃ (y0 : Fin 1) (y1 : Fin 28) (y2 : Fin 28) (y3 : Fin 256), y = (ix4 y0 y1 y2 y3 : S1x28x28x256.Idx) :=
    ⟨y 0, y 1, y 2, y 3, eq_ix4 _⟩
  obtain rfl : y0 = 0 := Subsingleton.elim _ _
  have h0 : ((win1_3.blk t).view.emb (ix4 0 y1 y2 y3)) = (ix4 ⟨t.val, ht⟩ y1 y2 y3 : S8x28x28x256.Idx) := by
    blk_ext [e3]
  refine (tile1 _ _ _ _ _ _).trans ?_
  rw [h0]
  unfold stencil
  simp only [r0, r1, r2]
  rfl

/-! ## Layer 3 -/

theorem slices2 (a a' : Fin 3) : Shape.Slices S58x58x64 ![a.val, a'.val, 0] S56x56x64 := by
  revert a a'
  decide

/-- The slice of the bordered picture at one of the three by three neighbours. -/
def piece2 (x : Vec Ideal S58x58x64 .f32) (a a' : Fin 3) : (⟨3, ![56, 56, 64]⟩ : Shape).Idx → EReal :=
  extractStridedSlice S56x56x64 ![a.val, a'.val, 0] x (slices2 a a')

theorem tile2 (v0 : Vec Ideal S1x58x58x64 .f32) (v13 : Vec Ideal S576x128 .f32) (v16 : Vec Ideal S1x128 .f32)
    (i j : Fin 56) (n : Fin 128) :
    k2_pay1 v0 v13 v16 (ix4 0 i j n) = max (stencil (C := 64) rfl rfl v0 v13 v16 0 i j n) 0 := by
  unfold k2_pay1
  generalize hv : concatenate _ _ _ _ = v11
  have hv' : v11 = concatenate S56x56x576 (2 : Fin 3)
      (pieces 3 (piece2 (shapeCast S58x58x64 v0 shapeCasts_S1x58x58x64_S58x58x64)))
      concatenates_S56x56x64_S56x56x64_S56x56x64_S56x56x64_S56x56x64_S56x56x64_S56x56x64_S56x56x64_S56x56x64_S56x56x576_d2 := by
    rw [← hv]
    refine concatenate_list _ _ (Eq.trans ?_ (pieces_3 _).symm)
    rfl
  clear hv
  pointwise
  unfold stencil
  rw [sum_pieces (C := 64) 3 rfl]
  congr 2
  refine Finset.sum_congr rfl fun a _ => Finset.sum_congr rfl fun a' _ => Finset.sum_congr rfl fun c _ => ?_
  congr 1
  rw [hv']
  refine (cat_pieces (R := 3) _ _ i j a a' c _).trans ?_
  unfold piece2
  pointwise

theorem place2 : ∀ t : Fin cfg2.N, win2_0.index t = ![t.val, 0, 0, 0] ∧ win2_1.index t = ![0, 0]
    ∧ win2_2.index t = ![0, 0] ∧ win2_3.index t = ![t.val, 0, 0, 0] :=
  (by decide +kernel : ∀ t : Fin grid2.N, _)

theorem array2 (V : (c : Dev nD) → (b : Ref sig .tc) → Buf (Elt Ideal) ((c : Thread nD τ).loc b)) (c : Dev nD) :
    (dat2 V c).arrAt 3 cfg2.N = fun z => max (stencil (H := 56) (P := 58) (C := 64) (K := 576) (M := 128) rfl rfl (V c main_v278) (V c main_v408) (V c main_v412) (z 0) (z 1) (z 2) (z 3)) 0 := by
  refine (dat2 V c).arrAt_eq_of_covers 3 _ (by decide +kernel) fun t _ y => ?_
  blk_simp
  rw [after2_3]
  unfold out2_3
  rw [View.canon_unit_zero (by decide +kernel), View.ld_unit_zero (by decide +kernel), View.ld_unit_zero (by decide +kernel),
    View.ld_unit_zero (by decide +kernel)]
  obtain ⟨e0, e1, e2, e3⟩ := place2 t
  have ht : t.val < 8 := t.isLt
  have r0 : ∀ (p q : Fin 58) (r : Fin 64), iblk2 V c 0 t (ix4 0 p q r) = V c main_v278 (ix4 ⟨t.val, ht⟩ p q r) := fun p q r => by
    blk_ext [iblk2, e0]
  have r1 : ∀ (r : Fin 576) (n : Fin 128), iblk2 V c 1 t (ix2 r n) = V c main_v408 (ix2 r n) := fun r n => by
    blk_ext [iblk2, e1]
  have r2 : ∀ n : Fin 128, iblk2 V c 2 t (ix2 0 n) = V c main_v412 (ix2 0 n) := fun n => by
    blk_ext [iblk2, e2]
  obtain ⟨y0, y1, y2, y3, rfl⟩ : ∃ (y0 : Fin 1) (y1 : Fin 56) (y2 : Fin 56) (y3 : Fin 128), y = (ix4 y0 y1 y2 y3 : S1x56x56x128.Idx) :=
    ⟨y 0, y 1, y 2, y 3, eq_ix4 _⟩
  obtain rfl : y0 = 0 := Subsingleton.elim _ _
  have h0 : ((win2_3.blk t).view.emb (ix4 0 y1 y2 y3)) = (ix4 ⟨t.val, ht⟩ y1 y2 y3 : S8x56x56x128.Idx) := by
    blk_ext [e3]
  refine (tile2 _ _ _ _ _ _).trans ?_
  rw [h0]
  unfold stencil
  simp only [r0, r1, r2]
  rfl

/-! ## Layer 4 -/

theorem slices3 (a a' : Fin 3) : Shape.Slices S114x114x32 ![a.val, a'.val, 0] S112x112x32 := by
  revert a a'
  decide

/-- The slice of the bordered picture at one of the three by three neighbours. -/
def piece3 (x : Vec Ideal S114x114x32 .f32) (a a' : Fin 3) : (⟨3, ![112, 112, 32]⟩ : Shape).Idx → EReal :=
  extractStridedSlice S112x112x32 ![a.val, a'.val, 0] x (slices3 a a')

theorem tile3 (v0 : Vec Ideal S1x114x114x32 .f32) (v13 : Vec Ideal S288x4 .f32) (v16 : Vec Ideal S1x4 .f32)
    (i j : Fin 112) (n : Fin 4) :
    k3_pay1 v0 v13 v16 (ix4 0 i j n) = Ideal.tanh (stencil (C := 32) rfl rfl v0 v13 v16 0 i j n) := by
  unfold k3_pay1
  generalize hv : concatenate _ _ _ _ = v11
  have hv' : v11 = concatenate S112x112x288 (2 : Fin 3)
      (pieces 3 (piece3 (shapeCast S114x114x32 v0 shapeCasts_S1x114x114x32_S114x114x32)))
      concatenates_S112x112x32_S112x112x32_S112x112x32_S112x112x32_S112x112x32_S112x112x32_S112x112x32_S112x112x32_S112x112x32_S112x112x288_d2 := by
    rw [← hv]
    refine concatenate_list _ _ (Eq.trans ?_ (pieces_3 _).symm)
    rfl
  clear hv
  pointwise
  unfold stencil
  rw [sum_pieces (C := 32) 3 rfl]
  congr 2
  refine Finset.sum_congr rfl fun a _ => Finset.sum_congr rfl fun a' _ => Finset.sum_congr rfl fun c _ => ?_
  congr 1
  rw [hv']
  refine (cat_pieces (R := 3) _ _ i j a a' c _).trans ?_
  unfold piece3
  pointwise

theorem place3 : ∀ t : Fin cfg3.N, win3_0.index t = ![t.val, 0, 0, 0] ∧ win3_1.index t = ![0, 0]
    ∧ win3_2.index t = ![0, 0] ∧ win3_3.index t = ![t.val, 0, 0, 0] :=
  (by decide +kernel : ∀ t : Fin grid3.N, _)

theorem array3 (V : (c : Dev nD) → (b : Ref sig .tc) → Buf (Elt Ideal) ((c : Thread nD τ).loc b)) (c : Dev nD) :
    (dat3 V c).arrAt 3 cfg3.N = fun z => Ideal.tanh (stencil (H := 112) (P := 114) (C := 32) (K := 288) (M := 4) rfl rfl (V c main_v417) (V c main_v547) (V c main_v551) (z 0) (z 1) (z 2) (z 3)) := by
  refine (dat3 V c).arrAt_eq_of_covers 3 _ (by decide +kernel) fun t _ y => ?_
  blk_simp
  rw [after3_3]
  unfold out3_3
  rw [View.canon_unit_zero (by decide +kernel), View.ld_unit_zero (by decide +kernel), View.ld_unit_zero (by decide +kernel),
    View.ld_unit_zero (by decide +kernel)]
  obtain ⟨e0, e1, e2, e3⟩ := place3 t
  have ht : t.val < 8 := t.isLt
  have r0 : ∀ (p q : Fin 114) (r : Fin 32), iblk3 V c 0 t (ix4 0 p q r) = V c main_v417 (ix4 ⟨t.val, ht⟩ p q r) := fun p q r => by
    blk_ext [iblk3, e0]
  have r1 : ∀ (r : Fin 288) (n : Fin 4), iblk3 V c 1 t (ix2 r n) = V c main_v547 (ix2 r n) := fun r n => by
    blk_ext [iblk3, e1]
  have r2 : ∀ n : Fin 4, iblk3 V c 2 t (ix2 0 n) = V c main_v551 (ix2 0 n) := fun n => by
    blk_ext [iblk3, e2]
  obtain ⟨y0, y1, y2, y3, rfl⟩ : ∃ (y0 : Fin 1) (y1 : Fin 112) (y2 : Fin 112) (y3 : Fin 4), y = (ix4 y0 y1 y2 y3 : S1x112x112x4.Idx) :=
    ⟨y 0, y 1, y 2, y 3, eq_ix4 _⟩
  obtain rfl : y0 = 0 := Subsingleton.elim _ _
  have h0 : ((win3_3.blk t).view.emb (ix4 0 y1 y2 y3)) = (ix4 ⟨t.val, ht⟩ y1 y2 y3 : S8x112x112x4.Idx) := by
    blk_ext [e3]
  refine (tile3 _ _ _ _ _ _).trans ?_
  rw [h0]
  unfold stencil
  simp only [r0, r1, r2]
  rfl

end Cert.DecoderIdeal.Value
-- ==== Proof.KerHost.lean ====
/-
  The decoder of the kernel, what its host prepares for each layer: the bordered picture, the weights gathered by tap and parity, and
  the biases.
-/
module

public import proofs.«01_k».proof.Proof.Gen.DecoderIdeal.Frame
public import proofs.«01_k».proof.Proof.Stencil
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 1000000

noncomputable section

namespace Cert.DecoderIdeal.Value

open Idealize.ShloMosaic Idealize.ShloMosaic.TcCoe StableHlo Idealize.SL.Sem Cert.DecoderIdeal Gen Cert.Net
open Idealize.ShloMosaic.Pipeline (Dat)

variable (V : Valuation τ sig (Elt Ideal))

/-! ## Layer 1 -/

theorem ring0 (b : Fin 8) (p q : Fin 16) (r : Fin 32) :
    after hostOps0_1 V (Proc.devRef .tc main_v0) (ix4 b p q r)
      = if h : (1 ≤ p.val ∧ p.val - 1 < 14) ∧ (1 ≤ q.val ∧ q.val - 1 < 14) then
          V (Proc.devRef .tc main_arg0) (ix4 b ⟨p.val - 1, h.1.2⟩ ⟨q.val - 1, h.2.2⟩ r)
        else sitofp (F := Ideal) .f32 (V (Proc.devRef .tc main_c)) (Shape.Idx.first h_S_) := by
  after_reads_at

theorem zero0 : sitofp (F := Ideal) .f32 (after hostOps0 V (Proc.devRef .tc main_c)) (Shape.Idx.first h_S_) = (0 : EReal) := by
  after_reads_simp
  exact sitofp_zero

theorem lay0 (b : Fin 8) (i j : Fin 14) (c : Fin 32) :
    after hostOps0 V (Proc.devRef .tc main_arg0) (ix4 b i j c) = (fun b i j c => V (Proc.devRef .tc main_arg0) (ix4 b i j c) : Pic 8 14 14 32) b i j c := by
  after_reads_simp

theorem host0 (b : Fin 8) (p q : Fin 16) (c : Fin 32) :
    after hostOps0_1 (after hostOps0 V) (Proc.devRef .tc main_v0) (ix4 b p q c) = border (fun b i j c => V (Proc.devRef .tc main_arg0) (ix4 b i j c) : Pic 8 14 14 32) b p.val q.val c := by
  rw [ring0, zero0]
  refine (border_dif (fun (b : Fin 8) (i j : Fin 14) (c : Fin 32) => after hostOps0 V (Proc.devRef .tc main_arg0) (ix4 b i j c)) b p.val q.val c).trans ?_
  exact congrArg (fun A : Pic 8 14 14 32 => border A b p.val q.val c)
    (funext fun b => funext fun i => funext fun j => funext fun c => lay0 V b i j c)

theorem weights0 (a a' : Fin 3) (c : Fin 32) (h : (3 * a.val + a'.val) * 32 + c.val < 288) (π ρ : Fin 2) (n : Fin 128) :
    after hostOps0_2 V (Proc.devRef .tc main_v130) (ix2 ⟨(3 * a.val + a'.val) * 32 + c.val, h⟩ (lane rfl π.val ρ.val π.isLt ρ.isLt n))
      = nine (fun c n kh kw => V (Proc.devRef .tc main_arg1) (ix4 c n kh kw)) a.val a'.val c π.val ρ.val n := by
  have hf : ∀ X : Vec Ideal S3x3x32x2x2x128 .f32, X = fill scatter_S3x3x32x2x2x128_S4_S32x128_01_0134_0134_0 (fun c n kh kw => V (Proc.devRef .tc main_arg1) (ix4 c n kh kw)) 16 →
      shapeCast S288x512 X shapeCasts_S3x3x32x2x2x128_S288x512
          (ix2 ⟨(3 * a.val + a'.val) * 32 + c.val, h⟩ (lane rfl π.val ρ.val π.isLt ρ.isLt n))
        = nine (fun c n kh kw => V (Proc.devRef .tc main_arg1) (ix4 c n kh kw)) a.val a'.val c π.val ρ.val n := by
    rintro X rfl
    rw [← fill_nine scatter_S3x3x32x2x2x128_S4_S32x128_01_0134_0134_0 rfl rfl rfl rfl]
    generalize fill _ _ _ = Y
    unfold lane
    pointwise
  after_reads_simp
  refine hf _ ?_
  iterate 16 refine fill_step _ _ _ _ _ _ ?_ ?_ ?_
  · funext z
    pointwise
    rfl
  all_goals first
    | (intro c n
       pointwise
       rfl)
    | (intro k
       dsimp only [Matrix.cons_val]
       pointwise
       fin_vals k with hk <;> after_reads_simp <;> simp [hk] <;> pointwise <;> exact words_at hk (by decide) rfl)

theorem bias0 (π ρ : Fin 2) (n : Fin 128) :
    after hostOps0_2 V (Proc.devRef .tc main_v134) (ix2 0 (lane rfl π.val ρ.val π.isLt ρ.isLt n)) = V (Proc.devRef .tc main_arg2) (ix1 n) := by
  unfold lane
  after_reads_simp
  pointwise

/-! ## Layer 2 -/

theorem ring1 (b : Fin 8) (p q : Fin 30) (r : Fin 128) :
    after hostOps1_1 V (Proc.devRef .tc main_v139) (ix4 b p q r)
      = if h : (1 ≤ p.val ∧ p.val - 1 < 28) ∧ (1 ≤ q.val ∧ q.val - 1 < 28) then
          V (Proc.devRef .tc main_v138) (ix4 b ⟨p.val - 1, h.1.2⟩ ⟨q.val - 1, h.2.2⟩ r)
        else sitofp (F := Ideal) .f32 (V (Proc.devRef .tc main_c_64)) (Shape.Idx.first h_S_) := by
  after_reads_at

theorem zero1 : sitofp (F := Ideal) .f32 (after hostOps1 V (Proc.devRef .tc main_c_64)) (Shape.Idx.first h_S_) = (0 : EReal) := by
  after_reads_simp
  exact sitofp_zero

theorem lay1 (b : Fin 8) (i j : Fin 28) (c : Fin 128) :
    after hostOps1 V (Proc.devRef .tc main_v138) (ix4 b i j c) = (woven (H := 14) (N := 128) (M := 512) rfl (V (Proc.devRef .tc main_v135)) 28 rfl : Pic 8 28 28 128) b i j c := by
  after_reads_simp
  pointwise
  unfold woven lane
  congr 2
  exact Fin.ext (by dsimp only; omega)

theorem host1 (b : Fin 8) (p q : Fin 30) (c : Fin 128) :
    after hostOps1_1 (after hostOps1 V) (Proc.devRef .tc main_v139) (ix4 b p q c) = border (woven (H := 14) (N := 128) (M := 512) rfl (V (Proc.devRef .tc main_v135)) 28 rfl : Pic 8 28 28 128) b p.val q.val c := by
  rw [ring1, zero1]
  refine (border_dif (fun (b : Fin 8) (i j : Fin 28) (c : Fin 128) => after hostOps1 V (Proc.devRef .tc main_v138) (ix4 b i j c)) b p.val q.val c).trans ?_
  exact congrArg (fun A : Pic 8 28 28 128 => border A b p.val q.val c)
    (funext fun b => funext fun i => funext fun j => funext fun c => lay1 V b i j c)

theorem weights1 (a a' : Fin 3) (c : Fin 128) (h : (3 * a.val + a'.val) * 128 + c.val < 1152) (π ρ : Fin 2) (n : Fin 64) :
    after hostOps1_2 V (Proc.devRef .tc main_v269) (ix2 ⟨(3 * a.val + a'.val) * 128 + c.val, h⟩ (lane rfl π.val ρ.val π.isLt ρ.isLt n))
      = nine (fun c n kh kw => V (Proc.devRef .tc main_arg3) (ix4 c n kh kw)) a.val a'.val c π.val ρ.val n := by
  have hf : ∀ X : Vec Ideal S3x3x128x2x2x64 .f32, X = fill scatter_S3x3x128x2x2x64_S4_S128x64_01_0134_0134_0 (fun c n kh kw => V (Proc.devRef .tc main_arg3) (ix4 c n kh kw)) 16 →
      shapeCast S1152x256 X shapeCasts_S3x3x128x2x2x64_S1152x256
          (ix2 ⟨(3 * a.val + a'.val) * 128 + c.val, h⟩ (lane rfl π.val ρ.val π.isLt ρ.isLt n))
        = nine (fun c n kh kw => V (Proc.devRef .tc main_arg3) (ix4 c n kh kw)) a.val a'.val c π.val ρ.val n := by
    rintro X rfl
    rw [← fill_nine scatter_S3x3x128x2x2x64_S4_S128x64_01_0134_0134_0 rfl rfl rfl rfl]
    generalize fill _ _ _ = Y
    unfold lane
    pointwise
  after_reads_simp
  refine hf _ ?_
  iterate 16 refine fill_step _ _ _ _ _ _ ?_ ?_ ?_
  · funext z
    pointwise
    rfl
  all_goals first
    | (intro c n
       pointwise
       rfl)
    | (intro k
       dsimp only [Matrix.cons_val]
       pointwise
       fin_vals k with hk <;> after_reads_simp <;> simp [hk] <;> pointwise <;> exact words_at hk (by decide) rfl)

theorem bias1 (π ρ : Fin 2) (n : Fin 64) :
    after hostOps1_2 V (Proc.devRef .tc main_v273) (ix2 0 (lane rfl π.val ρ.val π.isLt ρ.isLt n)) = V (Proc.devRef .tc main_arg4) (ix1 n) := by
  unfold lane
  after_reads_simp
  pointwise

/-! ## Layer 3 -/

theorem ring2 (b : Fin 8) (p q : Fin 58) (r : Fin 64) :
    after hostOps2_1 V (Proc.devRef .tc main_v278) (ix4 b p q r)
      = if h : (1 ≤ p.val ∧ p.val - 1 < 56) ∧ (1 ≤ q.val ∧ q.val - 1 < 56) then
          V (Proc.devRef .tc main_v277) (ix4 b ⟨p.val - 1, h.1.2⟩ ⟨q.val - 1, h.2.2⟩ r)
        else sitofp (F := Ideal) .f32 (V (Proc.devRef .tc main_c_130)) (Shape.Idx.first h_S_) := by
  after_reads_at

theorem zero2 : sitofp (F := Ideal) .f32 (after hostOps2 V (Proc.devRef .tc main_c_130)) (Shape.Idx.first h_S_) = (0 : EReal) := by
  after_reads_simp
  exact sitofp_zero

theorem lay2 (b : Fin 8) (i j : Fin 56) (c : Fin 64) :
    after hostOps2 V (Proc.devRef .tc main_v277) (ix4 b i j c) = (woven (H := 28) (N := 64) (M := 256) rfl (V (Proc.devRef .tc main_v274)) 56 rfl : Pic 8 56 56 64) b i j c := by
  after_reads_simp
  pointwise
  unfold woven lane
  congr 2
  exact Fin.ext (by dsimp only; omega)

theorem host2 (b : Fin 8) (p q : Fin 58) (c : Fin 64) :
    after hostOps2_1 (after hostOps2 V) (Proc.devRef .tc main_v278) (ix4 b p q c) = border (woven (H := 28) (N := 64) (M := 256) rfl (V (Proc.devRef .tc main_v274)) 56 rfl : Pic 8 56 56 64) b p.val q.val c := by
  rw [ring2, zero2]
  refine (border_dif (fun (b : Fin 8) (i j : Fin 56) (c : Fin 64) => after hostOps2 V (Proc.devRef .tc main_v277) (ix4 b i j c)) b p.val q.val c).trans ?_
  exact congrArg (fun A : Pic 8 56 56 64 => border A b p.val q.val c)
    (funext fun b => funext fun i => funext fun j => funext fun c => lay2 V b i j c)

theorem weights2 (a a' : Fin 3) (c : Fin 64) (h : (3 * a.val + a'.val) * 64 + c.val < 576) (π ρ : Fin 2) (n : Fin 32) :
    after hostOps2_2 V (Proc.devRef .tc main_v408) (ix2 ⟨(3 * a.val + a'.val) * 64 + c.val, h⟩ (lane rfl π.val ρ.val π.isLt ρ.isLt n))
      = nine (fun c n kh kw => V (Proc.devRef .tc main_arg5) (ix4 c n kh kw)) a.val a'.val c π.val ρ.val n := by
  have hf : ∀ X : Vec Ideal S3x3x64x2x2x32 .f32, X = fill scatter_S3x3x64x2x2x32_S4_S64x32_01_0134_0134_0 (fun c n kh kw => V (Proc.devRef .tc main_arg5) (ix4 c n kh kw)) 16 →
      shapeCast S576x128 X shapeCasts_S3x3x64x2x2x32_S576x128
          (ix2 ⟨(3 * a.val + a'.val) * 64 + c.val, h⟩ (lane rfl π.val ρ.val π.isLt ρ.isLt n))
        = nine (fun c n kh kw => V (Proc.devRef .tc main_arg5) (ix4 c n kh kw)) a.val a'.val c π.val ρ.val n := by
    rintro X rfl
    rw [← fill_nine scatter_S3x3x64x2x2x32_S4_S64x32_01_0134_0134_0 rfl rfl rfl rfl]
    generalize fill _ _ _ = Y
    unfold lane
    pointwise
  after_reads_simp
  refine hf _ ?_
  iterate 16 refine fill_step _ _ _ _ _ _ ?_ ?_ ?_
  · funext z
    pointwise
    rfl
  all_goals first
    | (intro c n
       pointwise
       rfl)
    | (intro k
       dsimp only [Matrix.cons_val]
       pointwise
       fin_vals k with hk <;> after_reads_simp <;> simp [hk] <;> pointwise <;> exact words_at hk (by decide) rfl)

theorem bias2 (π ρ : Fin 2) (n : Fin 32) :
    after hostOps2_2 V (Proc.devRef .tc main_v412) (ix2 0 (lane rfl π.val ρ.val π.isLt ρ.isLt n)) = V (Proc.devRef .tc main_arg6) (ix1 n) := by
  unfold lane
  after_reads_simp
  pointwise

/-! ## Layer 4 -/

theorem ring3 (b : Fin 8) (p q : Fin 114) (r : Fin 32) :
    after hostOps3_1 V (Proc.devRef .tc main_v417) (ix4 b p q r)
      = if h : (1 ≤ p.val ∧ p.val - 1 < 112) ∧ (1 ≤ q.val ∧ q.val - 1 < 112) then
          V (Proc.devRef .tc main_v416) (ix4 b ⟨p.val - 1, h.1.2⟩ ⟨q.val - 1, h.2.2⟩ r)
        else sitofp (F := Ideal) .f32 (V (Proc.devRef .tc main_c_196)) (Shape.Idx.first h_S_) := by
  after_reads_at

theorem zero3 : sitofp (F := Ideal) .f32 (after hostOps3 V (Proc.devRef .tc main_c_196)) (Shape.Idx.first h_S_) = (0 : EReal) := by
  after_reads_simp
  exact sitofp_zero

theorem lay3 (b : Fin 8) (i j : Fin 112) (c : Fin 32) :
    after hostOps3 V (Proc.devRef .tc main_v416) (ix4 b i j c) = (woven (H := 56) (N := 32) (M := 128) rfl (V (Proc.devRef .tc main_v413)) 112 rfl : Pic 8 112 112 32) b i j c := by
  after_reads_simp
  pointwise
  unfold woven lane
  congr 2
  exact Fin.ext (by dsimp only; omega)

theorem host3 (b : Fin 8) (p q : Fin 114) (c : Fin 32) :
    after hostOps3_1 (after hostOps3 V) (Proc.devRef .tc main_v417) (ix4 b p q c) = border (woven (H := 56) (N := 32) (M := 128) rfl (V (Proc.devRef .tc main_v413)) 112 rfl : Pic 8 112 112 32) b p.val q.val c := by
  rw [ring3, zero3]
  refine (border_dif (fun (b : Fin 8) (i j : Fin 112) (c : Fin 32) => after hostOps3 V (Proc.devRef .tc main_v416) (ix4 b i j c)) b p.val q.val c).trans ?_
  exact congrArg (fun A : Pic 8 112 112 32 => border A b p.val q.val c)
    (funext fun b => funext fun i => funext fun j => funext fun c => lay3 V b i j c)

theorem weights3 (a a' : Fin 3) (c : Fin 32) (h : (3 * a.val + a'.val) * 32 + c.val < 288) (π ρ : Fin 2) (n : Fin 1) :
    after hostOps3_2 V (Proc.devRef .tc main_v547) (ix2 ⟨(3 * a.val + a'.val) * 32 + c.val, h⟩ (lane rfl π.val ρ.val π.isLt ρ.isLt n))
      = nine (fun c n kh kw => V (Proc.devRef .tc main_arg7) (ix4 c n kh kw)) a.val a'.val c π.val ρ.val n := by
  have hf : ∀ X : Vec Ideal S3x3x32x2x2x1 .f32, X = fill scatter_S3x3x32x2x2x1_S4_S32x1_01_0134_0134_0 (fun c n kh kw => V (Proc.devRef .tc main_arg7) (ix4 c n kh kw)) 16 →
      shapeCast S288x4 X shapeCasts_S3x3x32x2x2x1_S288x4
          (ix2 ⟨(3 * a.val + a'.val) * 32 + c.val, h⟩ (lane rfl π.val ρ.val π.isLt ρ.isLt n))
        = nine (fun c n kh kw => V (Proc.devRef .tc main_arg7) (ix4 c n kh kw)) a.val a'.val c π.val ρ.val n := by
    rintro X rfl
    obtain rfl : n = 0 := Subsingleton.elim _ _
    rw [← fill_nine scatter_S3x3x32x2x2x1_S4_S32x1_01_0134_0134_0 rfl rfl rfl rfl]
    generalize fill _ _ _ = Y
    unfold lane
    pointwise
  after_reads_simp
  refine hf _ ?_
  iterate 16 refine fill_step _ _ _ _ _ _ ?_ ?_ ?_
  · funext z
    pointwise
    rfl
  all_goals first
    | (intro c n
       obtain rfl : n = 0 := Subsingleton.elim _ _
       pointwise
       rfl)
    | (intro k
       dsimp only [Matrix.cons_val]
       pointwise
       fin_vals k with hk <;> after_reads_simp <;> simp [hk] <;> pointwise <;> exact words_at hk (by decide) rfl)

theorem bias3 (π ρ : Fin 2) (n : Fin 1) :
    after hostOps3_2 V (Proc.devRef .tc main_v551) (ix2 0 (lane rfl π.val ρ.val π.isLt ρ.isLt n)) = V (Proc.devRef .tc main_arg8) (ix1 n) := by
  obtain rfl : n = 0 := Subsingleton.elim _ _
  unfold lane
  after_reads_simp
  pointwise

end Cert.DecoderIdeal.Value
-- ==== Proof.DecLayers.lean ====
/-
  The decoder of the kernel, layer by layer, and its result.
-/
module

public import proofs.«01_k».proof.Proof.SpecDec
public import proofs.«01_k».proof.Proof.KerDec
public import proofs.«01_k».proof.Proof.KerHost

@[expose] public section

set_option maxRecDepth 16384
set_option maxHeartbeats 1000000

noncomputable section

namespace Cert.DecoderIdeal.Value

open Idealize.ShloMosaic Idealize.ShloMosaic.TcCoe StableHlo Idealize.SL.Sem Cert.DecoderIdeal Gen Cert.Net

variable (m : (ℓ : Loc nD τ sig) → Buf (Elt Ideal) ℓ) (ρ : Dev nD → PrngReg) (c : Dev nD)

/-- What the kernel's decoder starts from. -/
def start : Start where
  A := fun b i j k => m ((c : Thread nD τ).loc main_arg0) (ix4 b i j k)
  w1 := fun k n kh kw => m ((c : Thread nD τ).loc main_arg1) (ix4 k n kh kw)
  b1 := fun n => m ((c : Thread nD τ).loc main_arg2) (ix1 n)
  w2 := fun k n kh kw => m ((c : Thread nD τ).loc main_arg3) (ix4 k n kh kw)
  b2 := fun n => m ((c : Thread nD τ).loc main_arg4) (ix1 n)
  w3 := fun k n kh kw => m ((c : Thread nD τ).loc main_arg5) (ix4 k n kh kw)
  b3 := fun n => m ((c : Thread nD τ).loc main_arg6) (ix1 n)
  w4 := fun k n kh kw => m ((c : Thread nD τ).loc main_arg7) (ix4 k n kh kw)
  b4 := fun n => m ((c : Thread nD τ).loc main_arg8) (ix1 n)

/-- The picture the kernel holds after layer 1. -/
theorem layer1 : (woven (H := 14) (N := 128) (M := 512) rfl (W4 m ρ c (Proc.devRef .tc main_v135)) 28 rfl : Pic 8 28 28 128) = (start m c).pic1 := by
  funext b i j n
  have hx : ∀ (b : Fin 8) (p q : Fin 16) (r : Fin 32), W3 m ρ c (Proc.devRef .tc main_v0) (ix4 b p q r)
      = border (start m c).A b p.val q.val r := fun b p q r =>
    (congrFun (W3_of m ρ c main_v0 (by decide)) _).trans (host0 (W0 m ρ c) b p q r)
  have hw : ∀ (a a' : Fin 3) (r : Fin 32) (h : (3 * a.val + a'.val) * 32 + r.val < 288) (π θ : Fin 2) (n : Fin 128),
      W3 m ρ c (Proc.devRef .tc main_v130) (ix2 ⟨(3 * a.val + a'.val) * 32 + r.val, h⟩ (lane rfl π.val θ.val π.isLt θ.isLt n))
        = nine (start m c).w1 a.val a'.val r π.val θ.val n := fun a a' r h π θ n =>
    (weights0 (W2 m ρ c) a a' r h π θ n).trans
      (congrArg (fun w => nine w a.val a'.val r π.val θ.val n) (funext fun r => funext fun n => funext fun kh => funext fun kw =>
        congrFun (W2_args m ρ c main_arg1 (by decide)) (ix4 r n kh kw)))
  have hb : ∀ (π θ : Fin 2) (n : Fin 128), W3 m ρ c (Proc.devRef .tc main_v134) (ix2 0 (lane rfl π.val θ.val π.isLt θ.isLt n))
      = (start m c).b1 n := fun π θ n =>
    (bias0 (W2 m ρ c) π θ n).trans (congrFun (W2_args m ρ c main_arg2 (by decide)) _)
  exact (congrFun ((W4_arr m ρ c 3).trans (array0 (V3 m ρ) c)) _).trans
    (congrArg (fun x : EReal => max x 0) (stencil_convT (H := 14) (P := 16) (C := 32) (K := 288) (N := 128) (M := 512) rfl rfl rfl rfl _ _ _ _ _ _ hx hw hb b i j n))

/-- The picture the kernel holds after layer 2. -/
theorem layer2 : (woven (H := 28) (N := 64) (M := 256) rfl (W8 m ρ c (Proc.devRef .tc main_v274)) 56 rfl : Pic 8 56 56 64) = (start m c).pic2 := by
  funext b i j n
  have hp : ∀ b p q r, border (woven (H := 14) (N := 128) (M := 512) rfl (W4 m ρ c (Proc.devRef .tc main_v135)) 28 rfl : Pic 8 28 28 128) b p q r
      = border (start m c).pic1 b p q r := fun b p q r =>
    congrArg (fun A : Pic 8 28 28 128 => border A b p q r) (layer1 m ρ c)
  have hx : ∀ (b : Fin 8) (p q : Fin 30) (r : Fin 128), W7 m ρ c (Proc.devRef .tc main_v139) (ix4 b p q r)
      = border (start m c).pic1 b p.val q.val r := fun b p q r =>
    ((congrFun (W7_of m ρ c main_v139 (by decide)) _).trans (host1 (W4 m ρ c) b p q r)).trans (hp b p.val q.val r)
  have hw : ∀ (a a' : Fin 3) (r : Fin 128) (h : (3 * a.val + a'.val) * 128 + r.val < 1152) (π θ : Fin 2) (n : Fin 64),
      W7 m ρ c (Proc.devRef .tc main_v269) (ix2 ⟨(3 * a.val + a'.val) * 128 + r.val, h⟩ (lane rfl π.val θ.val π.isLt θ.isLt n))
        = nine (start m c).w2 a.val a'.val r π.val θ.val n := fun a a' r h π θ n =>
    (weights1 (W6 m ρ c) a a' r h π θ n).trans
      (congrArg (fun w => nine w a.val a'.val r π.val θ.val n) (funext fun r => funext fun n => funext fun kh => funext fun kw =>
        congrFun (W6_args m ρ c main_arg3 (by decide)) (ix4 r n kh kw)))
  have hb : ∀ (π θ : Fin 2) (n : Fin 64), W7 m ρ c (Proc.devRef .tc main_v273) (ix2 0 (lane rfl π.val θ.val π.isLt θ.isLt n))
      = (start m c).b2 n := fun π θ n =>
    (bias1 (W6 m ρ c) π θ n).trans (congrFun (W6_args m ρ c main_arg4 (by decide)) _)
  exact (congrFun ((W8_arr m ρ c 3).trans (array1 (V7 m ρ) c)) _).trans
    (congrArg (fun x : EReal => max x 0) (stencil_convT (H := 28) (P := 30) (C := 128) (K := 1152) (N := 64) (M := 256) rfl rfl rfl rfl _ _ _ _ _ _ hx hw hb b i j n))

/-- The picture the kernel holds after layer 3. -/
theorem layer3 : (woven (H := 56) (N := 32) (M := 128) rfl (W12 m ρ c (Proc.devRef .tc main_v413)) 112 rfl : Pic 8 112 112 32) = (start m c).pic3 := by
  funext b i j n
  have hp : ∀ b p q r, border (woven (H := 28) (N := 64) (M := 256) rfl (W8 m ρ c (Proc.devRef .tc main_v274)) 56 rfl : Pic 8 56 56 64) b p q r
      = border (start m c).pic2 b p q r := fun b p q r =>
    congrArg (fun A : Pic 8 56 56 64 => border A b p q r) (layer2 m ρ c)
  have hx : ∀ (b : Fin 8) (p q : Fin 58) (r : Fin 64), W11 m ρ c (Proc.devRef .tc main_v278) (ix4 b p q r)
      = border (start m c).pic2 b p.val q.val r := fun b p q r =>
    ((congrFun (W11_of m ρ c main_v278 (by decide)) _).trans (host2 (W8 m ρ c) b p q r)).trans (hp b p.val q.val r)
  have hw : ∀ (a a' : Fin 3) (r : Fin 64) (h : (3 * a.val + a'.val) * 64 + r.val < 576) (π θ : Fin 2) (n : Fin 32),
      W11 m ρ c (Proc.devRef .tc main_v408) (ix2 ⟨(3 * a.val + a'.val) * 64 + r.val, h⟩ (lane rfl π.val θ.val π.isLt θ.isLt n))
        = nine (start m c).w3 a.val a'.val r π.val θ.val n := fun a a' r h π θ n =>
    (weights2 (W10 m ρ c) a a' r h π θ n).trans
      (congrArg (fun w => nine w a.val a'.val r π.val θ.val n) (funext fun r => funext fun n => funext fun kh => funext fun kw =>
        congrFun (W10_args m ρ c main_arg5 (by decide)) (ix4 r n kh kw)))
  have hb : ∀ (π θ : Fin 2) (n : Fin 32), W11 m ρ c (Proc.devRef .tc main_v412) (ix2 0 (lane rfl π.val θ.val π.isLt θ.isLt n))
      = (start m c).b3 n := fun π θ n =>
    (bias2 (W10 m ρ c) π θ n).trans (congrFun (W10_args m ρ c main_arg6 (by decide)) _)
  exact (congrFun ((W12_arr m ρ c 3).trans (array2 (V11 m ρ) c)) _).trans
    (congrArg (fun x : EReal => max x 0) (stencil_convT (H := 56) (P := 58) (C := 64) (K := 576) (N := 32) (M := 128) rfl rfl rfl rfl _ _ _ _ _ _ hx hw hb b i j n))

/-- The picture the kernel holds after layer 4. -/
theorem layer4 : (woven (H := 112) (N := 1) (M := 4) rfl (W16 m ρ c (Proc.devRef .tc main_v552)) 224 rfl : Pic 8 224 224 1) = (start m c).pic4 := by
  funext b i j n
  have hp : ∀ b p q r, border (woven (H := 56) (N := 32) (M := 128) rfl (W12 m ρ c (Proc.devRef .tc main_v413)) 112 rfl : Pic 8 112 112 32) b p q r
      = border (start m c).pic3 b p q r := fun b p q r =>
    congrArg (fun A : Pic 8 112 112 32 => border A b p q r) (layer3 m ρ c)
  have hx : ∀ (b : Fin 8) (p q : Fin 114) (r : Fin 32), W15 m ρ c (Proc.devRef .tc main_v417) (ix4 b p q r)
      = border (start m c).pic3 b p.val q.val r := fun b p q r =>
    ((congrFun (W15_of m ρ c main_v417 (by decide)) _).trans (host3 (W12 m ρ c) b p q r)).trans (hp b p.val q.val r)
  have hw : ∀ (a a' : Fin 3) (r : Fin 32) (h : (3 * a.val + a'.val) * 32 + r.val < 288) (π θ : Fin 2) (n : Fin 1),
      W15 m ρ c (Proc.devRef .tc main_v547) (ix2 ⟨(3 * a.val + a'.val) * 32 + r.val, h⟩ (lane rfl π.val θ.val π.isLt θ.isLt n))
        = nine (start m c).w4 a.val a'.val r π.val θ.val n := fun a a' r h π θ n =>
    (weights3 (W14 m ρ c) a a' r h π θ n).trans
      (congrArg (fun w => nine w a.val a'.val r π.val θ.val n) (funext fun r => funext fun n => funext fun kh => funext fun kw =>
        congrFun (W14_args m ρ c main_arg7 (by decide)) (ix4 r n kh kw)))
  have hb : ∀ (π θ : Fin 2) (n : Fin 1), W15 m ρ c (Proc.devRef .tc main_v551) (ix2 0 (lane rfl π.val θ.val π.isLt θ.isLt n))
      = (start m c).b4 n := fun π θ n =>
    (bias3 (W14 m ρ c) π θ n).trans (congrFun (W14_args m ρ c main_arg8 (by decide)) _)
  exact (congrFun ((W16_arr m ρ c 3).trans (array3 (V15 m ρ) c)) _).trans
    (congrArg (Ideal.tanh) (stencil_convT (H := 112) (P := 114) (C := 32) (K := 288) (N := 1) (M := 4) rfl rfl rfl rfl _ _ _ _ _ _ hx hw hb b i j n))

/-- What the last stretch makes of the last layer's result. -/
theorem last (V : Valuation τ sig (Elt Ideal)) (b : Fin 8) (n : Fin 1) (p q : Fin 224) :
    after hostOps4 V (Proc.devRef .tc main_v556) (ix5 b n 0 p q)
      = (woven (H := 112) (N := 1) (M := 4) rfl (V (Proc.devRef .tc main_v552)) 224 rfl : Pic 8 224 224 1) b p q n := by
  obtain rfl : n = 0 := Subsingleton.elim _ _
  after_reads_simp
  pointwise
  unfold woven lane
  congr 2
  exact Fin.ext (by dsimp only; omega)

theorem result : W17 m ρ c (Proc.devRef .tc main_v556) = (start m c).decoded := by
  funext y
  obtain ⟨b, n, p, q, rfl⟩ : ∃ (b : Fin 8) (n : Fin 1) (p q : Fin 224), y = (ix5 b n 0 p q : S8x1x1x224x224.Idx) :=
    ⟨y 0, y 1, y 3, y 4, (eq_ix5 y).trans (by congr 1; exact Subsingleton.elim (α := Fin 1) _ _)⟩
  exact (last (W16 m ρ c) b n p q).trans (congrFun (congrFun (congrFun (congrFun (layer4 m ρ c) b) p) q) n)

end Cert.DecoderIdeal.Value

end
-- ==== Proof.DecSame.lean ====
/-
  The second half: from agreeing arguments the kernel and the reference end with the same picture.
-/
module

public import proofs.«01_k».proof.Proof.DecRun
public import proofs.«01_k».proof.Proof.DecLayers
public import proofs.«01_k».proof.Proof.RefDecRun

@[expose] public section

set_option maxRecDepth 16384
set_option maxHeartbeats 1000000

noncomputable section

namespace Cert.DecoderReferenceIdeal.Line

open Idealize.ShloMosaic StableHlo Idealize.SL.Sem Cert.Net

variable (V : Valuation τ sig (Elt Ideal))

/-- What the reference's decoder starts from. -/
def start : Start where
  A := fun b i j k => V (Proc.devRef .tc main_arg0) (ix4 b i j k)
  w1 := fun k n kh kw => V (Proc.devRef .tc main_arg1) (ix4 k n kh kw)
  b1 := fun n => V (Proc.devRef .tc main_arg2) (ix1 n)
  w2 := fun k n kh kw => V (Proc.devRef .tc main_arg3) (ix4 k n kh kw)
  b2 := fun n => V (Proc.devRef .tc main_arg4) (ix1 n)
  w3 := fun k n kh kw => V (Proc.devRef .tc main_arg5) (ix4 k n kh kw)
  b3 := fun n => V (Proc.devRef .tc main_arg6) (ix1 n)
  w4 := fun k n kh kw => V (Proc.devRef .tc main_arg7) (ix4 k n kh kw)
  b4 := fun n => V (Proc.devRef .tc main_arg8) (ix1 n)

theorem result : after ops V (Proc.devRef .tc main_v112) = (start V).decoded := by
  funext y
  obtain ⟨b, n, p, q, rfl⟩ : ∃ (b : Fin 8) (n : Fin 1) (p q : Fin 224), y = (ix5 b n 0 p q : S8x1x1x224x224.Idx) :=
    ⟨y 0, y 1, y 3, y 4, (eq_ix5 y).trans (by congr 1; exact Subsingleton.elim (α := Fin 1) _ _)⟩
  exact (congrFun (congrFun (ops_whole V) _) _).trans (layer4_eq V b n p q)

end Cert.DecoderReferenceIdeal.Line

namespace Cert.DecoderEnd

open Idealize.ShloMosaic StableHlo Idealize.SL.Sem Cert.Net

/-- Equal fields, equal starts. -/
theorem start_ext {s t : Start} (hA : s.A = t.A) (hw1 : s.w1 = t.w1) (hb1 : s.b1 = t.b1) (hw2 : s.w2 = t.w2) (hb2 : s.b2 = t.b2)
    (hw3 : s.w3 = t.w3) (hb3 : s.b3 = t.b3) (hw4 : s.w4 = t.w4) (hb4 : s.b4 = t.b4) : s = t := by
  cases s
  cases t
  congr

set_option maxHeartbeats 40000000 in
/-- From agreeing arguments the kernel and the reference end with equal pictures. -/
theorem same : Cert.algebraic_DecoderIdeal_DecoderReferenceIdeal := by
  intro m g m' g' _ hagree
  have ha : ∀ c, Cert.DecoderReferenceIdeal.Line.start (launchContents m' c) = Cert.DecoderIdeal.Value.start m c := fun c => start_ext
    (funext fun b => funext fun i => funext fun j => funext fun k => congrFun (hagree c).1 (ix4 b i j k))
    (funext fun k => funext fun n => funext fun kh => funext fun kw => congrFun (hagree c).2.1 (ix4 k n kh kw))
    (funext fun n => congrFun (hagree c).2.2.1 (ix1 n))
    (funext fun k => funext fun n => funext fun kh => funext fun kw => congrFun (hagree c).2.2.2.1 (ix4 k n kh kw))
    (funext fun n => congrFun (hagree c).2.2.2.2.1 (ix1 n))
    (funext fun k => funext fun n => funext fun kh => funext fun kw => congrFun (hagree c).2.2.2.2.2.1 (ix4 k n kh kw))
    (funext fun n => congrFun (hagree c).2.2.2.2.2.2.1 (ix1 n))
    (funext fun k => funext fun n => funext fun kh => funext fun kw => congrFun (hagree c).2.2.2.2.2.2.2.1 (ix4 k n kh kw))
    (funext fun n => congrFun (hagree c).2.2.2.2.2.2.2.2 (ix1 n))
  refine ⟨fun c => (Cert.DecoderIdeal.Value.start m c).decoded, ?_, ?_⟩
  · refine (θ_run _ _ _).mono (fun _ h c => ?_) (Cert.DecoderIdeal.Gen.ends m g)
    exact ⟨(h c _ (Cert.DecoderIdeal.Gen.mem_uc Cert.DecoderIdeal.main_v556 (by decide))).trans (Cert.DecoderIdeal.Value.result m g c),
      (h c _ (Cert.DecoderIdeal.Gen.mem_uc Cert.DecoderIdeal.main_arg0 (by decide))).trans (Cert.DecoderIdeal.Gen.W17_main_arg0 m g c),
      (h c _ (Cert.DecoderIdeal.Gen.mem_uc Cert.DecoderIdeal.main_arg1 (by decide))).trans (Cert.DecoderIdeal.Gen.W17_main_arg1 m g c),
      (h c _ (Cert.DecoderIdeal.Gen.mem_uc Cert.DecoderIdeal.main_arg2 (by decide))).trans (Cert.DecoderIdeal.Gen.W17_main_arg2 m g c),
      (h c _ (Cert.DecoderIdeal.Gen.mem_uc Cert.DecoderIdeal.main_arg3 (by decide))).trans (Cert.DecoderIdeal.Gen.W17_main_arg3 m g c),
      (h c _ (Cert.DecoderIdeal.Gen.mem_uc Cert.DecoderIdeal.main_arg4 (by decide))).trans (Cert.DecoderIdeal.Gen.W17_main_arg4 m g c),
      (h c _ (Cert.DecoderIdeal.Gen.mem_uc Cert.DecoderIdeal.main_arg5 (by decide))).trans (Cert.DecoderIdeal.Gen.W17_main_arg5 m g c),
      (h c _ (Cert.DecoderIdeal.Gen.mem_uc Cert.DecoderIdeal.main_arg6 (by decide))).trans (Cert.DecoderIdeal.Gen.W17_main_arg6 m g c),
      (h c _ (Cert.DecoderIdeal.Gen.mem_uc Cert.DecoderIdeal.main_arg7 (by decide))).trans (Cert.DecoderIdeal.Gen.W17_main_arg7 m g c),
      (h c _ (Cert.DecoderIdeal.Gen.mem_uc Cert.DecoderIdeal.main_arg8 (by decide))).trans (Cert.DecoderIdeal.Gen.W17_main_arg8 m g c)⟩
  · refine (θ_run _ _ _).mono (fun _ h c => ?_) (Cert.DecoderReferenceIdeal.Line.ends m' g')
    exact ⟨((h c _).trans (Cert.DecoderReferenceIdeal.Line.result _)).trans (congrArg Start.decoded (ha c)),
      (h c _).trans (Cert.DecoderReferenceIdeal.Line.args_kept _).1,
      (h c _).trans (Cert.DecoderReferenceIdeal.Line.args_kept _).2.1,
      (h c _).trans (Cert.DecoderReferenceIdeal.Line.args_kept _).2.2.1,
      (h c _).trans (Cert.DecoderReferenceIdeal.Line.args_kept _).2.2.2.1,
      (h c _).trans (Cert.DecoderReferenceIdeal.Line.args_kept _).2.2.2.2.1,
      (h c _).trans (Cert.DecoderReferenceIdeal.Line.args_kept _).2.2.2.2.2.1,
      (h c _).trans (Cert.DecoderReferenceIdeal.Line.args_kept _).2.2.2.2.2.2.1,
      (h c _).trans (Cert.DecoderReferenceIdeal.Line.args_kept _).2.2.2.2.2.2.2.1,
      (h c _).trans (Cert.DecoderReferenceIdeal.Line.args_kept _).2.2.2.2.2.2.2.2⟩

end Cert.DecoderEnd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_encoder_finite
public import proofs.«01_k».proof.Proof.Gen.Decoder
public import proofs.«01_k».proof.Proof.Gen.Decoder.Skeleton
public import proofs.«01_k».proof.Proof.Gen.Decoder.Launch
public import proofs.«01_k».proof.Proof.Gen.Decoder.Points
public import proofs.«01_k».proof.Proof.Gen.Decoder.Frame
public import proofs.«01_k».proof.Proof.Gen.DecoderIdeal
public import proofs.«01_k».proof.Proof.Gen.DecoderIdeal.Skeleton
public import proofs.«01_k».proof.Proof.Gen.DecoderIdeal.Launch
public import proofs.«01_k».proof.Proof.Gen.DecoderIdeal.Points
public import proofs.«01_k».proof.Proof.Gen.DecoderIdeal.Frame
public import proofs.«01_k».proof.Proof.Gen.DecoderReferenceIdeal
public import proofs.«01_k».proof.Proof.Encoder
public import proofs.«01_k».proof.Proof.RefDecRun
public import proofs.«01_k».proof.Proof.DecSame
public import Idealize.ShloMosaic.Adequacy
public import Idealize.ShloMosaic.Init

@[expose] public section

noncomputable section

namespace Cert.Proof

open Idealize.ShloMosaic Idealize.SL.Sem

/-- Both halves' programs end with their arguments kept and their counters at zero, the idealized first half differs from
    the printed one in its named constant only, and each idealized half's results are its reference's. -/
theorem claim : Cert.Claim := ⟨Cert.Kernel.Gen.facts, Cert.KernelIdeal.Gen.facts, Cert.ReferenceIdeal.Gen.facts, Cert.Decoder.Gen.facts,
  Cert.DecoderIdeal.Gen.facts, Cert.DecoderReferenceIdeal.Gen.facts, Cert.Pre_encoder_finite.Gen.facts,
  fun m ρ _ => Cert.Kernel.Gen.frame m ρ, fun m ρ _ => Cert.KernelIdeal.Gen.frame m ρ, fun m ρ _ => Cert.KernelIdeal.Gen.frame m ρ,
  fun m ρ _ => Cert.Encoder.reference_frame m ρ, fun m ρ _ => Cert.Encoder.reference_frame m ρ,
  fun m ρ _ => Cert.Decoder.Gen.frame m ρ, fun m ρ _ => Cert.DecoderIdeal.Gen.frame m ρ, fun m ρ _ => Cert.DecoderEnd.reference_frame m ρ,
  IdealRules.named_const.statement Cert.KernelIdeal.κ "loss_scale" .f32 0x37D0FAC7#32 ((5 / 200704 : ℝ) : EReal) rfl,
  Cert.Encoder.same, trivial, Cert.DecoderEnd.same⟩

end Cert.Proof

end
